-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v42)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v60_0)) (v1 : (c : Dev Cert.Kernel4Ideal.nD) → Buf (Elt Ideal) ((c.tc : Thread Cert.Kernel4Ideal.nD Cert.Kernel4Ideal.τ).loc Cert.Kernel4Ideal.main_v60_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v60_0) = v0 c
          ∧ r.2.mem ((c.tc : Thread Cert.Kernel4Ideal.nD Cert.Kernel4Ideal.τ).loc Cert.Kernel4Ideal.main_v60_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v83) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite3.lean ====
abbrev S4x4096x1536 : Shape := ⟨3, ![4, 4096, 1536]⟩
abbrev S4x4096x5120 : Shape := ⟨3, ![4, 4096, 5120]⟩
abbrev S4x256x1024 : Shape := ⟨3, ![4, 256, 1024]⟩
abbrev S2x2048x2048 : Shape := ⟨3, ![2, 2048, 2048]⟩
abbrev S4x4096x2048 : Shape := ⟨3, ![4, 4096, 2048]⟩
abbrev S4x4096x512 : Shape := ⟨3, ![4, 4096, 512]⟩
abbrev S_ : Shape := ⟨0, ![]⟩
abbrev S4x256x512 : Shape := ⟨3, ![4, 256, 512]⟩

class Facts : Prop where
  slices_S4x4096x5120_S4x4096x512_0_0_4608 : S4x4096x5120.Slices ![0, 0, 4608] S4x4096x512
  bitsLt_bf16_f32 : FTy.bits .bf16 < FTy.bits .f32
  bcast_S_S4x4096x512 : S_.BroadcastsInDim S4x4096x512 (![] : Fin 0 → Fin S4x4096x512.rank)
  slices_S4x256x1024_S4x256x512_0_0_0 : S4x256x1024.Slices ![0, 0, 0] S4x256x512
  bcast_S_S4x256x512 : S_.BroadcastsInDim S4x256x512 (![] : Fin 0 → Fin S4x256x512.rank)

variable [Facts]

def fn {F : FTy → Type} [FloatOps F] (main_arg0 : FVec F S4x4096x1536 .bf16) (main_arg1 : FVec F S4x4096x5120 .bf16) (main_arg2 : FVec F S4x256x1024 .bf16) (main_arg3 : FVec F S2x2048x2048 .f32) (main_arg4 : FVec F S4x4096x2048 .f32) : IVec S4x4096x512 1 × IVec S4x256x512 1 :=
  let main_v0 : FVec F S4x4096x512 .bf16 := (extractStridedSlice S4x4096x512 ![0, 0, 4608] · slices_S4x4096x5120_S4x4096x512_0_0_4608) main_arg1
  let main_v1 : FVec F S4x4096x512 .f32 := (extf .f32 · bitsLt_bf16_f32) main_v0
  let main_v2 : FVec F S4x4096x512 .f32 := Host.absf main_v1
  let main_cst : FVec F S_ .f32 := constant S_ .f32 0x7F800000#32
  let main_v3 : FVec F S4x4096x512 .f32 := broadcastInDim S4x4096x512 ![] bcast_S_S4x4096x512 main_cst
  let main_v4 : IVec S4x4096x512 1 := cmpf .olt main_v2 main_v3
  let main_v5 : FVec F S4x256x512 .bf16 := (extractStridedSlice S4x256x512 ![0, 0, 0] · slices_S4x256x1024_S4x256x512_0_0_0) main_arg2
  let main_v6 : FVec F S4x256x512 .f32 := (extf .f32 · bitsLt_bf16_f32) main_v5
  let main_v7 : FVec F S4x256x512 .f32 := Host.absf main_v6
  let main_cst_0 : FVec F S_ .f32 := constant S_ .f32 0x7F800000#32
  let main_v8 : FVec F S4x256x512 .f32 := broadcastInDim S4x256x512 ![] bcast_S_S4x256x512 main_cst_0
  let main_v9 : IVec S4x256x512 1 := cmpf .olt main_v7 main_v8
  (main_v4, main_v9)
-- ==== Kernel.lean ====
abbrev S4x4096x2048 : Shape := ⟨3, ![4, 4096, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S_ : Shape := ⟨0, ![]⟩
abbrev S16384x2048 : Shape := ⟨2, ![16384, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 16
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2x2048x5632, .bf16⟩
  | .hbm, ⟨6, _⟩ => ⟨S2x2048x5632, .bf16⟩
  | .hbm, ⟨7, _⟩ => ⟨S_, .f32⟩
  | .hbm, ⟨8, _⟩ => ⟨S2x5632x2048, .f32⟩
  | .hbm, ⟨9, _⟩ => ⟨S2x5632x2048, .f32⟩
  | .hbm, ⟨10, _⟩ => ⟨S2x5632x2048, .bf16⟩
  | .hbm, ⟨11, _⟩ => ⟨S16384x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x4096x2048 : Shape := ⟨3, ![4, 4096, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S1x2048x5632 : Shape := ⟨3, ![1, 2048, 5632]⟩
abbrev S2048x5632 : Shape := ⟨2, ![2048, 5632]⟩
abbrev S16384x5632 : Shape := ⟨2, ![16384, 5632]⟩
abbrev S1x5632x2048 : Shape := ⟨3, ![1, 5632, 2048]⟩
abbrev S5632x2048 : Shape := ⟨2, ![5632, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S1x2048x5632, .f32⟩
  | .hbm, ⟨25, _⟩ => ⟨S2048x5632, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S1x2048x5632, .f32⟩
  | .hbm, ⟨37, _⟩ => ⟨S2048x5632, .f32⟩
  | .hbm, ⟨38, _⟩ => ⟨S16384x5632, .f32⟩
  | .hbm, ⟨39, _⟩ => ⟨S16384x5632, .f32⟩
  | .hbm, ⟨40, _⟩ => ⟨S1x5632x2048, .f32⟩
  | .hbm, ⟨41, _⟩ => ⟨S5632x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel2.lean ====
abbrev S4x4096x2048 : Shape := ⟨3, ![4, 4096, 2048]⟩
abbrev S2x2048 : Shape := ⟨2, ![2, 2048]⟩
abbrev S1x2048x5120 : Shape := ⟨3, ![1, 2048, 5120]⟩
abbrev S1x64 : Shape := ⟨2, ![1, 64]⟩
abbrev S2x128 : Shape := ⟨2, ![2, 128]⟩
abbrev S10 : Shape := ⟨1, ![10]⟩
abbrev S16384x2048 : Shape := ⟨2, ![16384, 2048]⟩
abbrev S1x128 : Shape := ⟨2, ![1, 128]⟩
abbrev S128 : Shape := ⟨1, ![128]⟩
abbrev S4x128 : Shape := ⟨2, ![4, 128]⟩
abbrev S512 : Shape := ⟨1, ![512]⟩
abbrev S_ : Shape := ⟨0, ![]⟩
abbrev S64 : Shape := ⟨1, ![64]⟩
abbrev S24x64 : Shape := ⟨2, ![24, 64]⟩
abbrev S1536 : Shape := ⟨1, ![1536]⟩
abbrev S5120 : Shape := ⟨1, ![5120]⟩
abbrev S1x2048 : Shape := ⟨2, ![1, 2048]⟩
abbrev S2048 : Shape := ⟨1, ![2048]⟩
abbrev S128x1 : Shape := ⟨2, ![128, 1]⟩
abbrev S128x128 : Shape := ⟨2, ![128, 128]⟩
abbrev S1x128x128 : Shape := ⟨3, ![1, 128, 128]⟩
abbrev S3x128x128 : Shape := ⟨3, ![3, 128, 128]⟩
abbrev S1x5120 : Shape := ⟨2, ![1, 5120]⟩
abbrev S16384x5120 : Shape := ⟨2, ![16384, 5120]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩
abbrev S1 : Shape := ⟨1, ![1]⟩
abbrev S1024x512 : Shape := ⟨2, ![1024, 512]⟩
abbrev S1x512 : Shape := ⟨2, ![1, 512]⟩
abbrev S1024x128 : Shape := ⟨2, ![1024, 128]⟩

abbrev nBuf : Space → Nat
  | .hbm => 92
  | .vmem => 11
  | .smem => 1
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x5120, .f32⟩
  | .hbm, ⟨3, _⟩ => ⟨S1x64, .f32⟩
  | .hbm, ⟨4, _⟩ => ⟨S1x64, .f32⟩
  | .hbm, ⟨5, _⟩ => ⟨S2x128, .f32⟩
  | .hbm, ⟨6, _⟩ => ⟨S16384x2048, .f32⟩
  | .hbm, ⟨7, _⟩ => ⟨S1x2048x5120, .bf16⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S4x128, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S64, .f32⟩
  | .hbm, ⟨17, _⟩ => ⟨S1x64, .f32⟩
  | .hbm, ⟨18, _⟩ => ⟨S24x64, .f32⟩
  | .hbm, ⟨19, _⟩ => ⟨S1536, .f32⟩
  | .hbm, ⟨20, _⟩ => ⟨S_, .f32⟩
  | .hbm, ⟨21, _⟩ => ⟨S1536, .f32⟩
  | .hbm, ⟨22, _⟩ => ⟨S1536, .f32⟩
  | .hbm, ⟨23, _⟩ => ⟨S64, .f32⟩
  | .hbm, ⟨24, _⟩ => ⟨S1x64, .f32⟩
  | .hbm, ⟨25, _⟩ => ⟨S24x64, .f32⟩
  | .hbm, ⟨26, _⟩ => ⟨S1536, .f32⟩
  | .hbm, ⟨27, _⟩ => ⟨S_, .f32⟩
  | .hbm, ⟨28, _⟩ => ⟨S1536, .f32⟩
  | .hbm, ⟨29, _⟩ => ⟨S5120, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S128, .i32⟩
  | .hbm, ⟨34, _⟩ => ⟨S128x1, .i32⟩
  | .hbm, ⟨35, _⟩ => ⟨S_, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i1⟩
  | .hbm, ⟨43, _⟩ => ⟨S128x1, .i32⟩
  | .hbm, ⟨44, _⟩ => ⟨S128x1, .i32⟩
  | .hbm, ⟨45, _⟩ => ⟨S_, .i32⟩
  | .hbm, ⟨46, _⟩ => ⟨S128x1, .i32⟩
  | .hbm, ⟨47, _⟩ => ⟨S128x1, .i1⟩
  | .hbm, ⟨48, _⟩ => ⟨S128x1, .i1⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S128x1, .i32⟩
  | .hbm, ⟨53, _⟩ => ⟨S1x128, .i32⟩
  | .hbm, ⟨54, _⟩ => ⟨S_, .i32⟩
  | .hbm, ⟨55, _⟩ => ⟨S_, .i32⟩
  | .hbm, ⟨56, _⟩ => ⟨S1x128, .i32⟩
  | .hbm, ⟨57, _⟩ => ⟨S1x128, .i32⟩
  | .hbm, ⟨58, _⟩ => ⟨S1x128, .i32⟩
  | .hbm, ⟨59, _⟩ => ⟨S_, .i32⟩
  | .hbm, ⟨60, _⟩ => ⟨S1x128, .i32⟩
  | .hbm, ⟨61, _⟩ => ⟨S1x128, .i1⟩
  | .hbm, ⟨62, _⟩ => ⟨S1x128, .i32⟩
  | .hbm, ⟨63, _⟩ => ⟨S1x128, .i32⟩
  | .hbm, ⟨64, _⟩ => ⟨S_, .i32⟩
  | .hbm, ⟨65, _⟩ => ⟨S1x128, .i32⟩
  | .hbm, ⟨66, _⟩ => ⟨S1x128, .i1⟩
  | .hbm, ⟨67, _⟩ => ⟨S1x128, .i1⟩
  | .hbm, ⟨68, _⟩ => ⟨S_, .i32⟩
  | .hbm, ⟨69, _⟩ => ⟨S1x128, .i32⟩
  | .hbm, ⟨70, _⟩ => ⟨S1x128, .i32⟩
  | .hbm, ⟨71, _⟩ => ⟨S1x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S_, .f32⟩
  | .hbm, ⟨76, _⟩ => ⟨S128x128, .f32⟩
  | .hbm, ⟨77, _⟩ => ⟨S_, .f32⟩
  | .hbm, ⟨78, _⟩ => ⟨S_, .f32⟩
  | .hbm, ⟨79, _⟩ => ⟨S128x128, .f32⟩
  | .hbm, ⟨80, _⟩ => ⟨S128x128, .f32⟩
  | .hbm, ⟨81, _⟩ => ⟨S128x128, .f32⟩
  | .hbm, ⟨82, _⟩ => ⟨S_, .f32⟩
  | .hbm, ⟨83, _⟩ => ⟨S128x128, .f32⟩
  | .hbm, ⟨84, _⟩ => ⟨S128x128, .f32⟩
  | .hbm, ⟨85, _⟩ => ⟨S1x128x128, .f32⟩
  | .hbm, ⟨86, _⟩ => ⟨S1x128x128, .f32⟩
  | .hbm, ⟨87, _⟩ => ⟨S1x128x128, .f32⟩
  | .hbm, ⟨88, _⟩ => ⟨S3x128x128, .f32⟩
  | .hbm, ⟨89, _⟩ => ⟨S3x128x128, .bf16⟩
  | .hbm, ⟨90, _⟩ => ⟨S1x5120, .f32⟩
  | .hbm, ⟨91, _⟩ => ⟨S16384x5120, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S3x128x128, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x2048, .bf16⟩
  | .local _ .smem, ⟨0, _⟩ => ⟨S10, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_v27 : Ref sig .tc := ⟨.hbm, 53, rfl⟩
abbrev main_c_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_c : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_0 : Ref sig .tc := ⟨.hbm, 68, rfl⟩
abbrev main_call1_v12 : Ref sig .tc := ⟨.hbm, 69, rfl⟩
abbrev main_call1_v13 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_4 : Ref sig .tc := ⟨.hbm, 75, rfl⟩
abbrev main_v32 : Ref sig .tc := ⟨.hbm, 76, rfl⟩
abbrev main_cst_5 : Ref sig .tc := ⟨.hbm, 77, rfl⟩
abbrev main_cst_6 : Ref sig .tc := ⟨.hbm, 78, rfl⟩
abbrev main_call2_v0 : Ref sig .tc := ⟨.hbm, 79, rfl⟩
abbrev main_call2_v1 : Ref sig .tc := ⟨.hbm, 80, rfl⟩
abbrev main_v33 : Ref sig .tc := ⟨.hbm, 81, rfl⟩
abbrev main_cst_7 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 5], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c2_i32 : BitVec 32 := 2#32
  let v7 : BitVec 32 := Scalar.muli arg1 c2_i32
  let c0_i32_5 : BitVec 32 := 0#32
  let v8 : BitVec 32 := Scalar.addi v7 c0_i32_5
  let v9 : Index := Scalar.indexCast v8
  ![v9.toNat]
def k0_off2 (v10 : BitVec 32) : Fin 3 → Nat :=
  let v27 : Index := Scalar.indexCast v10
  let c0_15 : Index := 0#32
  let c0_16 : Index := 0#32
  ![v27.toNat, 0, 0]
def k0_cond3 (v10 : BitVec 32) : BitVec 1 :=
  let c0_i32_8 : BitVec 32 := 0#32
  let v14 : BitVec 1 := Scalar.cmpi .ne v10 c0_i32_8
  let v15 : BitVec 32 := Scalar.extui v14
  let c0_i32_9 : BitVec 32 := 0#32
  let v16 : BitVec 1 := Scalar.cmpi .ne v15 c0_i32_9
  v16

def k0_chk1 (v10 : BitVec 32) : Prop :=
  (∀ (k0_h3 : k0_cond3 v10 = 1#1), ∀ a, (k0_off2 v10) a + S1x128x128.size a ≤ S3x128x128.size a)
theorem k0_off2_inb : ∀ (v10 : BitVec 32) (k0_hw1 : k0_chk1 v10), ∀ (k0_h3 : k0_cond3 v10 = 1#1), ∀ a, (k0_off2 v10) a + S1x128x128.size a ≤ S3x128x128.size a := fun v10 k0_hw1 k0_h3 => k0_hw1 k0_h3

def k0_off3 (i : grid0.Coords) : Fin 1 → Nat :=
  let arg1 : BitVec 32 := BitVec.ofNat 32 (i 1).val
  let c2_i32_10 : BitVec 32 := 2#32
  let v17 : BitVec 32 := Scalar.muli arg1 c2_i32_10
  let c1_i32 : BitVec 32 := 1#32
  let v18 : BitVec 32 := Scalar.addi v17 c1_i32
  let v19 : Index := Scalar.indexCast v18
  ![v19.toNat]
def k0_off4 (v20 : BitVec 32) : Fin 3 → Nat :=
  let v27 : Index := Scalar.indexCast v20
  let c0_15 : Index := 0#32
  let c0_16 : Index := 0#32
  ![v27.toNat, 0, 0]
def k0_cond5 (v20 : BitVec 32) : BitVec 1 :=
  let c0_i32_13 : BitVec 32 := 0#32
  let v24 : BitVec 1 := Scalar.cmpi .ne v20 c0_i32_13
  let v25 : BitVec 32 := Scalar.extui v24
  let c0_i32_14 : BitVec 32 := 0#32
  let v26 : BitVec 1 := Scalar.cmpi .ne v25 c0_i32_14
  v26

def k0_chk2 (v20 : BitVec 32) : Prop :=
  (∀ (k0_h5 : k0_cond5 v20 = 1#1), ∀ a, (k0_off4 v20) a + S1x128x128.size a ≤ S3x128x128.size a)
theorem k0_off4_inb : ∀ (v20 : BitVec 32) (k0_hw2 : k0_chk2 v20), ∀ (k0_h5 : k0_cond5 v20 = 1#1), ∀ a, (k0_off4 v20) a + S1x128x128.size a ≤ S3x128x128.size a := fun v20 k0_hw2 k0_h5 => k0_hw2 k0_h5

def k0_cond2 (v10 : BitVec 32) : BitVec 1 :=
  let c0_i32_6 : BitVec 32 := 0#32
  let v11 : BitVec 1 := Scalar.cmpi .eq v10 c0_i32_6
  let v12 : BitVec 32 := Scalar.extui v11
  let c0_i32_7 : BitVec 32 := 0#32
  let v13 : BitVec 1 := Scalar.cmpi .ne v12 c0_i32_7
  v13

def k0_cond4 (v20 : BitVec 32) : BitVec 1 :=
  let c0_i32_11 : BitVec 32 := 0#32
  let v21 : BitVec 1 := Scalar.cmpi .eq v20 c0_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x4096x2048 : Shape := ⟨3, ![4, 4096, 2048]⟩
abbrev S2x2048 : Shape := ⟨2, ![2, 2048]⟩
abbrev S1x2048x5120 : Shape := ⟨3, ![1, 2048, 5120]⟩
abbrev S1x64 : Shape := ⟨2, ![1, 64]⟩
abbrev S2x128 : Shape := ⟨2, ![2, 128]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S2048x5120 : Shape := ⟨2, ![2048, 5120]⟩
abbrev S16384x5120 : Shape := ⟨2, ![16384, 5120]⟩
abbrev S16384x1536 : Shape := ⟨2, ![16384, 1536]⟩
abbrev S16384x24x64 : Shape := ⟨3, ![16384, 24, 64]⟩
abbrev S64 : Shape := ⟨1, ![64]⟩
abbrev S16384x24 : Shape := ⟨2, ![16384, 24]⟩
abbrev S16384x24x1 : Shape := ⟨3, ![16384, 24, 1]⟩
abbrev S1x1x64 : Shape := ⟨3, ![1, 1, 64]⟩
abbrev S16384x512 : Shape := ⟨2, ![16384, 512]⟩
abbrev S16384x4x128 : Shape := ⟨3, ![16384, 4, 128]⟩
abbrev S1x128 : Shape := ⟨2, ![1, 128]⟩
abbrev S128 : Shape := ⟨1, ![128]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 97
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x5120, .f32⟩
  | .hbm, ⟨3, _⟩ => ⟨S1x64, .f32⟩
  | .hbm, ⟨4, _⟩ => ⟨S1x64, .f32⟩
  | .hbm, ⟨5, _⟩ => ⟨S2x128, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S2048x5120, .f32⟩
  | .hbm, ⟨26, _⟩ => ⟨S16384x5120, .f32⟩
  | .hbm, ⟨27, _⟩ => ⟨S16384x1536, .f32⟩
  | .hbm, ⟨28, _⟩ => ⟨S16384x24x64, .f32⟩
  | .hbm, ⟨29, _⟩ => ⟨S64, .f32⟩
  | .hbm, ⟨30, _⟩ => ⟨S16384x24x64, .f32⟩
  | .hbm, ⟨31, _⟩ => ⟨S_, .f32⟩
  | .hbm, ⟨32, _⟩ => ⟨S16384x24, .f32⟩
  | .hbm, ⟨33, _⟩ => ⟨S16384x24x1, .f32⟩
  | .hbm, ⟨34, _⟩ => ⟨S_, .f32⟩
  | .hbm, ⟨35, _⟩ => ⟨S16384x24x1, .f32⟩
  | .hbm, ⟨36, _⟩ => ⟨S16384x24x1, .f32⟩
  | .hbm, ⟨37, _⟩ => ⟨S_, .f32⟩
  | .hbm, ⟨38, _⟩ => ⟨S16384x24x1, .f32⟩
  | .hbm, ⟨39, _⟩ => ⟨S16384x24x1, .f32⟩
  | .hbm, ⟨40, _⟩ => ⟨S16384x24x1, .f32⟩
  | .hbm, ⟨41, _⟩ => ⟨S16384x24x64, .f32⟩
  | .hbm, ⟨42, _⟩ => ⟨S16384x24x64, .f32⟩
  | .hbm, ⟨43, _⟩ => ⟨S1x1x64, .f32⟩
  | .hbm, ⟨44, _⟩ => ⟨S16384x24x64, .f32⟩
  | .hbm, ⟨45, _⟩ => ⟨S16384x24x64, .f32⟩
  | .hbm, ⟨46, _⟩ => ⟨S_, .f32⟩
  | .hbm, ⟨47, _⟩ => ⟨S16384x24x64, .f32⟩
  | .hbm, ⟨48, _⟩ => ⟨S16384x24x64, .f32⟩
  | .hbm, ⟨49, _⟩ => ⟨S16384x1536, .f32⟩
  | .hbm, ⟨50, _⟩ => ⟨S16384x24x64, .f32⟩
  | .hbm, ⟨51, _⟩ => ⟨S64, .f32⟩
  | .hbm, ⟨52, _⟩ => ⟨S16384x24x64, .f32⟩
  | .hbm, ⟨53, _⟩ => ⟨S_, .f32⟩
  | .hbm, ⟨54, _⟩ => ⟨S16384x24, .f32⟩
  | .hbm, ⟨55, _⟩ => ⟨S16384x24x1, .f32⟩
  | .hbm, ⟨56, _⟩ => ⟨S_, .f32⟩
  | .hbm, ⟨57, _⟩ => ⟨S16384x24x1, .f32⟩
  | .hbm, ⟨58, _⟩ => ⟨S16384x24x1, .f32⟩
  | .hbm, ⟨59, _⟩ => ⟨S_, .f32⟩
  | .hbm, ⟨60, _⟩ => ⟨S16384x24x1, .f32⟩
  | .hbm, ⟨61, _⟩ => ⟨S16384x24x1, .f32⟩
  | .hbm, ⟨62, _⟩ => ⟨S16384x24x1, .f32⟩
  | .hbm, ⟨63, _⟩ => ⟨S16384x24x64, .f32⟩
  | .hbm, ⟨64, _⟩ => ⟨S16384x24x64, .f32⟩
  | .hbm, ⟨65, _⟩ => ⟨S1x1x64, .f32⟩
  | .hbm, ⟨66, _⟩ => ⟨S16384x24x64, .f32⟩
  | .hbm, ⟨67, _⟩ => ⟨S16384x24x64, .f32⟩
  | .hbm, ⟨68, _⟩ => ⟨S16384x1536, .f32⟩
  | .hbm, ⟨69, _⟩ => ⟨S16384x512, .f32⟩
  | .hbm, ⟨70, _⟩ => ⟨S16384x4x128, .f32⟩
  | .hbm, ⟨71, _⟩ => ⟨S1x128, .f32⟩
  | .hbm, ⟨72, _⟩ => ⟨S128, .f32⟩
  | .hbm, ⟨73, _⟩ => ⟨S16384x4x128, .f32⟩
  | .hbm, ⟨74, _⟩ => ⟨S_, .f32⟩
  | .hbm, ⟨75, _⟩ => ⟨S16384x4, .f32⟩
  | .hbm, ⟨76, _⟩ => ⟨S16384x4x1, .f32⟩
  | .hbm, ⟨77, _⟩ => ⟨S_, .f32⟩
  | .hbm, ⟨78, _⟩ => ⟨S16384x4x1, .f32⟩
  | .hbm, ⟨79, _⟩ => ⟨S16384x4x1, .f32⟩
  | .hbm, ⟨80, _⟩ => ⟨S_, .f32⟩
  | .hbm, ⟨81, _⟩ => ⟨S16384x4x1, .f32⟩
  | .hbm, ⟨82, _⟩ => ⟨S16384x4x1, .f32⟩
  | .hbm, ⟨83, _⟩ => ⟨S16384x4x1, .f32⟩
  | .hbm, ⟨84, _⟩ => ⟨S16384x4x128, .f32⟩
  | .hbm, ⟨85, _⟩ => ⟨S16384x4x128, .f32⟩
  | .hbm, ⟨86, _⟩ => ⟨S1x1x128, .f32⟩
  | .hbm, ⟨87, _⟩ => ⟨S16384x4x128, .f32⟩
  | .hbm, ⟨88, _⟩ => ⟨S16384x4x128, .f32⟩
  | .hbm, ⟨89, _⟩ => ⟨S_, .f32⟩
  | .hbm, ⟨90, _⟩ => ⟨S16384x4x128, .f32⟩
  | .hbm, ⟨91, _⟩ => ⟨S16384x4x128, .f32⟩
  | .hbm, ⟨92, _⟩ => ⟨S16384x1536, .f32⟩
  | .hbm, ⟨93, _⟩ => ⟨S16384x1536, .f32⟩
  | .hbm, ⟨94, _⟩ => ⟨S16384x512, .f32⟩
  | .hbm, ⟨95, _⟩ => ⟨S16384x5120, .f32⟩
  | .hbm, ⟨96, _⟩ => ⟨S16384x5120, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel3.lean ====
abbrev S4x4096x1536 : Shape := ⟨3, ![4, 4096, 1536]⟩
abbrev S4x4096x5120 : Shape := ⟨3, ![4, 4096, 5120]⟩
abbrev S4x256x1024 : Shape := ⟨3, ![4, 256, 1024]⟩
abbrev S2x2048x2048 : Shape := ⟨3, ![2, 2048, 2048]⟩
abbrev S4x4096x2048 : Shape := ⟨3, ![4, 4096, 2048]⟩
abbrev S16384x1536 : Shape := ⟨2, ![16384, 1536]⟩
abbrev S16384x5120 : Shape := ⟨2, ![16384, 5120]⟩
abbrev S16384x2048 : Shape := ⟨2, ![16384, 2048]⟩
abbrev S512x1536 : Shape := ⟨2, ![512, 1536]⟩
abbrev S512x512 : Shape := ⟨2, ![512, 512]⟩
abbrev S1x256x512 : Shape := ⟨3, ![1, 256, 512]⟩
abbrev S1x1536x2048 : Shape := ⟨3, ![1, 1536, 2048]⟩
abbrev S1x512x2048 : Shape := ⟨3, ![1, 512, 2048]⟩
abbrev S512x2048 : Shape := ⟨2, ![512, 2048]⟩
abbrev S1536x2048 : Shape := ⟨2, ![1536, 2048]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S4x4096x1536, .bf16⟩
  | .hbm, ⟨1, _⟩ => ⟨S4x4096x5120, .bf16⟩
  | .hbm, ⟨2, _⟩ => ⟨S4x256x1024, .bf16⟩
  | .hbm, ⟨3, _⟩ => ⟨S2x2048x2048, .f32⟩
  | .hbm, ⟨4, _⟩ => ⟨S4x4096x2048, .f32⟩
  | .hbm, ⟨5, _⟩ => ⟨S2x2048x2048, .bf16⟩
  | .hbm, ⟨6, _⟩ => ⟨S16384x1536, .bf16⟩
  | .hbm, ⟨7, _⟩ => ⟨S16384x5120, .bf16⟩
  | .hbm, ⟨8, _⟩ => ⟨S16384x2048, .f32⟩
  | .hbm, ⟨9, _⟩ => ⟨S16384x2048, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x1536x2048, .bf16⟩
  | .local _ .vmem, ⟨9, _⟩ => ⟨S1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S4x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1536x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x4096x1536 : Shape := ⟨3, ![4, 4096, 1536]⟩
abbrev S4x4096x5120 : Shape := ⟨3, ![4, 4096, 5120]⟩
abbrev S4x256x1024 : Shape := ⟨3, ![4, 256, 1024]⟩
abbrev S2x2048x2048 : Shape := ⟨3, ![2, 2048, 2048]⟩
abbrev S4x4096x2048 : Shape := ⟨3, ![4, 4096, 2048]⟩
abbrev S4x4096x512 : Shape := ⟨3, ![4, 4096, 512]⟩
abbrev S4x4096x4x128 : Shape := ⟨4, ![4, 4096, 4, 128]⟩
abbrev S4x256x512 : Shape := ⟨3, ![4, 256, 512]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1536, .bf16⟩
  | .hbm, ⟨1, _⟩ => ⟨S4x4096x5120, .bf16⟩
  | .hbm, ⟨2, _⟩ => ⟨S4x256x1024, .bf16⟩
  | .hbm, ⟨3, _⟩ => ⟨S2x2048x2048, .f32⟩
  | .hbm, ⟨4, _⟩ => ⟨S4x4096x2048, .f32⟩
  | .hbm, ⟨5, _⟩ => ⟨S4x4096x1536, .f32⟩
  | .hbm, ⟨6, _⟩ => ⟨S4x4096x5120, .f32⟩
  | .hbm, ⟨7, _⟩ => ⟨S4x256x1024, .f32⟩
  | .hbm, ⟨8, _⟩ => ⟨S4x4096x512, .f32⟩
  | .hbm, ⟨9, _⟩ => ⟨S4x4096x4x128, .f32⟩
  | .hbm, ⟨10, _⟩ => ⟨S4x256x512, .f32⟩
  | .hbm, ⟨11, _⟩ => ⟨S4x256x4x128, .f32⟩
  | .hbm, ⟨12, _⟩ => ⟨S4x256x512, .f32⟩
  | .hbm, ⟨13, _⟩ => ⟨S4x256x4x128, .f32⟩
  | .hbm, ⟨14, _⟩ => ⟨S4x4x4096x256, .f32⟩
  | .hbm, ⟨15, _⟩ => ⟨S_, .f32⟩
  | .hbm, ⟨16, _⟩ => ⟨S_, .f32⟩
  | .hbm, ⟨17, _⟩ => ⟨S4x4x4096x256, .f32⟩
  | .hbm, ⟨18, _⟩ => ⟨S4x4x4096x256, .f32⟩
  | .hbm, ⟨19, _⟩ => ⟨S_, .f32⟩
  | .hbm, ⟨20, _⟩ => ⟨S4x4x4096, .f32⟩
  | .hbm, ⟨21, _⟩ => ⟨S_, .f32⟩
  | .hbm, ⟨22, _⟩ => ⟨S4x4x4096, .f32⟩
  | .hbm, ⟨23, _⟩ => ⟨S4x4x4096, .f32⟩
  | .hbm, ⟨24, _⟩ => ⟨S4x4x4096x1, .f32⟩
  | .hbm, ⟨25, _⟩ => ⟨S4x4x4096x256, .f32⟩
  | .hbm, ⟨26, _⟩ => ⟨S4x4x4096x256, .f32⟩
  | .hbm, ⟨27, _⟩ => ⟨S4x4x4096x256, .f32⟩
  | .hbm, ⟨28, _⟩ => ⟨S_, .f32⟩
  | .hbm, ⟨29, _⟩ => ⟨S4x4x4096, .f32⟩
  | .hbm, ⟨30, _⟩ => ⟨S4x4x4096x1, .f32⟩
  | .hbm, ⟨31, _⟩ => ⟨S4x4x4096x256, .f32⟩
  | .hbm, ⟨32, _⟩ => ⟨S4x4x4096x256, .f32⟩
  | .hbm, ⟨33, _⟩ => ⟨S4x4x128x4096, .f32⟩
  | .hbm, ⟨34, _⟩ => ⟨S4x4096x4x128, .f32⟩
  | .hbm, ⟨35, _⟩ => ⟨S4x4096x512, .f32⟩
  | .hbm, ⟨36, _⟩ => ⟨S4x4096x2048, .f32⟩
  | .hbm, ⟨37, _⟩ => ⟨S1x2048x2048, .f32⟩
  | .hbm, ⟨38, _⟩ => ⟨S2048x2048, .f32⟩
  | .hbm, ⟨39, _⟩ => ⟨S4x4096x2048, .f32⟩
  | .hbm, ⟨40, _⟩ => ⟨S4x4096x2048, .f32⟩
  | .hbm, ⟨41, _⟩ => ⟨S16384x2048, .f32⟩
  | _, _ => ⟨S4x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel4.lean ====
abbrev S4x4096x2048 : Shape := ⟨3, ![4, 4096, 2048]⟩
abbrev S2x2048 : Shape := ⟨2, ![2, 2048]⟩
abbrev S1x2048x4176 : Shape := ⟨3, ![1, 2048, 4176]⟩
abbrev S1x128 : Shape := ⟨2, ![1, 128]⟩
abbrev S2x128 : Shape := ⟨2, ![2, 128]⟩
abbrev S8 : Shape := ⟨1, ![8]⟩
abbrev S16384x2048 : Shape := ⟨2, ![16384, 2048]⟩
abbrev S128 : Shape := ⟨1, ![128]⟩
abbrev S4x128 : Shape := ⟨2, ![4, 128]⟩
abbrev S512 : Shape := ⟨1, ![512]⟩
abbrev S_ : Shape := ⟨0, ![]⟩
abbrev S2048x4176 : Shape := ⟨2, ![2048, 4176]⟩
abbrev S2048x1536 : Shape := ⟨2, ![2048, 1536]⟩
abbrev S2048x512 : Shape := ⟨2, ![2048, 512]⟩
abbrev S2048x1024 : Shape := ⟨2, ![2048, 1024]⟩
abbrev S2048x4096 : Shape := ⟨2, ![2048, 4096]⟩
abbrev S12x128 : Shape := ⟨2, ![12, 128]⟩
abbrev S1536 : Shape := ⟨1, ![1536]⟩
abbrev S1024 : Shape := ⟨1, ![1024]⟩
abbrev S4096 : Shape := ⟨1, ![4096]⟩
abbrev S2048x80 : Shape := ⟨2, ![2048, 80]⟩
abbrev S2048x48 : Shape := ⟨2, ![2048, 48]⟩
abbrev S2048x128 : Shape := ⟨2, ![2048, 128]⟩
abbrev S64 : Shape := ⟨1, ![64]⟩
abbrev S16 : Shape := ⟨1, ![16]⟩
abbrev S48 : Shape := ⟨1, ![48]⟩
abbrev S1x2048 : Shape := ⟨2, ![1, 2048]⟩
abbrev S2048 : Shape := ⟨1, ![2048]⟩
abbrev S1x2048x4096 : Shape := ⟨3, ![1, 2048, 4096]⟩
abbrev S128x1 : Shape := ⟨2, ![128, 1]⟩
abbrev S128x128 : Shape := ⟨2, ![128, 128]⟩
abbrev S1x128x128 : Shape := ⟨3, ![1, 128, 128]⟩
abbrev S3x128x128 : Shape := ⟨3, ![3, 128, 128]⟩
abbrev S1x4096 : Shape := ⟨2, ![1, 4096]⟩
abbrev S16384x4096 : Shape := ⟨2, ![16384, 4096]⟩
abbrev S16384x128 : Shape := ⟨2, ![16384, 128]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024x128 : Shape := ⟨2, ![1024, 128]⟩
abbrev S1024x1 : Shape := ⟨2, ![1024, 1]⟩
abbrev S1 : Shape := ⟨1, ![1]⟩
abbrev S1024x512 : Shape := ⟨2, ![1024, 512]⟩
abbrev S1x512 : Shape := ⟨2, ![1, 512]⟩

abbrev nBuf : Space → Nat
  | .hbm => 116
  | .vmem => 15
  | .smem => 1
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x4176, .f32⟩
  | .hbm, ⟨3, _⟩ => ⟨S1x128, .f32⟩
  | .hbm, ⟨4, _⟩ => ⟨S1x128, .f32⟩
  | .hbm, ⟨5, _⟩ => ⟨S2x128, .f32⟩
  | .hbm, ⟨6, _⟩ => ⟨S16384x2048, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S4x128, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S2048x4176, .f32⟩
  | .hbm, ⟨16, _⟩ => ⟨S2048x1536, .f32⟩
  | .hbm, ⟨17, _⟩ => ⟨S2048x512, .f32⟩
  | .hbm, ⟨18, _⟩ => ⟨S2048x1024, .f32⟩
  | .hbm, ⟨19, _⟩ => ⟨S2048x512, .f32⟩
  | .hbm, ⟨20, _⟩ => ⟨S2048x512, .f32⟩
  | .hbm, ⟨21, _⟩ => ⟨S2048x4096, .f32⟩
  | .hbm, ⟨22, _⟩ => ⟨S128, .f32⟩
  | .hbm, ⟨23, _⟩ => ⟨S1x128, .f32⟩
  | .hbm, ⟨24, _⟩ => ⟨S12x128, .f32⟩
  | .hbm, ⟨25, _⟩ => ⟨S1536, .f32⟩
  | .hbm, ⟨26, _⟩ => ⟨S_, .f32⟩
  | .hbm, ⟨27, _⟩ => ⟨S1536, .f32⟩
  | .hbm, ⟨28, _⟩ => ⟨S1536, .f32⟩
  | .hbm, ⟨29, _⟩ => ⟨S128, .f32⟩
  | .hbm, ⟨30, _⟩ => ⟨S1x128, .f32⟩
  | .hbm, ⟨31, _⟩ => ⟨S4x128, .f32⟩
  | .hbm, ⟨32, _⟩ => ⟨S512, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S512, .f32⟩
  | .hbm, ⟨37, _⟩ => ⟨S4096, .f32⟩
  | .hbm, ⟨38, _⟩ => ⟨S2048x80, .f32⟩
  | .hbm, ⟨39, _⟩ => ⟨S_, .f32⟩
  | .hbm, ⟨40, _⟩ => ⟨S2048x48, .f32⟩
  | .hbm, ⟨41, _⟩ => ⟨S2048x128, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S16, .f32⟩
  | .hbm, ⟨46, _⟩ => ⟨S_, .f32⟩
  | .hbm, ⟨47, _⟩ => ⟨S48, .f32⟩
  | .hbm, ⟨48, _⟩ => ⟨S128, .f32⟩
  | .hbm, ⟨49, _⟩ => ⟨S1x2048, .f32⟩
  | .hbm, ⟨50, _⟩ => ⟨S2048, .f32⟩
  | .hbm, ⟨51, _⟩ => ⟨S2048x4096, .bf16⟩
  | .hbm, ⟨52, _⟩ => ⟨S1x2048x4096, .bf16⟩
  | .hbm, ⟨53, _⟩ => ⟨S2048x128, .bf16⟩
  | .hbm, ⟨54, _⟩ => ⟨S1x2048, .f32⟩
  | .hbm, ⟨55, _⟩ => ⟨S128, .i32⟩
  | .hbm, ⟨56, _⟩ => ⟨S128x1, .i32⟩
  | .hbm, ⟨57, _⟩ => ⟨S_, .i32⟩
  | .hbm, ⟨58, _⟩ => ⟨S_, .i32⟩
  | .hbm, ⟨59, _⟩ => ⟨S128x1, .i32⟩
  | .hbm, ⟨60, _⟩ => ⟨S128x1, .i32⟩
  | .hbm, ⟨61, _⟩ => ⟨S128x1, .i32⟩
  | .hbm, ⟨62, _⟩ => ⟨S_, .i32⟩
  | .hbm, ⟨63, _⟩ => ⟨S128x1, .i32⟩
  | .hbm, ⟨64, _⟩ => ⟨S128x1, .i1⟩
  | .hbm, ⟨65, _⟩ => ⟨S128x1, .i32⟩
  | .hbm, ⟨66, _⟩ => ⟨S128x1, .i32⟩
  | .hbm, ⟨67, _⟩ => ⟨S_, .i32⟩
  | .hbm, ⟨68, _⟩ => ⟨S128x1, .i32⟩
  | .hbm, ⟨69, _⟩ => ⟨S128x1, .i1⟩
  | .hbm, ⟨70, _⟩ => ⟨S128x1, .i1⟩
  | .hbm, ⟨71, _⟩ => ⟨S_, .i32⟩
  | .hbm, ⟨72, _⟩ => ⟨S128x1, .i32⟩
  | .hbm, ⟨73, _⟩ => ⟨S128x1, .i32⟩
  | .hbm, ⟨74, _⟩ => ⟨S128x1, .i32⟩
  | .hbm, ⟨75, _⟩ => ⟨S1x128, .i32⟩
  | .hbm, ⟨76, _⟩ => ⟨S_, .i32⟩
  | .hbm, ⟨77, _⟩ => ⟨S_, .i32⟩
  | .hbm, ⟨78, _⟩ => ⟨S1x128, .i32⟩
  | .hbm, ⟨79, _⟩ => ⟨S1x128, .i32⟩
  | .hbm, ⟨80, _⟩ => ⟨S1x128, .i32⟩
  | .hbm, ⟨81, _⟩ => ⟨S_, .i32⟩
  | .hbm, ⟨82, _⟩ => ⟨S1x128, .i32⟩
  | .hbm, ⟨83, _⟩ => ⟨S1x128, .i1⟩
  | .hbm, ⟨84, _⟩ => ⟨S1x128, .i32⟩
  | .hbm, ⟨85, _⟩ => ⟨S1x128, .i32⟩
  | .hbm, ⟨86, _⟩ => ⟨S_, .i32⟩
  | .hbm, ⟨87, _⟩ => ⟨S1x128, .i32⟩
  | .hbm, ⟨88, _⟩ => ⟨S1x128, .i1⟩
  | .hbm, ⟨89, _⟩ => ⟨S1x128, .i1⟩
  | .hbm, ⟨90, _⟩ => ⟨S_, .i32⟩
  | .hbm, ⟨91, _⟩ => ⟨S1x128, .i32⟩
  | .hbm, ⟨92, _⟩ => ⟨S1x128, .i32⟩
  | .hbm, ⟨93, _⟩ => ⟨S1x128, .i32⟩
  | .hbm, ⟨94, _⟩ => ⟨S128x128, .i32⟩
  | .hbm, ⟨95, _⟩ => ⟨S128x128, .i32⟩
  | .hbm, ⟨96, _⟩ => ⟨S128x128, .i1⟩
  | .hbm, ⟨97, _⟩ => ⟨S_, .f32⟩
  | .hbm, ⟨98, _⟩ => ⟨S128x128, .f32⟩
  | .hbm, ⟨99, _⟩ => ⟨S_, .f32⟩
  | .hbm, ⟨100, _⟩ => ⟨S_, .f32⟩
  | .hbm, ⟨101, _⟩ => ⟨S128x128, .f32⟩
  | .hbm, ⟨102, _⟩ => ⟨S128x128, .f32⟩
  | .hbm, ⟨103, _⟩ => ⟨S128x128, .f32⟩
  | .hbm, ⟨104, _⟩ => ⟨S_, .f32⟩
  | .hbm, ⟨105, _⟩ => ⟨S128x128, .f32⟩
  | .hbm, ⟨106, _⟩ => ⟨S128x128, .f32⟩
  | .hbm, ⟨107, _⟩ => ⟨S1x128x128, .f32⟩
  | .hbm, ⟨108, _⟩ => ⟨S1x128x128, .f32⟩
  | .hbm, ⟨109, _⟩ => ⟨S1x128x128, .f32⟩
  | .hbm, ⟨110, _⟩ => ⟨S3x128x128, .f32⟩
  | .hbm, ⟨111, _⟩ => ⟨S3x128x128, .bf16⟩
  | .hbm, ⟨112, _⟩ => ⟨S1x4096, .f32⟩
  | .hbm, ⟨113, _⟩ => ⟨S1x128, .f32⟩
  | .hbm, ⟨114, _⟩ => ⟨S16384x4096, .bf16⟩
  | .hbm, ⟨115, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S3x128x128, .bf16⟩
  | .local _ .vmem, ⟨6, _⟩ => ⟨S1x1024, .f32⟩
  | .local _ .vmem, ⟨7, _⟩ => ⟨S1x1024, .f32⟩
  | .local _ .vmem, ⟨8, _⟩ => ⟨S2048x128, .bf16⟩
  | .local _ .vmem, ⟨9, _⟩ => ⟨S1x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | .local _ .smem, ⟨0, _⟩ => ⟨S8, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v43 : Ref sig .tc := ⟨.hbm, 74, rfl⟩
abbrev main_v44 : Ref sig .tc := ⟨.hbm, 75, rfl⟩
abbrev main_c_8 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_c : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_0 : Ref sig .tc := ⟨.hbm, 90, rfl⟩
abbrev main_call1_v12 : Ref sig .tc := ⟨.hbm, 91, rfl⟩
abbrev main_call1_v13 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_9 : Ref sig .tc := ⟨.hbm, 97, rfl⟩
abbrev main_v49 : Ref sig .tc := ⟨.hbm, 98, rfl⟩
abbrev main_cst_10 : Ref sig .tc := ⟨.hbm, 99, rfl⟩
abbrev main_cst_11 : Ref sig .tc := ⟨.hbm, 100, rfl⟩
abbrev main_call2_v0 : Ref sig .tc := ⟨.hbm, 101, rfl⟩
abbrev main_call2_v1 : Ref sig .tc := ⟨.hbm, 102, rfl⟩
abbrev main_v50 : Ref sig .tc := ⟨.hbm, 103, rfl⟩
abbrev main_cst_12 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60_0 : Ref sig .tc := ⟨.hbm, 114, rfl⟩
abbrev main_v60_1 : Ref sig .tc := ⟨.hbm, 115, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c2_i32 : BitVec 32 := 2#32
  let v7 : BitVec 32 := Scalar.muli arg1 c2_i32
  let c0_i32_5 : BitVec 32 := 0#32
  let v8 : BitVec 32 := Scalar.addi v7 c0_i32_5
  let v9 : Index := Scalar.indexCast v8
  ![v9.toNat]
def k0_off2 (v10 : BitVec 32) : Fin 3 → Nat :=
  let v30 : Index := Scalar.indexCast v10
  let c0_16 : Index := 0#32
  let c0_17 : Index := 0#32
  ![v30.toNat, 0, 0]
def k0_cond3 (v10 : BitVec 32) : BitVec 1 :=
  let c0_i32_8 : BitVec 32 := 0#32
  let v14 : BitVec 1 := Scalar.cmpi .ne v10 c0_i32_8
  let v15 : BitVec 32 := Scalar.extui v14
  let c0_i32_9 : BitVec 32 := 0#32
  let v16 : BitVec 1 := Scalar.cmpi .ne v15 c0_i32_9
  v16

def k0_chk1 (v10 : BitVec 32) : Prop :=
  (∀ (k0_h3 : k0_cond3 v10 = 1#1), ∀ a, (k0_off2 v10) a + S1x128x128.size a ≤ S3x128x128.size a)
theorem k0_off2_inb : ∀ (v10 : BitVec 32) (k0_hw1 : k0_chk1 v10), ∀ (k0_h3 : k0_cond3 v10 = 1#1), ∀ a, (k0_off2 v10) a + S1x128x128.size a ≤ S3x128x128.size a := fun v10 k0_hw1 k0_h3 => k0_hw1 k0_h3

def k0_off3 (i : grid0.Coords) : Fin 1 → Nat :=
  let arg1 : BitVec 32 := BitVec.ofNat 32 (i 1).val
  let c2_i32_10 : BitVec 32 := 2#32
  let v17 : BitVec 32 := Scalar.muli arg1 c2_i32_10
  let c1_i32 : BitVec 32 := 1#32
  let v18 : BitVec 32 := Scalar.addi v17 c1_i32
  let v19 : Index := Scalar.indexCast v18
  ![v19.toNat]
def k0_off4 (v20 : BitVec 32) : Fin 3 → Nat :=
  let v30 : Index := Scalar.indexCast v20
  let c0_16 : Index := 0#32
  let c0_17 : Index := 0#32
  ![v30.toNat, 0, 0]
def k0_cond5 (v20 : BitVec 32) : BitVec 1 :=
  let c0_i32_13 : BitVec 32 := 0#32
  let v24 : BitVec 1 := Scalar.cmpi .ne v20 c0_i32_13
  let v25 : BitVec 32 := Scalar.extui v24
  let c0_i32_14 : BitVec 32 := 0#32
  let v26 : BitVec 1 := Scalar.cmpi .ne v25 c0_i32_14
  v26

def k0_chk2 (v20 : BitVec 32) : Prop :=
  (∀ (k0_h5 : k0_cond5 v20 = 1#1), ∀ a, (k0_off4 v20) a + S1x128x128.size a ≤ S3x128x128.size a)
theorem k0_off4_inb : ∀ (v20 : BitVec 32) (k0_hw2 : k0_chk2 v20), ∀ (k0_h5 : k0_cond5 v20 = 1#1), ∀ a, (k0_off4 v20) a + S1x128x128.size a ≤ S3x128x128.size a := fun v20 k0_hw2 k0_h5 => k0_hw2 k0_h5

def k0_cond2 (v10 : BitVec 32) : BitVec 1 :=
  let c0_i32_6 : BitVec 32 := 0#32
  let v11 : BitVec 1 := Scalar.cmpi .eq v10 c0_i32_6
  let v12 : BitVec 32 := Scalar.extui v11
  let c0_i32_7 : BitVec 32 := 0#32
  let v13 : BitVec 1 := Scalar.cmpi .ne v12 c0_i32_7
  v13

def k0_cond4 (v20 : BitVec 32) : BitVec 1 :=
  let c0_i32_11 : BitVec 32 := 0#32
  let v21 : BitVec 1 := Scalar.cmpi .eq v20 c0_i32_11
  let v22 : BitVec 32 := Scalar.extui v21
  let c0_i32_12 : BitVec 32 := 0#32
  let v23 : BitVec 1 := Scalar.cmpi .ne v22 c0_i32_12
  v23

def k0_cond6 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S4x4096x2048 : Shape := ⟨3, ![4, 4096, 2048]⟩
abbrev S2x2048 : Shape := ⟨2, ![2, 2048]⟩
abbrev S1x2048x4176 : Shape := ⟨3, ![1, 2048, 4176]⟩
abbrev S1x128 : Shape := ⟨2, ![1, 128]⟩
abbrev S2x128 : Shape := ⟨2, ![2, 128]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S2048x4176 : Shape := ⟨2, ![2048, 4176]⟩
abbrev S16384x4176 : Shape := ⟨2, ![16384, 4176]⟩
abbrev S16384x1536 : Shape := ⟨2, ![16384, 1536]⟩
abbrev S16384x12x128 : Shape := ⟨3, ![16384, 12, 128]⟩
abbrev S128 : Shape := ⟨1, ![128]⟩
abbrev S16384x12 : Shape := ⟨2, ![16384, 12]⟩
abbrev S16384x12x1 : Shape := ⟨3, ![16384, 12, 1]⟩
abbrev S1x1x128 : Shape := ⟨3, ![1, 1, 128]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S16384x1024 : Shape := ⟨2, ![16384, 1024]⟩
abbrev S16384x64 : Shape := ⟨2, ![16384, 64]⟩
abbrev S16384x16 : Shape := ⟨2, ![16384, 16]⟩
abbrev S16384x4096 : Shape := ⟨2, ![16384, 4096]⟩
abbrev S16384x48 : Shape := ⟨2, ![16384, 48]⟩
abbrev S16384x128 : Shape := ⟨2, ![16384, 128]⟩

abbrev nBuf : Space → Nat
  | .hbm => 106
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x4176, .f32⟩
  | .hbm, ⟨3, _⟩ => ⟨S1x128, .f32⟩
  | .hbm, ⟨4, _⟩ => ⟨S1x128, .f32⟩
  | .hbm, ⟨5, _⟩ => ⟨S2x128, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S2048x4176, .f32⟩
  | .hbm, ⟨26, _⟩ => ⟨S16384x4176, .f32⟩
  | .hbm, ⟨27, _⟩ => ⟨S16384x1536, .f32⟩
  | .hbm, ⟨28, _⟩ => ⟨S16384x12x128, .f32⟩
  | .hbm, ⟨29, _⟩ => ⟨S128, .f32⟩
  | .hbm, ⟨30, _⟩ => ⟨S16384x12x128, .f32⟩
  | .hbm, ⟨31, _⟩ => ⟨S_, .f32⟩
  | .hbm, ⟨32, _⟩ => ⟨S16384x12, .f32⟩
  | .hbm, ⟨33, _⟩ => ⟨S16384x12x1, .f32⟩
  | .hbm, ⟨34, _⟩ => ⟨S_, .f32⟩
  | .hbm, ⟨35, _⟩ => ⟨S16384x12x1, .f32⟩
  | .hbm, ⟨36, _⟩ => ⟨S16384x12x1, .f32⟩
  | .hbm, ⟨37, _⟩ => ⟨S_, .f32⟩
  | .hbm, ⟨38, _⟩ => ⟨S16384x12x1, .f32⟩
  | .hbm, ⟨39, _⟩ => ⟨S16384x12x1, .f32⟩
  | .hbm, ⟨40, _⟩ => ⟨S16384x12x1, .f32⟩
  | .hbm, ⟨41, _⟩ => ⟨S16384x12x128, .f32⟩
  | .hbm, ⟨42, _⟩ => ⟨S16384x12x128, .f32⟩
  | .hbm, ⟨43, _⟩ => ⟨S1x1x128, .f32⟩
  | .hbm, ⟨44, _⟩ => ⟨S16384x12x128, .f32⟩
  | .hbm, ⟨45, _⟩ => ⟨S16384x12x128, .f32⟩
  | .hbm, ⟨46, _⟩ => ⟨S_, .f32⟩
  | .hbm, ⟨47, _⟩ => ⟨S16384x12x128, .f32⟩
  | .hbm, ⟨48, _⟩ => ⟨S16384x12x128, .f32⟩
  | .hbm, ⟨49, _⟩ => ⟨S16384x512, .f32⟩
  | .hbm, ⟨50, _⟩ => ⟨S16384x4x128, .f32⟩
  | .hbm, ⟨51, _⟩ => ⟨S128, .f32⟩
  | .hbm, ⟨52, _⟩ => ⟨S16384x4x128, .f32⟩
  | .hbm, ⟨53, _⟩ => ⟨S_, .f32⟩
  | .hbm, ⟨54, _⟩ => ⟨S16384x4, .f32⟩
  | .hbm, ⟨55, _⟩ => ⟨S16384x4x1, .f32⟩
  | .hbm, ⟨56, _⟩ => ⟨S_, .f32⟩
  | .hbm, ⟨57, _⟩ => ⟨S16384x4x1, .f32⟩
  | .hbm, ⟨58, _⟩ => ⟨S16384x4x1, .f32⟩
  | .hbm, ⟨59, _⟩ => ⟨S_, .f32⟩
  | .hbm, ⟨60, _⟩ => ⟨S16384x4x1, .f32⟩
  | .hbm, ⟨61, _⟩ => ⟨S16384x4x1, .f32⟩
  | .hbm, ⟨62, _⟩ => ⟨S16384x4x1, .f32⟩
  | .hbm, ⟨63, _⟩ => ⟨S16384x4x128, .f32⟩
  | .hbm, ⟨64, _⟩ => ⟨S16384x4x128, .f32⟩
  | .hbm, ⟨65, _⟩ => ⟨S1x1x128, .f32⟩
  | .hbm, ⟨66, _⟩ => ⟨S16384x4x128, .f32⟩
  | .hbm, ⟨67, _⟩ => ⟨S16384x4x128, .f32⟩
  | .hbm, ⟨68, _⟩ => ⟨S16384x512, .f32⟩
  | .hbm, ⟨69, _⟩ => ⟨S16384x1024, .f32⟩
  | .hbm, ⟨70, _⟩ => ⟨S16384x64, .f32⟩
  | .hbm, ⟨71, _⟩ => ⟨S16384x16, .f32⟩
  | .hbm, ⟨72, _⟩ => ⟨S16384x512, .f32⟩
  | .hbm, ⟨73, _⟩ => ⟨S16384x4x128, .f32⟩
  | .hbm, ⟨74, _⟩ => ⟨S1x128, .f32⟩
  | .hbm, ⟨75, _⟩ => ⟨S128, .f32⟩
  | .hbm, ⟨76, _⟩ => ⟨S16384x4x128, .f32⟩
  | .hbm, ⟨77, _⟩ => ⟨S_, .f32⟩
  | .hbm, ⟨78, _⟩ => ⟨S16384x4, .f32⟩
  | .hbm, ⟨79, _⟩ => ⟨S16384x4x1, .f32⟩
  | .hbm, ⟨80, _⟩ => ⟨S_, .f32⟩
  | .hbm, ⟨81, _⟩ => ⟨S16384x4x1, .f32⟩
  | .hbm, ⟨82, _⟩ => ⟨S16384x4x1, .f32⟩
  | .hbm, ⟨83, _⟩ => ⟨S_, .f32⟩
  | .hbm, ⟨84, _⟩ => ⟨S16384x4x1, .f32⟩
  | .hbm, ⟨85, _⟩ => ⟨S16384x4x1, .f32⟩
  | .hbm, ⟨86, _⟩ => ⟨S16384x4x1, .f32⟩
  | .hbm, ⟨87, _⟩ => ⟨S16384x4x128, .f32⟩
  | .hbm, ⟨88, _⟩ => ⟨S16384x4x128, .f32⟩
  | .hbm, ⟨89, _⟩ => ⟨S1x1x128, .f32⟩
  | .hbm, ⟨90, _⟩ => ⟨S16384x4x128, .f32⟩
  | .hbm, ⟨91, _⟩ => ⟨S16384x4x128, .f32⟩
  | .hbm, ⟨92, _⟩ => ⟨S_, .f32⟩
  | .hbm, ⟨93, _⟩ => ⟨S16384x4x128, .f32⟩
  | .hbm, ⟨94, _⟩ => ⟨S16384x4x128, .f32⟩
  | .hbm, ⟨95, _⟩ => ⟨S16384x1536, .f32⟩
  | .hbm, ⟨96, _⟩ => ⟨S16384x512, .f32⟩
  | .hbm, ⟨97, _⟩ => ⟨S16384x512, .f32⟩
  | .hbm, ⟨98, _⟩ => ⟨S16384x4096, .f32⟩
  | .hbm, ⟨99, _⟩ => ⟨S16384x4096, .bf16⟩
  | .hbm, ⟨100, _⟩ => ⟨S_, .f32⟩
  | .hbm, ⟨101, _⟩ => ⟨S16384x16, .f32⟩
  | .hbm, ⟨102, _⟩ => ⟨S16384x16, .f32⟩
  | .hbm, ⟨103, _⟩ => ⟨S_, .f32⟩
  | .hbm, ⟨104, _⟩ => ⟨S16384x48, .f32⟩
  | .hbm, ⟨105, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_13 : Ref sig .tc := ⟨.hbm, 100, rfl⟩
abbrev main_v80 : Ref sig .tc := ⟨.hbm, 101, rfl⟩
abbrev main_v81 : Ref sig .tc := ⟨.hbm, 102, rfl⟩
abbrev main_cst_14 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Proof.FfnSpec.lean ====
/-
  The half-step as a function of its operands: `x + 1/2 · SwiGLU(RMSNorm(x))`, one row and one column at a time, and
  the two facts that join a kernel summing over slices of the hidden units to it: a sum over the first `512 (n + 1)`
  units is the one over the first `512 n` and the next slice, and a nonnegative finite factor leaves a sum.
-/
module

public import Idealize.ShloMosaic.PureOps.Ideal.Laws
public import Idealize.ShloMosaic.Lib.ValueIdx

@[expose] public section

noncomputable section

open Idealize.ShloMosaic

namespace Cert.FfnSpec

/-- The normalised row: `x` over the root of the row's mean square (with the printed `1e-6`), times the gain. -/
def nrm (X : Fin 16384 → Fin 2048 → EReal) (G : Fin 2048 → EReal) (r : Fin 16384) (k : Fin 2048) : EReal :=
  X r k * Ideal.rsqrt (Ideal.div (∑ l : Fin 2048, X r l * X r l) (Ideal.ofBits FTy.f32 1157627904#32) + Ideal.ofBits FTy.f32 897988541#32) * G k

/-- A hidden unit: the gate's SiLU times the up product. -/
def hid (X : Fin 16384 → Fin 2048 → EReal) (G : Fin 2048 → EReal) (WG WU : Fin 2048 → Fin 5632 → EReal) (r : Fin 16384) (f : Fin 5632) : EReal :=
  (∑ k : Fin 2048, nrm X G r k * WG k f) * Ideal.logistic (∑ k : Fin 2048, nrm X G r k * WG k f) * ∑ k : Fin 2048, nrm X G r k * WU k f

/-- A hidden unit's share of an output element, the down weight halved as the kernel is handed it; `0` past the last unit. -/
def share (X : Fin 16384 → Fin 2048 → EReal) (G : Fin 2048 → EReal) (WG WU : Fin 2048 → Fin 5632 → EReal) (WD : Fin 5632 → Fin 2048 → EReal)
    (r : Fin 16384) (j : Fin 2048) (f : ℕ) : EReal :=
  if h : f < 5632 then hid X G WG WU r ⟨f, h⟩ * (Ideal.ofBits FTy.f32 1056964608#32 * WD ⟨f, h⟩ j) else 0

/-- The half-step: `x + 1/2 · ∑ hidden · down`. -/
def out (X : Fin 16384 → Fin 2048 → EReal) (G : Fin 2048 → EReal) (WG WU : Fin 2048 → Fin 5632 → EReal) (WD : Fin 5632 → Fin 2048 → EReal)
    (r : Fin 16384) (j : Fin 2048) : EReal :=
  X r j + Ideal.ofBits FTy.f32 1056964608#32 * ∑ f : Fin 5632, hid X G WG WU r f * WD f j

/-- A factor that is a nonnegative real leaves a finite sum. -/
theorem sum_factor {ι : Type*} (s : Finset ι) (c : EReal) (h0 : 0 ≤ c) (ht : c ≠ ⊤) (f : ι → EReal) :
    ∑ i ∈ s, c * f i = c * ∑ i ∈ s, f i := by
  classical
  induction s using Finset.induction_on with
  | empty => simp
  | insert a s ha ih => rw [Finset.sum_insert ha, Finset.sum_insert ha, ih, EReal.left_distrib_of_nonneg_of_ne_top h0 ht]

/-- The printed one half is the real one half. -/
theorem half_eq : Ideal.ofBits FTy.f32 1056964608#32 = ((1 / 2 : ℝ) : EReal) := by
  simp [Ideal.ofBits, Ideal.ieee]
  norm_num [← EReal.coe_mul]

/-- All the hidden units' shares, added to the row's element, are the half-step. -/
theorem sum_share (X : Fin 16384 → Fin 2048 → EReal) (G : Fin 2048 → EReal) (WG WU : Fin 2048 → Fin 5632 → EReal) (WD : Fin 5632 → Fin 2048 → EReal)
    (r : Fin 16384) (j : Fin 2048) :
    X r j + ∑ f ∈ Finset.range 5632, share X G WG WU WD r j f = out X G WG WU WD r j := by
  unfold out
  rw [Finset.sum_range, ← sum_factor _ _ (by rw [half_eq]; exact_mod_cast (by norm_num : (0 : ℝ) ≤ 1 / 2)) (by rw [half_eq]; exact EReal.coe_ne_top _)]
  refine congrArg _ (Finset.sum_congr rfl fun f _ => ?_)
  unfold share
  rw [dif_pos f.isLt]
  exact mul_left_comm _ _ _

/-- A slice of 512 hidden units, after the units before it. -/
theorem sum_slice (T : ℕ → EReal) (n : ℕ) :
    ∑ f ∈ Finset.range (512 * (n + 1)), T f = ∑ f ∈ Finset.range (512 * n), T f + ∑ q : Fin 512, T (512 * n + q.val) := by
  rw [Nat.mul_succ, Finset.sum_range_add, Finset.sum_range (fun x => T (512 * n + x))]

end Cert.FfnSpec

end
-- ==== Proof.FfnTile.lean ====
module

public import proofs.«01_k».proof.Proof.Gen.KernelIdeal.Value
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.KernelIdeal.Ffn

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A point that is not the first of its row block leaves, in the output block, what it held plus the
    step's product. -/
theorem out_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1024x2048 .f32) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S1x2048x512 .bf16) (x3 : Vec F S1x2048x512 .bf16) (x4 : Vec F S1x512x2048 .bf16) (xo5 : Vec F S1024x2048 .f32) (xs0 : Vec F S1024x2048 .bf16) :
    out0_B_5 c i arg2 harg2 arg3 harg3 arg4 harg4 arg5 harg5 arg6 harg6 arg7 harg7 arg8 harg8 hc0 x0 x1 x2 x3 x4 xo5 xs0
      = k0_pay3 xs0 x2 x3 xo5 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xs0)]
  unfold kernelRun0_B
  dsimp only
  rw [View.canon_unit_zero zero2]
  simp only [View.readAt_eq_ld, harg2.read_unread, harg3.read_unread, harg4.read_unread, harg5.read_unread, harg6.read_unread, harg7.read_unread, harg8.read_unread,
    View.ld_unit_zero (S := S1024x2048) zero2, View.ld_unit_zero (S := S1x2048) zero2, View.ld_unit_zero (S := S1x2048x512) zero3, View.ld_unit_zero (S := S1x512x2048) zero3, shapeCast_self]

/-- The first point of a row block leaves, in the output block, the rows plus the step's product, -/
theorem out_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1024x2048 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S1x2048x512 .bf16) (x3 : Vec F S1x2048x512 .bf16) (x4 : Vec F S1x512x2048 .bf16) :
    out0_A_5 c i arg2 harg2 arg3 harg3 arg4 harg4 arg5 harg5 arg6 harg6 arg7 harg7 arg8 harg8 hc0 x0 x1 x2 x3 x4
      = k0_pay3 (k0_pay2 x0 x1) x2 x3 (k0_pay1 x0) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1024x2048) zero2]
  simp only [View.readAt_eq_ld, harg2.read_unread, harg3.read_unread, harg4.read_unread, harg5.read_unread, harg6.read_unread, harg7.read_unread, harg8.read_unread,
    View.readCov_unit_zero (S := S1024x2048) _ zero2,
    View.ld_unit_zero (S := S1024x2048) zero2, View.ld_unit_zero (S := S1x2048) zero2, View.ld_unit_zero (S := S1x2048x512) zero3, View.ld_unit_zero (S := S1x512x2048) zero3, shapeCast_self]

/-- and, in the scratch, the normalised rows. -/
theorem scratch_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1024x2048 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S1x2048x512 .bf16) (x3 : Vec F S1x2048x512 .bf16) (x4 : Vec F S1x512x2048 .bf16) :
    sout0_A_0 c i arg2 harg2 arg3 harg3 arg4 harg4 arg5 harg5 arg6 harg6 arg7 harg7 arg8 harg8 hc0 x0 x1 x2 x3 x4
      = k0_pay2 x0 x1 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1024x2048) zero2]
  simp only [View.readAt_eq_ld, harg2.read_unread, harg3.read_unread,
    View.ld_unit_zero (S := S1024x2048) zero2, View.ld_unit_zero (S := S1x2048) zero2]

/-- The step's product at an index of the output block: the gated products of the row's hidden units in the
    step, through the step's rows of the down weights, added to what the block held. -/
theorem step_apply (h : Vec Ideal S1024x2048 .bf16) (wg wu : Vec Ideal S1x2048x512 .bf16) (acc : Vec Ideal S1024x2048 .f32)
    (wd : Vec Ideal S1x512x2048 .bf16) (r : Fin 1024) (j : Fin 2048) :
    k0_pay3 (F := Ideal) h wg wu acc wd (ix2 r j) = acc (ix2 r j) + ∑ q : Fin 512,
      ((∑ k : Fin 2048, h (ix2 r k) * wg (ix3 0 k q)) * Ideal.logistic (∑ k : Fin 2048, h (ix2 r k) * wg (ix3 0 k q))
        * ∑ k : Fin 2048, h (ix2 r k) * wu (ix3 0 k q)) * wd (ix3 0 q j) := by
  pointwise [k0_pay3]

/-- The normalised rows at an index: the row's element over the root of the row's mean square, times the gain. -/
theorem norm_apply (x : Vec Ideal S1024x2048 .f32) (g : Vec Ideal S1x2048 .f32) (r : Fin 1024) (k : Fin 2048) :
    k0_pay2 (F := Ideal) x g (ix2 r k) = x (ix2 r k)
      * Ideal.rsqrt (Ideal.div (∑ l : Fin 2048, x (ix2 r l) * x (ix2 r l)) (Ideal.ofBits FTy.f32 1157627904#32) + Ideal.ofBits FTy.f32 897988541#32)
      * g (ix2 0 k) := by
  pointwise [k0_pay2, k0_pay1]

/-- The first point's copy of the rows is the rows. -/
theorem copy_eq (x : Vec F S1024x2048 .f32) : k0_pay1 x = x := by
  unfold k0_pay1
  exact shapeCast_self ..

end Cert.KernelIdeal.Ffn

end
-- ==== Proof.FfnValue.lean ====
module

public import proofs.«01_k».proof.Proof.FfnSpec
public import proofs.«01_k».proof.Proof.FfnTile
public import Idealize.ShloMosaic.Lib.Tactic

@[expose] public section

set_option maxRecDepth 16384

noncomputable section

open Idealize.ShloMosaic Idealize.ShloMosaic.TcCoe Idealize.SL.Sem

namespace Cert.KernelIdeal.Ffn

open Cert.KernelIdeal Cert.KernelIdeal.Gen Cert.FfnSpec

variable (m : (ℓ : Loc nD τ sig) → Buf (Elt Ideal) ℓ)

/-! ## The arguments, as functions of their coordinates -/

/-- The rows: `x` with its batch and sequence axes as one. -/
def X (x : FVec Ideal S4x4096x2048 .f32) (r : Fin 16384) (k : Fin 2048) : EReal :=
  shapeCast S16384x2048 x shapeCasts_S4x4096x2048_S16384x2048 (ix2 r k)
/-- The first layer's gain, -/
def G (g : FVec Ideal S2x2048 .f32) (k : Fin 2048) : EReal := g (ix2 0 k)
/-- its gate or up weights, -/
def W (w : FVec Ideal S2x2048x5632 .f32) (k : Fin 2048) (f : Fin 5632) : EReal := w (ix3 0 k f)
/-- and its down weights. -/
def D (w : FVec Ideal S2x5632x2048 .f32) (f : Fin 5632) (j : Fin 2048) : EReal := w (ix3 0 f j)

/-! ## What the region finds in its operands -/

theorem rows_found (c : Dev nD) (x : FVec Ideal S4x4096x2048 .f32) (hx : m ((c.tc : Thread nD τ).loc main_arg0) = x) :
    @Eq (FVec Ideal S16384x2048 .f32) (V m c (Pipeline.arrRef spec0 0)) (shapeCast S16384x2048 x shapeCasts_S4x4096x2048_S16384x2048) := by
  subst hx
  show StableHlo.after hostOps0 (fun b => m (c, b)) (Proc.tc.devRef main_v5) = _
  simp only [hostOps0]
  after_results_simp <;> rfl

theorem gain_found (c : Dev nD) (g : FVec Ideal S2x2048 .f32) (hg : m ((c.tc : Thread nD τ).loc main_arg1) = g) :
    @Eq (FVec Ideal S1x2048 .f32) (V m c (Pipeline.arrRef spec0 1)) (shapeCast S1x2048 (shapeCast S2048 (extractStridedSlice S1x2048 ![0, 0] g slices_S2x2048_S1x2048_0_0) shapeCasts_S1x2048_S2048) shapeCasts_S2048_S1x2048) := by
  subst hg
  show StableHlo.after hostOps0 (fun b => m (c, b)) (Proc.tc.devRef main_v8) = _
  simp only [hostOps0]
  after_results_simp <;> rfl

theorem gate_found (c : Dev nD) (w : FVec Ideal S2x2048x5632 .f32) (hw : m ((c.tc : Thread nD τ).loc main_arg2) = w) :
    @Eq (FVec Ideal S2x2048x5632 .bf16) (V m c (Pipeline.arrRef spec0 2)) (truncf .bf16 w bitsLt_bf16_f32) := by
  subst hw
  show StableHlo.after hostOps0 (fun b => m (c, b)) (Proc.tc.devRef main_v0) = _
  simp only [hostOps0]
  after_results_simp <;> rfl

theorem up_found (c : Dev nD) (w : FVec Ideal S2x2048x5632 .f32) (hw : m ((c.tc : Thread nD τ).loc main_arg3) = w) :
    @Eq (FVec Ideal S2x2048x5632 .bf16) (V m c (Pipeline.arrRef spec0 3)) (truncf .bf16 w bitsLt_bf16_f32) := by
  subst hw
  show StableHlo.after hostOps0 (fun b => m (c, b)) (Proc.tc.devRef main_v1) = _
  simp only [hostOps0]
  after_results_simp <;> rfl

theorem down_found (c : Dev nD) (w : FVec Ideal S2x5632x2048 .f32) (hw : m ((c.tc : Thread nD τ).loc main_arg4) = w) :
    @Eq (FVec Ideal S2x5632x2048 .bf16) (V m c (Pipeline.arrRef spec0 4)) (truncf .bf16 (mulf (broadcastInDim S2x5632x2048 ![] bcast_S_S2x5632x2048 (constant S_ .f32 0x3F000000#32)) w) bitsLt_bf16_f32) := by
  subst hw
  show StableHlo.after hostOps0 (fun b => m (c, b)) (Proc.tc.devRef main_v4) = _
  simp only [hostOps0]
  after_results_simp <;> rfl

/-! ## The blocks a point reads -/

/-- The index maps, decided over the grid: the row block is the point's quotient by 11, the hidden slice its remainder. -/
theorem maps : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 11
    ∧ win0_3.index t (0 : Fin 3) = 0 ∧ win0_3.index t (1 : Fin 3) = 0 ∧ win0_3.index t (2 : Fin 3) = t.val % 11
    ∧ win0_4.index t (0 : Fin 3) = 0 ∧ win0_4.index t (1 : Fin 3) = t.val % 11 ∧ win0_4.index t (2 : Fin 3) = 0 :=
  (by decide +kernel : ∀ t : Fin grid0.N, _)

/-- Row `r` of the block of point `n`. -/
def rowOf (n : ℕ) (hn : n < cfg0.N) (r : Fin 1024) : Fin 16384 :=
  ⟨1024 * (n / 11) + r.val, by have h := lt_of_lt_of_eq hn (show cfg0.N = 176 from N_0); omega⟩
/-- Hidden unit `q` of the slice of point `n`. -/
def unitOf (n : ℕ) (q : Fin 512) : Fin 5632 :=
  ⟨512 * (n % 11) + q.val, by have := Nat.mod_lt n (show 0 < 11 by decide); omega⟩

theorem rows_block (c : Dev nD) (t : Fin cfg0.N) (x : FVec Ideal S4x4096x2048 .f32) (hx : m ((c.tc : Thread nD τ).loc main_arg0) = x)
    (r : Fin 1024) (k : Fin 2048) : (iblk m c 0 t : FVec Ideal S1024x2048 .f32) (ix2 r k) = X x (rowOf t.val t.isLt r) k := by
  show (V m c (Pipeline.arrRef spec0 0) : FVec Ideal S16384x2048 .f32) ((win0_0.rect t).emb (ix2 r k)) = _
  rw [rows_found m c x hx]
  unfold X
  refine congrArg _ ?_
  obtain ⟨e0, e1, -⟩ := maps t
  funext a; apply Fin.ext
  match a with
  | ⟨0, _⟩ => show win0_0.index t (0 : Fin 2) * 1024 + 1 * r.val = 1024 * (t.val / 11) + r.val; omega
  | ⟨1, _⟩ => show win0_0.index t (1 : Fin 2) * 2048 + 1 * k.val = k.val; omega

theorem gain_block (c : Dev nD) (t : Fin cfg0.N) (g : FVec Ideal S2x2048 .f32) (hg : m ((c.tc : Thread nD τ).loc main_arg1) = g)
    (k : Fin 2048) : (iblk m c 1 t : FVec Ideal S1x2048 .f32) (ix2 0 k) = G g k := by
  show (V m c (Pipeline.arrRef spec0 1) : FVec Ideal S1x2048 .f32) ((win0_1.rect t).emb (ix2 0 k)) = _
  rw [gain_found m c g hg]
  obtain ⟨-, -, e0, e1, -⟩ := maps t
  have h : (win0_1.rect t).emb (ix2 0 k) = ix2 0 k := by
    funext a; apply Fin.ext
    match a with
    | ⟨0, _⟩ => show win0_1.index t (0 : Fin 2) * 1 + 1 * 0 = 0; omega
    | ⟨1, _⟩ => show win0_1.index t (1 : Fin 2) * 2048 + 1 * k.val = k.val; omega
  rw [h]
  unfold G
  pointwise []

theorem gate_block (c : Dev nD) (t : Fin cfg0.N) (w : FVec Ideal S2x2048x5632 .f32) (hw : m ((c.tc : Thread nD τ).loc main_arg2) = w)
    (k : Fin 2048) (q : Fin 512) : (iblk m c 2 t : FVec Ideal S1x2048x512 .bf16) (ix3 0 k q) = W w k (unitOf t.val q) := by
  show (V m c (Pipeline.arrRef spec0 2) : FVec Ideal S2x2048x5632 .bf16) ((win0_2.rect t).emb (ix3 0 k q)) = _
  rw [gate_found m c w hw]
  unfold W
  show w _ = w _
  refine congrArg _ ?_
  obtain ⟨-, -, -, -, e0, e1, e2, -⟩ := maps t
  funext a; apply Fin.ext
  match a with
  | ⟨0, _⟩ => show win0_2.index t (0 : Fin 3) * 1 + 1 * 0 = 0; omega
  | ⟨1, _⟩ => show win0_2.index t (1 : Fin 3) * 2048 + 1 * k.val = k.val; omega
  | ⟨2, _⟩ => show win0_2.index t (2 : Fin 3) * 512 + 1 * q.val = 512 * (t.val % 11) + q.val; omega

theorem up_block (c : Dev nD) (t : Fin cfg0.N) (w : FVec Ideal S2x2048x5632 .f32) (hw : m ((c.tc : Thread nD τ).loc main_arg3) = w)
    (k : Fin 2048) (q : Fin 512) : (iblk m c 3 t : FVec Ideal S1x2048x512 .bf16) (ix3 0 k q) = W w k (unitOf t.val q) := by
  show (V m c (Pipeline.arrRef spec0 3) : FVec Ideal S2x2048x5632 .bf16) ((win0_3.rect t).emb (ix3 0 k q)) = _
  rw [up_found m c w hw]
  unfold W
  show w _ = w _
  refine congrArg _ ?_
  obtain ⟨-, -, -, -, -, -, -, e0, e1, e2, -⟩ := maps t
  funext a; apply Fin.ext
  match a with
  | ⟨0, _⟩ => show win0_3.index t (0 : Fin 3) * 1 + 1 * 0 = 0; omega
  | ⟨1, _⟩ => show win0_3.index t (1 : Fin 3) * 2048 + 1 * k.val = k.val; omega
  | ⟨2, _⟩ => show win0_3.index t (2 : Fin 3) * 512 + 1 * q.val = 512 * (t.val % 11) + q.val; omega

theorem down_block (c : Dev nD) (t : Fin cfg0.N) (w : FVec Ideal S2x5632x2048 .f32) (hw : m ((c.tc : Thread nD τ).loc main_arg4) = w)
    (q : Fin 512) (j : Fin 2048) : (iblk m c 4 t : FVec Ideal S1x512x2048 .bf16) (ix3 0 q j)
      = Ideal.ofBits FTy.f32 1056964608#32 * D w (unitOf t.val q) j := by
  show (V m c (Pipeline.arrRef spec0 4) : FVec Ideal S2x5632x2048 .bf16) ((win0_4.rect t).emb (ix3 0 q j)) = _
  rw [down_found m c w hw]
  obtain ⟨-, -, -, -, -, -, -, -, -, -, e0, e1, e2⟩ := maps t
  have h : (win0_4.rect t).emb (ix3 0 q j) = ix3 0 (unitOf t.val q) j := by
    funext a; apply Fin.ext
    match a with
    | ⟨0, _⟩ => show win0_4.index t (0 : Fin 3) * 1 + 1 * 0 = 0; omega
    | ⟨1, _⟩ => show win0_4.index t (1 : Fin 3) * 512 + 1 * q.val = 512 * (t.val % 11) + q.val; omega
    | ⟨2, _⟩ => show win0_4.index t (2 : Fin 3) * 2048 + 1 * j.val = j.val; omega
  rw [h]
  unfold D
  pointwise []

/-! ## What each point leaves -/

/-- The scratch of normalised rows at point `n`'s row block. -/
def rowsNormed (x : FVec Ideal S4x4096x2048 .f32) (g : FVec Ideal S2x2048 .f32) (n : ℕ) (hn : n < cfg0.N) : Vec Ideal S1024x2048 .bf16 :=
  fun y => nrm (X x) (G g) (rowOf n hn (y 0)) (y 1)

/-- The output block after point `n`: the rows, and the shares of the hidden units of the slices so far. -/
def rowsSummed (x : FVec Ideal S4x4096x2048 .f32) (g : FVec Ideal S2x2048 .f32) (wg wu : FVec Ideal S2x2048x5632 .f32) (wd : FVec Ideal S2x5632x2048 .f32)
    (n : ℕ) (hn : n < cfg0.N) : Vec Ideal S1024x2048 .f32 :=
  fun y => X x (rowOf n hn (y 0)) (y 1) + ∑ f ∈ Finset.range (512 * (n % 11 + 1)), share (X x) (G g) (W wg) (W wu) (D wd) (rowOf n hn (y 0)) (y 1) f

/-- The normalised rows of the point's block. -/
theorem norm_point (c : Dev nD) (t : Fin cfg0.N) (x : FVec Ideal S4x4096x2048 .f32) (g : FVec Ideal S2x2048 .f32)
    (hx : m ((c.tc : Thread nD τ).loc main_arg0) = x) (hg : m ((c.tc : Thread nD τ).loc main_arg1) = g) :
    k0_pay2 (F := Ideal) (iblk m c 0 t) (iblk m c 1 t) = rowsNormed x g t.val t.isLt := by
  funext y
  obtain ⟨r, k, rfl⟩ : ∃ (r : Fin 1024) (k : Fin 2048), y = ix2 r k := ⟨y 0, y 1, eq_ix2 y⟩
  show k0_pay2 (F := Ideal) (iblk m c 0 t) (iblk m c 1 t) (ix2 r k) = nrm (X x) (G g) (rowOf t.val t.isLt r) k
  rw [norm_apply, gain_block m c t g hg]
  simp only [rows_block m c t x hx]
  rfl

/-- One step over a block holding the shares so far of the rows: the shares of the step's slice are added. -/
theorem step_point (c : Dev nD) (t : Fin cfg0.N) (x : FVec Ideal S4x4096x2048 .f32) (g : FVec Ideal S2x2048 .f32) (wg wu : FVec Ideal S2x2048x5632 .f32) (wd : FVec Ideal S2x5632x2048 .f32)
    (hwg : m ((c.tc : Thread nD τ).loc main_arg2) = wg) (hwu : m ((c.tc : Thread nD τ).loc main_arg3) = wu) (hwd : m ((c.tc : Thread nD τ).loc main_arg4) = wd)
    (acc : Vec Ideal S1024x2048 .f32) (hacc : ∀ r j, acc (ix2 r j) = X x (rowOf t.val t.isLt r) j
      + ∑ f ∈ Finset.range (512 * (t.val % 11)), share (X x) (G g) (W wg) (W wu) (D wd) (rowOf t.val t.isLt r) j f) :
    k0_pay3 (F := Ideal) (rowsNormed x g t.val t.isLt) (iblk m c 2 t) (iblk m c 3 t) acc (iblk m c 4 t) = rowsSummed x g wg wu wd t.val t.isLt := by
  funext y
  obtain ⟨r, j, rfl⟩ : ∃ (r : Fin 1024) (j : Fin 2048), y = ix2 r j := ⟨y 0, y 1, eq_ix2 y⟩
  show k0_pay3 (F := Ideal) (rowsNormed x g t.val t.isLt) (iblk m c 2 t) (iblk m c 3 t) acc (iblk m c 4 t) (ix2 r j)
    = X x (rowOf t.val t.isLt r) j + ∑ f ∈ Finset.range (512 * (t.val % 11 + 1)), share (X x) (G g) (W wg) (W wu) (D wd) (rowOf t.val t.isLt r) j f
  rw [step_apply, hacc, sum_slice, add_assoc]
  refine congrArg₂ _ rfl (congrArg₂ _ rfl (Finset.sum_congr rfl fun q _ => ?_))
  simp only [gate_block m c t wg hwg, up_block m c t wu hwu, down_block m c t wd hwd]
  unfold share
  rw [dif_pos (show 512 * (t.val % 11) + q.val < 5632 from (unitOf t.val q).isLt)]
  rfl

/-- What the output block and the scratch hold after each point. -/
theorem after_point (c : Dev nD) (x : FVec Ideal S4x4096x2048 .f32) (g : FVec Ideal S2x2048 .f32) (wg wu : FVec Ideal S2x2048x5632 .f32) (wd : FVec Ideal S2x5632x2048 .f32)
    (hx : m ((c.tc : Thread nD τ).loc main_arg0) = x) (hg : m ((c.tc : Thread nD τ).loc main_arg1) = g)
    (hwg : m ((c.tc : Thread nD τ).loc main_arg2) = wg) (hwu : m ((c.tc : Thread nD τ).loc main_arg3) = wu) (hwd : m ((c.tc : Thread nD τ).loc main_arg4) = wd) :
    ∀ (n : ℕ) (hn : n < cfg0.N), outsAt0 m c n hn = (rowsSummed x g wg wu wd n hn, rowsNormed x g n hn) := by
  have first : ∀ (t : Fin cfg0.N), t.val % 11 = 0 → outsAt0 m c t.val t.isLt = (rowsSummed x g wg wu wd t.val t.isLt, rowsNormed x g t.val t.isLt) := by
    intro t ht
    rw [outsAt0_A m c t ht, out_first, scratch_first, norm_point m c t x g hx hg, copy_eq]
    refine congrArg₂ Prod.mk (step_point m c t x g wg wu wd hwg hwu hwd _ fun r j => ?_) rfl
    rw [ht, rows_block m c t x hx]
    simp
  intro n
  induction n with
  | zero => intro hn; exact first ⟨0, hn⟩ rfl
  | succ n ih =>
    intro hn
    by_cases h0 : (n + 1) % 11 = 0
    · exact first ⟨n + 1, hn⟩ h0
    · have hq : (n + 1) / 11 = n / 11 := by omega
      have hm : (n + 1) % 11 = n % 11 + 1 := by omega
      have hr : ∀ r, rowOf (n + 1) hn r = rowOf n (Nat.lt_of_succ_lt hn) r := fun r => Fin.ext (by show 1024 * ((n + 1) / 11) + r.val = 1024 * (n / 11) + r.val; rw [hq])
      rw [outsAt0_B m c ⟨n + 1, hn⟩ h0, out_later]
      show (k0_pay3 (outsAt0 m c n _).2 _ _ (outsAt0 m c n _).1 _, (outsAt0 m c n _).2) = _
      rw [ih (Nat.lt_of_succ_lt hn)]
      have hN : rowsNormed x g n (Nat.lt_of_succ_lt hn) = rowsNormed x g (n + 1) hn := by
        funext y
        exact congrArg (fun r => nrm (X x) (G g) r (y 1)) (hr (y 0)).symm
      dsimp only
      rw [hN]
      refine congrArg₂ Prod.mk (step_point m c ⟨n + 1, hn⟩ x g wg wu wd hwg hwu hwd _ fun r j => ?_) rfl
      show X x (rowOf n _ r) j + ∑ f ∈ Finset.range (512 * (n % 11 + 1)), share (X x) (G g) (W wg) (W wu) (D wd) (rowOf n _ r) j f
        = X x (rowOf (n + 1) hn r) j + ∑ f ∈ Finset.range (512 * ((n + 1) % 11)), share (X x) (G g) (W wg) (W wu) (D wd) (rowOf (n + 1) hn r) j f
      rw [hr, hm]

/-! ## The result array -/

/-- The result: the half-step at every row and column. -/
def result (x : FVec Ideal S4x4096x2048 .f32) (g : FVec Ideal S2x2048 .f32) (wg wu : FVec Ideal S2x2048x5632 .f32) (wd : FVec Ideal S2x5632x2048 .f32) : FVec Ideal S16384x2048 .f32 :=
  fun i => out (X x) (G g) (W wg) (W wu) (D wd) (i 0) (i 1)

/-- The array the run leaves is the half-step of the arguments. -/
theorem final_eq (c : Dev nD) (x : FVec Ideal S4x4096x2048 .f32) (g : FVec Ideal S2x2048 .f32) (wg wu : FVec Ideal S2x2048x5632 .f32) (wd : FVec Ideal S2x5632x2048 .f32)
    (hx : m ((c.tc : Thread nD τ).loc main_arg0) = x) (hg : m ((c.tc : Thread nD τ).loc main_arg1) = g)
    (hwg : m ((c.tc : Thread nD τ).loc main_arg2) = wg) (hwu : m ((c.tc : Thread nD τ).loc main_arg3) = wu) (hwd : m ((c.tc : Thread nD τ).loc main_arg4) = wd) :
    Value.G5 m c = result x g wg wu wd := by
  show @Eq (FVec Ideal S16384x2048 .f32) _ _
  funext i
  obtain ⟨r, j, rfl⟩ : ∃ (r : Fin 16384) (j : Fin 2048), i = ix2 r j := ⟨i 0, i 1, eq_ix2 i⟩
  generalize hi : (ix2 r j : S16384x2048.Idx) = i
  have hi0 : i 0 = r := by rw [← hi]; rfl
  have hi1 : i 1 = j := by rw [← hi]; rfl
  have h0 : (i 0).val < 16384 := (i 0).isLt
  have h1 : (i 1).val < 2048 := (i 1).isLt
  have hp : Value.pt5Of i = 11 * ((i 0).val / 1024) + 10 := by
    show 11 * (1 * ((i 0).val / 1024 - 0) + 1 * ((i 1).val / 2048 - 0)) + 10 = _
    omega
  have hlt : Value.pt5Of i < cfg0.N := by rw [hp, show cfg0.N = 176 from N_0]; omega
  unfold Value.G5
  rw [dif_pos hlt, ← Value.outsAt0_sweep m c _ hlt, after_point m c x g wg wu wd hx hg hwg hwu hwd]
  have hrow : rowOf (Value.pt5Of i) hlt (Value.loc5Of i 0) = r := Fin.ext (by
    rw [← hi0]
    show 1024 * (Value.pt5Of i / 11) + (i 0).val % 1024 = (i 0).val
    omega)
  have hcol : Value.loc5Of i 1 = j := Fin.ext (by rw [← hi1]; show (i 1).val % 2048 = (i 1).val; omega)
  have hall : 512 * (Value.pt5Of i % 11 + 1) = 5632 := by omega
  have key : ∀ (r' : Fin 16384) (j' : Fin 2048) (n : ℕ), r' = r → j' = j → n = 5632 →
      X x r' j' + ∑ f ∈ Finset.range n, share (X x) (G g) (W wg) (W wu) (D wd) r' j' f = out (X x) (G g) (W wg) (W wu) (D wd) r j := by
    rintro _ _ _ rfl rfl rfl
    exact sum_share ..
  have hres : result x g wg wu wd i = out (X x) (G g) (W wg) (W wu) (D wd) r j := by rw [← hi]; rfl
  rw [hres]
  exact key _ _ _ hrow hcol hall

end Cert.KernelIdeal.Ffn

/-! ## The reference -/

namespace Cert.ReferenceIdeal.Ffn

open Cert.ReferenceIdeal Cert.ReferenceIdeal.Gen

/-- The reference's result is the half-step of its arguments. -/
theorem result_eq (m : (ℓ : Loc nD τ sig) → Buf (Elt Ideal) ℓ) (c : Dev nD)
    (x : FVec Ideal S4x4096x2048 .f32) (g : FVec Ideal S2x2048 .f32) (wg wu : FVec Ideal S2x2048x5632 .f32) (wd : FVec Ideal S2x5632x2048 .f32)
    (hx : m ((c.tc : Thread nD τ).loc main_arg0) = x) (hg : m ((c.tc : Thread nD τ).loc main_arg1) = g)
    (hwg : m ((c.tc : Thread nD τ).loc main_arg2) = wg) (hwu : m ((c.tc : Thread nD τ).loc main_arg3) = wu) (hwd : m ((c.tc : Thread nD τ).loc main_arg4) = wd) :
    Value.res_out0 (F := Ideal) m c = Cert.KernelIdeal.Ffn.result x g wg wu wd := by
  unfold Value.res_out0 Value.res_main_v29
  rw [hx, hg, hwg, hwu, hwd]
  clear hx hg hwg hwu hwd
  show @Eq (FVec Ideal S16384x2048 .f32) _ _
  unfold Cert.KernelIdeal.Ffn.result Cert.FfnSpec.out Cert.FfnSpec.hid Cert.FfnSpec.nrm Cert.KernelIdeal.Ffn.X Cert.KernelIdeal.Ffn.G Cert.KernelIdeal.Ffn.W Cert.KernelIdeal.Ffn.D
  generalize (shapeCast S16384x2048 x shapeCasts_S4x4096x2048_S16384x2048) = x2
  funext i
  obtain ⟨r, j, rfl⟩ : ∃ (r : Fin 16384) (j : Fin 2048), i = ix2 r j := ⟨i 0, i 1, eq_ix2 i⟩
  pointwise []
  rfl

end Cert.ReferenceIdeal.Ffn

end
-- ==== Proof.ProjAIdealBase.lean ====
module

public import proofs.«01_k».proof.Proof.Gen.Kernel2Ideal.Launch
public import proofs.«01_k».proof.Proof.Gen.Kernel2Ideal.Skeleton
public import proofs.«01_k».proof.Proof.Gen.Kernel2Ideal
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384
set_option maxHeartbeats 1600000

noncomputable section

namespace Cert.Kernel2Ideal.ProjA

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- When the pipeline fetches this window. -/
theorem fetch0_0 (a : (pcfg0 (F := F)).Adm) : ∀ t : Fin (cfg0 a).N, ((cfg0 a).win 0).fetch t = true ↔ t.val % 5 = 0 :=
  (fun t => Pipeline.Window.fetchOf_reads cc0_transform_0 reads0_0 hreads0_0 0 (by decide) (by decide) (Pipeline.Window.sep_of_coord cc0_transform_0 0 0 (fun _ => rfl) (by decide)) (P := 5) (by decide) t : ∀ t : Fin grid0.N, Pipeline.Window.fetchOf grid0 false cc0_transform_0 t = true ↔ t.val % 5 = 0)

/-- When the pipeline fetches this window. -/
theorem fetch0_1 (a : (pcfg0 (F := F)).Adm) : ∀ t : Fin (cfg0 a).N, ((cfg0 a).win 1).fetch t = true ↔ t.val % 80 = 0 :=
  (fun t => Pipeline.Window.fetchOf_const cc0_transform_1 (fun _ _ => rfl) (n := 80) (by decide) t : ∀ t : Fin grid0.N, Pipeline.Window.fetchOf grid0 false cc0_transform_1 t = true ↔ t.val % 80 = 0)

/-- When the pipeline fetches this window. -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 2 (fun _ => rfl) (by decide)) (P := 1) (by decide) t).mpr (Nat.mod_one _) : ∀ t : Fin grid0.N, Pipeline.Window.fetchOf grid0 false cc0_transform_2 t = true)

/-- When the pipeline fetches this window. -/
theorem fetch0_3 (a : (pcfg0 (F := F)).Adm) : ∀ t : Fin (cfg0 a).N, ((cfg0 a).win 3).fetch t = true ↔ t.val % 80 = 0 :=
  (fun t => Pipeline.Window.fetchOf_const cc0_transform_3 (fun _ _ => rfl) (n := 80) (by decide) t : ∀ t : Fin grid0.N, Pipeline.Window.fetchOf grid0 false cc0_transform_3 t = true ↔ t.val % 80 = 0)

/-- When the pipeline fetches this window. -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)

/-- When the pipeline writes this window back. -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The body as the pipeline calls it at point `t`. -/
abbrev bodyAt0 (a : (pcfg0 (F := F)).Adm) (t : Fin (cfg0 a).N) : Prog (TpuEff nD τ sig (Elt F) Λ₀ .tc) PUnit :=
  cc0_proj (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

/-- What the host lines before the call leave in the buffer `b`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in

/-- The host lines run to the call, leaving `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The host lines leave this argument as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The prefetched table as the call finds it. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S10 .i32 := Memref.whole main_c
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window holds its block when the body starts. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The frame from what the pipeline guarantees of the arrays. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

abbrev cond0_0 (i : grid0.Coords) : Prop := (Scalar.cmpi .ne (Scalar.extui (Scalar.cmpi .eq (BitVec.ofNat 32 (i 1).val) 0#32)) 0#32) = 1#1

/-- The first condition holds at the first column block of each row block. -/
theorem hcond0_0 : ∀ t : Fin grid0.N, cond0_0 (grid0.coords t) ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

theorem liveAt0_0 (hO : Ok m) : ∀ t : Fin (cfgM m hO).N, (cfgM m hO).idle 0 (grid0.coords t) = false :=
  (fun _ => rfl : ∀ t : Fin grid0.N, idle0 (tbl m) 0 (grid0.coords t) = false)

theorem liveAt0_1 (hO : Ok m) : ∀ t : Fin (cfgM m hO).N, (cfgM m hO).idle 1 (grid0.coords t) = false :=
  (fun _ => rfl : ∀ t : Fin grid0.N, idle0 (tbl m) 1 (grid0.coords t) = false)

theorem liveAt0_2 (hO : Ok m) : ∀ t : Fin (cfgM m hO).N, (cfgM m hO).idle 2 (grid0.coords t) = false :=
  (fun _ => rfl : ∀ t : Fin grid0.N, idle0 (tbl m) 2 (grid0.coords t) = false)

theorem liveAt0_3 (hO : Ok m) : ∀ t : Fin (cfgM m hO).N, (cfgM m hO).idle 3 (grid0.coords t) = false :=
  (fun _ => rfl : ∀ t : Fin grid0.N, idle0 (tbl m) 3 (grid0.coords t) = false)

theorem liveAt0_4 (hO : Ok m) : ∀ t : Fin (cfgM m hO).N, (cfgM m hO).idle 4 (grid0.coords t) = false :=
  (fun _ => rfl : ∀ t : Fin grid0.N, idle0 (tbl m) 4 (grid0.coords t) = false)

abbrev VO0_5 : View sig .tc .vmem S1024x1024 .bf16 := (Memref.whole cc0_stg5_0 : Memref sig .tc .vmem S1024x1024 .bf16).view

abbrev ms0_0 (hO : Ok m) (t : Fin (cfgM m hO).N) : Memref sig .tc .vmem S1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x128x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x1024 .bf16 := spec0_5.stage ((cfgM m hO).slots t 5)
abbrev hs0_5 (hO : Ok m) (t : Fin (cfgM m hO).N) : (ms0_5 m hO t).IsWhole := hstage0_5 (((cfgM m hO).slots t 5).cast nbuf0_5)

/-- The group-matrix index the table gives lies inside the window at every point. -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S10) (k0_off1 (grid0.coords t)) S1.size (k0_off1_inb (grid0.coords t))).toLoadRect (tbl m 0) (Shape.Idx.first (numel1_S1.symm ▸ Nat.one_pos)))
    ∧ k0_chk2 (tbM0_0.view.readAt (Elt F) (Rect.unit (s := S10) (k0_off3 (grid0.coords t)) S1.size (k0_off3_inb (grid0.coords t))).toLoadRect (tbl m 0) (Shape.Idx.first (numel1_S1.symm ▸ Nat.one_pos)))

abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S10) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S10) (k0_off1 (grid0.coords t)) S1.size (k0_off1_inb (grid0.coords t))).toLoadRect (tbl m 0) (Shape.Idx.first (numel1_S1.symm ▸ Nat.one_pos))) := (hH c t).1

abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S10) (k0_off3 (grid0.coords t)) S1.size (k0_off3_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S10) (k0_off3 (grid0.coords t)) S1.size (k0_off3_inb (grid0.coords t))).toLoadRect (tbl m 0) (Shape.Idx.first (numel1_S1.symm ▸ Nat.one_pos))) := (hH c t).2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t) :
    Hyps m hO := fun c t =>
  And.intro (p0 c t) (p1 c t)

abbrev scM0_0 : Memref sig .tc .vmem S1024x2048 .bf16 := Memref.whole cc0_scratch0

abbrev VS0_0 : View sig .tc .vmem S1024x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The table of section kinds: ten words, two for each column block. -/
theorem tbl_eq : tbl m 0 = (fun i : S10.Idx => lit0 (S10.rowMajor i)) := by
  show V m 0 main_c = _
  unfold V
  simp only [hostOps0, hostOps0_1, hostOps0_2, hostOps0_3, hostOps0_4, hostOps0_5, hostOps0_6, List.flatten_cons, List.flatten_nil, List.append_nil, List.cons_append, List.nil_append]
  rw [StableHlo.after_cons]
  refine (StableHlo.after_of_forall_not_mem (b := Proc.devRef .tc main_c) _ _ (List.forall_iff_forall_mem.mp ?_)).trans (StableHlo.nullary_result' _ _ _)
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- The word the body reads for the first section at a point. -/
abbrev word0 (c : Dev nD) (xt0 : TbBuf0 (F := F) c tbM0_0) (i : grid0.Coords) : BitVec 32 :=
  tbM0_0.view.readAt (Elt F) (Rect.unit (s := S10) (k0_off1 i) S1.size (k0_off1_inb i)).toLoadRect xt0 (Shape.Idx.first (numel1_S1.symm ▸ Nat.one_pos))

/-- The word the body reads for the second section at a point. -/
abbrev word1 (c : Dev nD) (xt0 : TbBuf0 (F := F) c tbM0_0) (i : grid0.Coords) : BitVec 32 :=
  tbM0_0.view.readAt (Elt F) (Rect.unit (s := S10) (k0_off3 i) S1.size (k0_off3_inb i)).toLoadRect xt0 (Shape.Idx.first (numel1_S1.symm ▸ Nat.one_pos))

/-- The first section's kind as a number of the column block. -/
theorem word0_eq (c : Dev nD) (t : Fin grid0.N) :
    word0 c (tbl m 0) (grid0.coords t) = lit0 ⟨2 * (t.val % 5), by omega⟩ := by
  rw [tbl_eq]
  exact (by decide +kernel : ∀ t : Fin grid0.N, lit0 (S10.rowMajor ((Rect.unit (s := S10) (k0_off1 (grid0.coords t)) S1.size (k0_off1_inb (grid0.coords t))).toLoadRect.idx (Shape.Idx.first (numel1_S1.symm ▸ Nat.one_pos)))) = lit0 ⟨2 * (t.val % 5), by omega⟩) t

/-- The second section's kind as a number of the column block. -/
theorem word1_eq (c : Dev nD) (t : Fin grid0.N) :
    word1 c (tbl m 0) (grid0.coords t) = lit0 ⟨2 * (t.val % 5) + 1, by omega⟩ := by
  rw [tbl_eq]
  exact (by decide +kernel : ∀ t : Fin grid0.N, lit0 (S10.rowMajor ((Rect.unit (s := S10) (k0_off3 (grid0.coords t)) S1.size (k0_off3_inb (grid0.coords t))).toLoadRect.idx (Shape.Idx.first (numel1_S1.symm ▸ Nat.one_pos)))) = lit0 ⟨2 * (t.val % 5) + 1, by omega⟩) t

/-- The second condition of the body: the first section's kind is 0. -/
abbrev cond0_1 (c : Dev nD) (xt0 : TbBuf0 (F := F) c tbM0_0) (i : grid0.Coords) : Prop := k0_cond2 (word0 c xt0 i) = 1#1
/-- The third condition of the body: the first section's kind is not 0. -/
abbrev cond0_2 (c : Dev nD) (xt0 : TbBuf0 (F := F) c tbM0_0) (i : grid0.Coords) : Prop := k0_cond3 (word0 c xt0 i) = 1#1
/-- The fourth condition of the body: the second section's kind is 0. -/
abbrev cond0_3 (c : Dev nD) (xt0 : TbBuf0 (F := F) c tbM0_0) (i : grid0.Coords) : Prop := k0_cond4 (word1 c xt0 i) = 1#1
/-- The fifth condition of the body: the second section's kind is not 0. -/
abbrev cond0_4 (c : Dev nD) (xt0 : TbBuf0 (F := F) c tbM0_0) (i : grid0.Coords) : Prop := k0_cond5 (word1 c xt0 i) = 1#1

/-- The second condition holds at the last two column blocks. -/
theorem hcond0_1 (c : Dev nD) (t : Fin grid0.N) : cond0_1 c (tbl m 0) (grid0.coords t) ↔ 3 ≤ t.val % 5 := by
  unfold cond0_1; rw [word0_eq]
  exact (by decide +kernel : ∀ t : Fin grid0.N, k0_cond2 (lit0 ⟨2 * (t.val % 5), by omega⟩) = 1#1 ↔ 3 ≤ t.val % 5) t
/-- The third condition holds at the first three column blocks. -/
theorem hcond0_2 (c : Dev nD) (t : Fin grid0.N) : cond0_2 c (tbl m 0) (grid0.coords t) ↔ t.val % 5 ≤ 2 := by
  unfold cond0_2; rw [word0_eq]
  exact (by decide +kernel : ∀ t : Fin grid0.N, k0_cond3 (lit0 ⟨2 * (t.val % 5), by omega⟩) = 1#1 ↔ t.val % 5 ≤ 2) t
/-- The fourth condition holds at the fourth column block. -/
theorem hcond0_3 (c : Dev nD) (t : Fin grid0.N) : cond0_3 c (tbl m 0) (grid0.coords t) ↔ t.val % 5 = 3 := by
  unfold cond0_3; rw [word1_eq]
  exact (by decide +kernel : ∀ t : Fin grid0.N, k0_cond4 (lit0 ⟨2 * (t.val % 5) + 1, by omega⟩) = 1#1 ↔ t.val % 5 = 3) t
/-- The fifth condition holds at every other column block. -/
theorem hcond0_4 (c : Dev nD) (t : Fin grid0.N) : cond0_4 c (tbl m 0) (grid0.coords t) ↔ t.val % 5 ≠ 3 := by
  unfold cond0_4; rw [word1_eq]
  exact (by decide +kernel : ∀ t : Fin grid0.N, k0_cond5 (lit0 ⟨2 * (t.val % 5) + 1, by omega⟩) = 1#1 ↔ t.val % 5 ≠ 3) t

/-- The result's window is stored into at every point. -/
theorem liveAt0_5 (hO : Ok m) (t : Fin (cfgM m hO).N) : (cfgM m hO).idle 5 (grid0.coords t) = false := by
  have a0 : ∀ t : Fin grid0.N, (tbl m).atD 0 (k0_off1 (grid0.coords t)) = lit0 ⟨2 * (t.val % 5), by omega⟩ := fun t => by
    refine (dif_pos (by exact (by decide +kernel : ∀ t : Fin grid0.N, ∀ a : Fin 1, k0_off1 (grid0.coords t) a + 1 ≤ S10.size a) t)).trans ?_
    refine (congrFun (tbl_eq m) _).trans ?_
    exact (by decide +kernel : ∀ t : Fin grid0.N, lit0 (S10.rowMajor (fun a => ⟨k0_off1 (grid0.coords t) a, (by decide +kernel : ∀ t : Fin grid0.N, ∀ a : Fin 1, k0_off1 (grid0.coords t) a + 1 ≤ S10.size a) t a⟩)) = lit0 ⟨2 * (t.val % 5), by omega⟩) t
  have a1 : ∀ t : Fin grid0.N, (tbl m).atD 0 (k0_off3 (grid0.coords t)) = lit0 ⟨2 * (t.val % 5) + 1, by omega⟩ := fun t => by
    refine (dif_pos (by exact (by decide +kernel : ∀ t : Fin grid0.N, ∀ a : Fin 1, k0_off3 (grid0.coords t) a + 1 ≤ S10.size a) t)).trans ?_
    refine (congrFun (tbl_eq m) _).trans ?_
    exact (by decide +kernel : ∀ t : Fin grid0.N, lit0 (S10.rowMajor (fun a => ⟨k0_off3 (grid0.coords t) a, (by decide +kernel : ∀ t : Fin grid0.N, ∀ a : Fin 1, k0_off3 (grid0.coords t) a + 1 ≤ S10.size a) t a⟩)) = lit0 ⟨2 * (t.val % 5) + 1, by omega⟩) t
  have h : ∀ t : Fin grid0.N, idle0 (tbl m) 5 (grid0.coords t) = false := fun t => by
    show (!(k0_cond2 ((tbl m).atD 0 (k0_off1 (grid0.coords t))) == 1#1) && !(k0_cond3 ((tbl m).atD 0 (k0_off1 (grid0.coords t))) == 1#1) && !(k0_cond4 ((tbl m).atD 0 (k0_off3 (grid0.coords t))) == 1#1) && !(k0_cond5 ((tbl m).atD 0 (k0_off3 (grid0.coords t))) == 1#1)) = false
    rw [a0, a1]
    exact (by decide +kernel : ∀ t : Fin grid0.N, (!(k0_cond2 (lit0 ⟨2 * (t.val % 5), by omega⟩) == 1#1) && !(k0_cond3 (lit0 ⟨2 * (t.val % 5), by omega⟩) == 1#1) && !(k0_cond4 (lit0 ⟨2 * (t.val % 5) + 1, by omega⟩) == 1#1) && !(k0_cond5 (lit0 ⟨2 * (t.val % 5) + 1, by omega⟩) == 1#1)) = false) t
  exact h t

/-- The group-matrix index is inside its window at every point, whatever the memory. -/
theorem hyps (hO : Ok m) : Hyps m hO := fun c t => by
  constructor
  · have h := word0_eq m c t
    unfold word0 at h; rw [h]
    exact (by decide +kernel : ∀ t : Fin grid0.N, k0_chk1 (lit0 ⟨2 * (t.val % 5), by omega⟩)) t
  · have h := word1_eq m c t
    unfold word1 at h; rw [h]
    exact (by decide +kernel : ∀ t : Fin grid0.N, k0_chk2 (lit0 ⟨2 * (t.val % 5) + 1, by omega⟩)) t

end Cert.Kernel2Ideal.ProjA

end
-- ==== Proof.ProjAIdealRunA.lean ====
module

public import proofs.«01_k».proof.Proof.ProjAIdealBase

@[expose] public section

set_option maxRecDepth 16384
set_option maxHeartbeats 1600000

noncomputable section

namespace Cert.Kernel2Ideal.ProjA

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

/-- The body runs in this case from the windows' contents to its stores. -/
noncomputable def kernelRun0_A (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) :
    Σ' (L5 : List (View.Piece (Elt F) S1024x1024 .bf16)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ tbPt0 c tbM0_0 xt0) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9) K } := by
  refine ⟨?_, ?_, fun E K => ?run⟩
  case run =>
    simp only [cc0_proj_eq_skeleton]; unfold cc0_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact hc4 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexact HT0

end Cert.Kernel2Ideal.ProjA

end
-- ==== Proof.ProjAIdealRunB.lean ====
module

public import proofs.«01_k».proof.Proof.ProjAIdealBase

@[expose] public section

set_option maxRecDepth 16384
set_option maxHeartbeats 1600000

noncomputable section

namespace Cert.Kernel2Ideal.ProjA

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

/-- The body runs in this case from the windows' contents to its stores. -/
noncomputable def kernelRun0_B (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : ¬cond0_1 c xt0 i) (hc2 : cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) :
    Σ' (L5 : List (View.Piece (Elt F) S1024x1024 .bf16)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ tbPt0 c tbM0_0 xt0) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9) K } := by
  refine ⟨?_, [], fun E K => ?run⟩
  case run =>
    simp only [cc0_proj_eq_skeleton]; unfold cc0_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1 | sl_exact hc2 | sl_exact hc3 | sl_exact hc4 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    iexact HT0

end Cert.Kernel2Ideal.ProjA

end
-- ==== Proof.ProjAIdealRunC.lean ====
module

public import proofs.«01_k».proof.Proof.ProjAIdealBase

@[expose] public section

set_option maxRecDepth 16384
set_option maxHeartbeats 1600000

noncomputable section

namespace Cert.Kernel2Ideal.ProjA

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

/-- The body runs in this case from the windows' contents to its stores. -/
noncomputable def kernelRun0_C (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : cond0_1 c xt0 i) (hc2 : ¬cond0_2 c xt0 i) (hc3 : cond0_3 c xt0 i) (hc4 : ¬cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) :
    Σ' (L5 : List (View.Piece (Elt F) S1024x1024 .bf16)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ tbPt0 c tbM0_0 xt0) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9) K } := by
  refine ⟨?_, [], fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1 | sl_exact hc2 | sl_exact hc3 | sl_exact hc4 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    iexact HT0

end Cert.Kernel2Ideal.ProjA

end
-- ==== Proof.ProjAIdealRunD.lean ====
module

public import proofs.«01_k».proof.Proof.ProjAIdealBase

@[expose] public section

set_option maxRecDepth 16384
set_option maxHeartbeats 1600000

noncomputable section

namespace Cert.Kernel2Ideal.ProjA

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

/-- The body runs in this case from the windows' contents to its stores. -/
noncomputable def kernelRun0_D (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) :
    Σ' (L5 : List (View.Piece (Elt F) S1024x1024 .bf16)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ tbPt0 c tbM0_0 xt0) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9) K } := by
  refine ⟨?_, [], fun E K => ?run⟩
  case run =>
    simp only [cc0_proj_eq_skeleton]; unfold cc0_proj_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1 | sl_exact hc2 | sl_exact hc3 | sl_exact hc4 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    iexact HT0

end Cert.Kernel2Ideal.ProjA

end
-- ==== Proof.ProjAIdealFrame.lean ====
module

public import proofs.«01_k».proof.Proof.ProjAIdealRunA
public import proofs.«01_k».proof.Proof.ProjAIdealRunB
public import proofs.«01_k».proof.Proof.ProjAIdealRunC
public import proofs.«01_k».proof.Proof.ProjAIdealRunD
public import Idealize.ShloMosaic.Lib.Claim

@[expose] public section

set_option maxRecDepth 16384
set_option maxHeartbeats 1600000

noncomputable section

namespace Cert.Kernel2Ideal.ProjA

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of this case fill the buffer. -/
theorem cover0_A_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) (y : S1024x1024.Idx) :
    ∃ pc ∈ (kernelRun0_A c i arg3 harg3 arg4 harg4 arg5 harg5 arg6 harg6 arg7 harg7 arg8 harg8 arg9 harg9 xt0 hc0 hc1 hc2 hc3 hc4 x0 x1 x2 x3 x4 k0_hw1 k0_hw2).1, y ∈ pc.1.set :=
  View.cover_of_tiledL (kernelRun0_A c i arg3 harg3 arg4 harg4 arg5 harg5 arg6 harg6 arg7 harg7 arg8 harg8 arg9 harg9 xt0 hc0 hc1 hc2 hc3 hc4 x0 x1 x2 x3 x4 k0_hw1 k0_hw2).1 S1024x128.size (by sl_kernel_rfl) y

/-- What this case leaves in the buffer. -/
def out0_A_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) : Vec F S1024x1024 .bf16 :=
  VO0_5.read (Elt F) (VO0_5.writes (Elt F) VO0_5.junk (kernelRun0_A c i arg3 harg3 arg4 harg4 arg5 harg5 arg6 harg6 arg7 harg7 arg8 harg8 arg9 harg9 xt0 hc0 hc1 hc2 hc3 hc4 x0 x1 x2 x3 x4 k0_hw1 k0_hw2).1)

/-- The stores of this case fill the buffer. -/
theorem scover0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) (y : S1024x2048.Idx) :
    ∃ pc ∈ (kernelRun0_A c i arg3 harg3 arg4 harg4 arg5 harg5 arg6 harg6 arg7 harg7 arg8 harg8 arg9 harg9 xt0 hc0 hc1 hc2 hc3 hc4 x0 x1 x2 x3 x4 k0_hw1 k0_hw2).2.1, y ∈ pc.1.set :=
  View.cover_of_tiledL (kernelRun0_A c i arg3 harg3 arg4 harg4 arg5 harg5 arg6 harg6 arg7 harg7 arg8 harg8 arg9 harg9 xt0 hc0 hc1 hc2 hc3 hc4 x0 x1 x2 x3 x4 k0_hw1 k0_hw2).2.1 S1024x2048.size (by sl_kernel_rfl) y

/-- What this case leaves in the buffer. -/
def sout0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) : Vec F S1024x2048 .bf16 :=
  VS0_0.read (Elt F) (VS0_0.writes (Elt F) VS0_0.junk (kernelRun0_A c i arg3 harg3 arg4 harg4 arg5 harg5 arg6 harg6 arg7 harg7 arg8 harg8 arg9 harg9 xt0 hc0 hc1 hc2 hc3 hc4 x0 x1 x2 x3 x4 k0_hw1 k0_hw2).2.1)

/-- The stores of this case fill the buffer. -/
theorem cover0_B_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : ¬cond0_1 c xt0 i) (hc2 : cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) (y : S1024x1024.Idx) :
    ∃ pc ∈ (kernelRun0_B c i arg3 harg3 arg4 harg4 arg5 harg5 arg6 harg6 arg7 harg7 arg8 harg8 arg9 harg9 xt0 hc0 hc1 hc2 hc3 hc4 x0 x1 x2 x3 x4 xs0 k0_hw1 k0_hw2).1, y ∈ pc.1.set :=
  View.cover_of_tiledL (kernelRun0_B c i arg3 harg3 arg4 harg4 arg5 harg5 arg6 harg6 arg7 harg7 arg8 harg8 arg9 harg9 xt0 hc0 hc1 hc2 hc3 hc4 x0 x1 x2 x3 x4 xs0 k0_hw1 k0_hw2).1 S1024x128.size (by sl_kernel_rfl) y

/-- What this case leaves in the buffer. -/
def out0_B_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : ¬cond0_1 c xt0 i) (hc2 : cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) : Vec F S1024x1024 .bf16 :=
  VO0_5.read (Elt F) (VO0_5.writes (Elt F) VO0_5.junk (kernelRun0_B c i arg3 harg3 arg4 harg4 arg5 harg5 arg6 harg6 arg7 harg7 arg8 harg8 arg9 harg9 xt0 hc0 hc1 hc2 hc3 hc4 x0 x1 x2 x3 x4 xs0 k0_hw1 k0_hw2).1)

/-- What this case leaves in the buffer. -/
def sout0_B_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : ¬cond0_1 c xt0 i) (hc2 : cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) : Vec F S1024x2048 .bf16 := xs0

/-- The stores of this case fill the buffer. -/
theorem cover0_C_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : cond0_1 c xt0 i) (hc2 : ¬cond0_2 c xt0 i) (hc3 : cond0_3 c xt0 i) (hc4 : ¬cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) (y : S1024x1024.Idx) :
    ∃ pc ∈ (kernelRun0_C c i arg3 harg3 arg4 harg4 arg5 harg5 arg6 harg6 arg7 harg7 arg8 harg8 arg9 harg9 xt0 hc0 hc1 hc2 hc3 hc4 x0 x1 x2 x3 x4 xs0 k0_hw1 k0_hw2).1, y ∈ pc.1.set :=
  View.cover_of_tiledL (kernelRun0_C c i arg3 harg3 arg4 harg4 arg5 harg5 arg6 harg6 arg7 harg7 arg8 harg8 arg9 harg9 xt0 hc0 hc1 hc2 hc3 hc4 x0 x1 x2 x3 x4 xs0 k0_hw1 k0_hw2).1 S1024x512.size (by sl_kernel_rfl) y

/-- What this case leaves in the buffer. -/
def out0_C_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : cond0_1 c xt0 i) (hc2 : ¬cond0_2 c xt0 i) (hc3 : cond0_3 c xt0 i) (hc4 : ¬cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) : Vec F S1024x1024 .bf16 :=
  VO0_5.read (Elt F) (VO0_5.writes (Elt F) VO0_5.junk (kernelRun0_C c i arg3 harg3 arg4 harg4 arg5 harg5 arg6 harg6 arg7 harg7 arg8 harg8 arg9 harg9 xt0 hc0 hc1 hc2 hc3 hc4 x0 x1 x2 x3 x4 xs0 k0_hw1 k0_hw2).1)

/-- What this case leaves in the buffer. -/
def sout0_C_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : cond0_1 c xt0 i) (hc2 : ¬cond0_2 c xt0 i) (hc3 : cond0_3 c xt0 i) (hc4 : ¬cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) : Vec F S1024x2048 .bf16 := xs0

/-- The stores of this case fill the buffer. -/
theorem cover0_D_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) (y : S1024x1024.Idx) :
    ∃ pc ∈ (kernelRun0_D c i arg3 harg3 arg4 harg4 arg5 harg5 arg6 harg6 arg7 harg7 arg8 harg8 arg9 harg9 xt0 hc0 hc1 hc2 hc3 hc4 x0 x1 x2 x3 x4 xs0 k0_hw1 k0_hw2).1, y ∈ pc.1.set :=
  View.cover_of_tiledBy (kernelRun0_D c i arg3 harg3 arg4 harg4 arg5 harg5 arg6 harg6 arg7 harg7 arg8 harg8 arg9 harg9 xt0 hc0 hc1 hc2 hc3 hc4 x0 x1 x2 x3 x4 xs0 k0_hw1 k0_hw2).1 ![1024, 128] (by sl_kernel_rfl) y

/-- What this case leaves in the buffer. -/
def out0_D_5 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) : Vec F S1024x1024 .bf16 :=
  VO0_5.read (Elt F) (VO0_5.writes (Elt F) VO0_5.junk (kernelRun0_D c i arg3 harg3 arg4 harg4 arg5 harg5 arg6 harg6 arg7 harg7 arg8 harg8 arg9 harg9 xt0 hc0 hc1 hc2 hc3 hc4 x0 x1 x2 x3 x4 xs0 k0_hw1 k0_hw2).1)

/-- What this case leaves in the buffer. -/
def sout0_D_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i)
    (x0 : Vec F S1024x2048 .f32) (x1 : Vec F S1x2048 .f32) (x2 : Vec F S1x2048x1024 .bf16) (x3 : Vec F S3x128x128 .bf16) (x4 : Vec F S1x1024 .f32) (xs0 : Vec F S1024x2048 .bf16) (k0_hw1 : k0_chk1 (tbM0_0.view.readAt (Elt F) (Rect.unit (s := S10) (k0_off1 i) S1.size (k0_off1_inb i)).toLoadRect xt0 (Shape.Idx.first (numel1_S1.symm ▸ Nat.one_pos)))) (k0_hw2 : k0_chk2 (tbM0_0.view.readAt (Elt F) (Rect.unit (s := S10) (k0_off3 i) S1.size (k0_off3_inb i)).toLoadRect xt0 (Shape.Idx.first (numel1_S1.symm ▸ Nat.one_pos)))) : Vec F S1024x2048 .bf16 := xs0

/-- The output block and the kept normalised rows after each point. -/
def outsAt0 (hO : Ok m) (hH : Hyps m hO) (c : Dev nD) : (n : ℕ) → n < (cfgM m hO).N → Vec F S1024x1024 .bf16 × Vec F S1024x2048 .bf16
  | 0, hn => (out0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) (tbl m 0) ((hcond0_0 ⟨0, hn⟩).mpr (Nat.zero_mod _)) (fun h => (fun h => by (try dsimp only at h); omega) ((hcond0_1 m c ⟨0, hn⟩).mp h)) ((hcond0_2 m c ⟨0, hn⟩).mpr (by (try dsimp only) <;> omega)) (fun h => (fun h => by (try dsimp only at h); omega) ((hcond0_3 m c ⟨0, hn⟩).mp h)) ((hcond0_4 m c ⟨0, hn⟩).mpr (by (try dsimp only) <;> omega)) (iblk m hO c 0 ⟨0, hn⟩) (iblk m hO c 1 ⟨0, hn⟩) (iblk m hO c 2 ⟨0, hn⟩) (iblk m hO c 3 ⟨0, hn⟩) (iblk m hO c 4 ⟨0, hn⟩) (Hyps.c0 hH c ⟨0, hn⟩) (Hyps.c1 hH c ⟨0, hn⟩), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) (tbl m 0) ((hcond0_0 ⟨0, hn⟩).mpr (Nat.zero_mod _)) (fun h => (fun h => by (try dsimp only at h); omega) ((hcond0_1 m c ⟨0, hn⟩).mp h)) ((hcond0_2 m c ⟨0, hn⟩).mpr (by (try dsimp only) <;> omega)) (fun h => (fun h => by (try dsimp only at h); omega) ((hcond0_3 m c ⟨0, hn⟩).mp h)) ((hcond0_4 m c ⟨0, hn⟩).mpr (by (try dsimp only) <;> omega)) (iblk m hO c 0 ⟨0, hn⟩) (iblk m hO c 1 ⟨0, hn⟩) (iblk m hO c 2 ⟨0, hn⟩) (iblk m hO c 3 ⟨0, hn⟩) (iblk m hO c 4 ⟨0, hn⟩) (Hyps.c0 hH c ⟨0, hn⟩) (Hyps.c1 hH c ⟨0, hn⟩))
  | n + 1, hn =>
    if h0 : (n + 1) % 5 = 0 then
      if h1 : 3 ≤ (n + 1) % 5 then
        False.elim (by have hN : n + 1 < 80 := lt_of_lt_of_eq hn (show (cfgM m hO).N = 80 from N_0); omega)
      else
        if h2 : (n + 1) % 5 ≤ 2 then
          if h3 : (n + 1) % 5 = 3 then
            False.elim (by have hN : n + 1 < 80 := lt_of_lt_of_eq hn (show (cfgM m hO).N = 80 from N_0); omega)
          else
            if h4 : (n + 1) % 5 ≠ 3 then
              (out0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (tbl m 0) ((hcond0_0 ⟨n + 1, hn⟩).mpr h0) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (Hyps.c0 hH c ⟨n + 1, hn⟩) (Hyps.c1 hH c ⟨n + 1, hn⟩), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (tbl m 0) ((hcond0_0 ⟨n + 1, hn⟩).mpr h0) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (Hyps.c0 hH c ⟨n + 1, hn⟩) (Hyps.c1 hH c ⟨n + 1, hn⟩))
            else
              False.elim (by have hN : n + 1 < 80 := lt_of_lt_of_eq hn (show (cfgM m hO).N = 80 from N_0); omega)
        else
          False.elim (by have hN : n + 1 < 80 := lt_of_lt_of_eq hn (show (cfgM m hO).N = 80 from N_0); omega)
    else
      if h1 : 3 ≤ (n + 1) % 5 then
        if h2 : (n + 1) % 5 ≤ 2 then
          False.elim (by have hN : n + 1 < 80 := lt_of_lt_of_eq hn (show (cfgM m hO).N = 80 from N_0); omega)
        else
          if h3 : (n + 1) % 5 = 3 then
            if h4 : (n + 1) % 5 ≠ 3 then
              False.elim (by have hN : n + 1 < 80 := lt_of_lt_of_eq hn (show (cfgM m hO).N = 80 from N_0); omega)
            else
              (out0_C_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) ((hcond0_3 m c ⟨n + 1, hn⟩).mpr h3) (fun h => h4 ((hcond0_4 m c ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (outsAt0 hO hH c n (Nat.lt_of_succ_lt hn)).2 (Hyps.c0 hH c ⟨n + 1, hn⟩) (Hyps.c1 hH c ⟨n + 1, hn⟩), sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) ((hcond0_3 m c ⟨n + 1, hn⟩).mpr h3) (fun h => h4 ((hcond0_4 m c ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (outsAt0 hO hH c n (Nat.lt_of_succ_lt hn)).2 (Hyps.c0 hH c ⟨n + 1, hn⟩) (Hyps.c1 hH c ⟨n + 1, hn⟩))
          else
            if h4 : (n + 1) % 5 ≠ 3 then
              (out0_D_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) (fun h => h3 ((hcond0_3 m c ⟨n + 1, hn⟩).mp h)) ((hcond0_4 m c ⟨n + 1, hn⟩).mpr h4) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (outsAt0 hO hH c n (Nat.lt_of_succ_lt hn)).2 (Hyps.c0 hH c ⟨n + 1, hn⟩) (Hyps.c1 hH c ⟨n + 1, hn⟩), sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) (fun h => h3 ((hcond0_3 m c ⟨n + 1, hn⟩).mp h)) ((hcond0_4 m c ⟨n + 1, hn⟩).mpr h4) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (outsAt0 hO hH c n (Nat.lt_of_succ_lt hn)).2 (Hyps.c0 hH c ⟨n + 1, hn⟩) (Hyps.c1 hH c ⟨n + 1, hn⟩))
            else
              False.elim (by have hN : n + 1 < 80 := lt_of_lt_of_eq hn (show (cfgM m hO).N = 80 from N_0); omega)
      else
        if h2 : (n + 1) % 5 ≤ 2 then
          if h3 : (n + 1) % 5 = 3 then
            False.elim (by have hN : n + 1 < 80 := lt_of_lt_of_eq hn (show (cfgM m hO).N = 80 from N_0); omega)
          else
            if h4 : (n + 1) % 5 ≠ 3 then
              (out0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (tbl m 0) (fun h => h0 ((hcond0_0 ⟨n + 1, hn⟩).mp h)) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (outsAt0 hO hH c n (Nat.lt_of_succ_lt hn)).2 (Hyps.c0 hH c ⟨n + 1, hn⟩) (Hyps.c1 hH c ⟨n + 1, hn⟩), sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (tbl m 0) (fun h => h0 ((hcond0_0 ⟨n + 1, hn⟩).mp h)) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (outsAt0 hO hH c n (Nat.lt_of_succ_lt hn)).2 (Hyps.c0 hH c ⟨n + 1, hn⟩) (Hyps.c1 hH c ⟨n + 1, hn⟩))
            else
              False.elim (by have hN : n + 1 < 80 := lt_of_lt_of_eq hn (show (cfgM m hO).N = 80 from N_0); omega)
        else
          False.elim (by have hN : n + 1 < 80 := lt_of_lt_of_eq hn (show (cfgM m hO).N = 80 from N_0); omega)

/-- That value in this case. -/
theorem outsAt0_A (hO : Ok m) (hH : Hyps m hO) (c : Dev nD) (t : Fin (cfgM m hO).N) (h0 : t.val % 5 = 0) (h1 : ¬3 ≤ t.val % 5) (h2 : t.val % 5 ≤ 2) (h3 : ¬t.val % 5 = 3) (h4 : t.val % 5 ≠ 3) :
    outsAt0 m hO hH c t.val t.isLt = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (tbl m 0) ((hcond0_0 t).mpr h0) (fun h => h1 ((hcond0_1 m c t).mp h)) ((hcond0_2 m c t).mpr h2) (fun h => h3 ((hcond0_3 m c t).mp h)) ((hcond0_4 m c t).mpr h4) (iblk m hO c 0 t) (iblk m hO c 1 t) (iblk m hO c 2 t) (iblk m hO c 3 t) (iblk m hO c 4 t) (Hyps.c0 hH c t) (Hyps.c1 hH c t), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (tbl m 0) ((hcond0_0 t).mpr h0) (fun h => h1 ((hcond0_1 m c t).mp h)) ((hcond0_2 m c t).mpr h2) (fun h => h3 ((hcond0_3 m c t).mp h)) ((hcond0_4 m c t).mpr h4) (iblk m hO c 0 t) (iblk m hO c 1 t) (iblk m hO c 2 t) (iblk m hO c 3 t) (iblk m hO c 4 t) (Hyps.c0 hH c t) (Hyps.c1 hH c t)) := by
  obtain ⟨n, hn⟩ := t
  cases n with
  | zero => exact rfl
  | succ n => exact (dif_pos h0).trans ((dif_neg h1).trans ((dif_pos h2).trans ((dif_neg h3).trans ((dif_pos h4).trans rfl))))

/-- That value in this case. -/
theorem outsAt0_B (hO : Ok m) (hH : Hyps m hO) (c : Dev nD) (t : Fin (cfgM m hO).N) (h0 : ¬t.val % 5 = 0) (h1 : ¬3 ≤ t.val % 5) (h2 : t.val % 5 ≤ 2) (h3 : ¬t.val % 5 = 3) (h4 : t.val % 5 ≠ 3) :
    outsAt0 m hO hH c t.val t.isLt = (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (tbl m 0) (fun h => h0 ((hcond0_0 t).mp h)) (fun h => h1 ((hcond0_1 m c t).mp h)) ((hcond0_2 m c t).mpr h2) (fun h => h3 ((hcond0_3 m c t).mp h)) ((hcond0_4 m c t).mpr h4) (iblk m hO c 0 t) (iblk m hO c 1 t) (iblk m hO c 2 t) (iblk m hO c 3 t) (iblk m hO c 4 t) (outsAt0 m hO hH c (t.val - 1) (Nat.lt_of_le_of_lt (Nat.sub_le _ _) t.isLt)).2 (Hyps.c0 hH c t) (Hyps.c1 hH c t), sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (tbl m 0) (fun h => h0 ((hcond0_0 t).mp h)) (fun h => h1 ((hcond0_1 m c t).mp h)) ((hcond0_2 m c t).mpr h2) (fun h => h3 ((hcond0_3 m c t).mp h)) ((hcond0_4 m c t).mpr h4) (iblk m hO c 0 t) (iblk m hO c 1 t) (iblk m hO c 2 t) (iblk m hO c 3 t) (iblk m hO c 4 t) (outsAt0 m hO hH c (t.val - 1) (Nat.lt_of_le_of_lt (Nat.sub_le _ _) t.isLt)).2 (Hyps.c0 hH c t) (Hyps.c1 hH c t)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans rfl))))

/-- That value in this case. -/
theorem outsAt0_C (hO : Ok m) (hH : Hyps m hO) (c : Dev nD) (t : Fin (cfgM m hO).N) (h0 : ¬t.val % 5 = 0) (h1 : 3 ≤ t.val % 5) (h2 : ¬t.val % 5 ≤ 2) (h3 : t.val % 5 = 3) (h4 : ¬t.val % 5 ≠ 3) :
    outsAt0 m hO hH c t.val t.isLt = (out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (tbl m 0) (fun h => h0 ((hcond0_0 t).mp h)) ((hcond0_1 m c t).mpr h1) (fun h => h2 ((hcond0_2 m c t).mp h)) ((hcond0_3 m c t).mpr h3) (fun h => h4 ((hcond0_4 m c t).mp h)) (iblk m hO c 0 t) (iblk m hO c 1 t) (iblk m hO c 2 t) (iblk m hO c 3 t) (iblk m hO c 4 t) (outsAt0 m hO hH c (t.val - 1) (Nat.lt_of_le_of_lt (Nat.sub_le _ _) t.isLt)).2 (Hyps.c0 hH c t) (Hyps.c1 hH c t), sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (tbl m 0) (fun h => h0 ((hcond0_0 t).mp h)) ((hcond0_1 m c t).mpr h1) (fun h => h2 ((hcond0_2 m c t).mp h)) ((hcond0_3 m c t).mpr h3) (fun h => h4 ((hcond0_4 m c t).mp h)) (iblk m hO c 0 t) (iblk m hO c 1 t) (iblk m hO c 2 t) (iblk m hO c 3 t) (iblk m hO c 4 t) (outsAt0 m hO hH c (t.val - 1) (Nat.lt_of_le_of_lt (Nat.sub_le _ _) t.isLt)).2 (Hyps.c0 hH c t) (Hyps.c1 hH c t)) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans rfl))))

/-- That value in this case. -/
theorem outsAt0_D (hO : Ok m) (hH : Hyps m hO) (c : Dev nD) (t : Fin (cfgM m hO).N) (h0 : ¬t.val % 5 = 0) (h1 : 3 ≤ t.val % 5) (h2 : ¬t.val % 5 ≤ 2) (h3 : ¬t.val % 5 = 3) (h4 : t.val % 5 ≠ 3) :
    outsAt0 m hO hH c t.val t.isLt = (out0_D_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (tbl m 0) (fun h => h0 ((hcond0_0 t).mp h)) ((hcond0_1 m c t).mpr h1) (fun h => h2 ((hcond0_2 m c t).mp h)) (fun h => h3 ((hcond0_3 m c t).mp h)) ((hcond0_4 m c t).mpr h4) (iblk m hO c 0 t) (iblk m hO c 1 t) (iblk m hO c 2 t) (iblk m hO c 3 t) (iblk m hO c 4 t) (outsAt0 m hO hH c (t.val - 1) (Nat.lt_of_le_of_lt (Nat.sub_le _ _) t.isLt)).2 (Hyps.c0 hH c t) (Hyps.c1 hH c t), sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (tbl m 0) (fun h => h0 ((hcond0_0 t).mp h)) ((hcond0_1 m c t).mpr h1) (fun h => h2 ((hcond0_2 m c t).mp h)) (fun h => h3 ((hcond0_3 m c t).mp h)) ((hcond0_4 m c t).mpr h4) (iblk m hO c 0 t) (iblk m hO c 1 t) (iblk m hO c 2 t) (iblk m hO c 3 t) (iblk m hO c 4 t) (outsAt0 m hO hH c (t.val - 1) (Nat.lt_of_le_of_lt (Nat.sub_le _ _) t.isLt)).2 (Hyps.c0 hH c t) (Hyps.c1 hH c t)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_pos h4).trans rfl))))

def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).2)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).2)) ∗ (∃ r, prngReg c r)) ∗ Pipeline.ΦT pre0 (tbl m) c) := rfl

theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).2)) ∗ (∃ r, prngReg c r)) ∗ Pipeline.ΦT pre0 (tbl m) c) := by
  cases n with
  | zero => exact absurd rfl hz
  | succ n => rfl

/-- The data of the pipeline: what each window holds after each point. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO hH c t.val t.isLt).1
  Φ t := PhiS m hO hH c t.val (Nat.le_of_lt_succ t.isLt)
  q _ := fullShare
  owed _ := 0

/-- The arrays are those the host lines left. -/
theorem A_eq (hO : Ok m) (hH : Hyps m hO) (c : Dev nD) (w : Fin (cfgM m hO).W) : (dats m hO hH 0 c).A w = V m c (Pipeline.arrRef spec0 w) := by
  dsimp only [dats]

theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves in this window. -/
theorem after0_0 (hO : Ok m) (hH : Hyps m hO) (c : Dev nD) (t : Fin (cfgM m hO).N) : (dats m hO hH 0 c).after 0 t = iblk m hO c 0 t := by dsimp only [dats]; try rfl
/-- What the body leaves in this window. -/
theorem after0_1 (hO : Ok m) (hH : Hyps m hO) (c : Dev nD) (t : Fin (cfgM m hO).N) : (dats m hO hH 0 c).after 1 t = iblk m hO c 1 t := by dsimp only [dats]; try rfl
/-- What the body leaves in this window. -/
theorem after0_2 (hO : Ok m) (hH : Hyps m hO) (c : Dev nD) (t : Fin (cfgM m hO).N) : (dats m hO hH 0 c).after 2 t = iblk m hO c 2 t := by dsimp only [dats]; try rfl
/-- What the body leaves in this window. -/
theorem after0_3 (hO : Ok m) (hH : Hyps m hO) (c : Dev nD) (t : Fin (cfgM m hO).N) : (dats m hO hH 0 c).after 3 t = iblk m hO c 3 t := by dsimp only [dats]; try rfl
/-- What the body leaves in this window. -/
theorem after0_4 (hO : Ok m) (hH : Hyps m hO) (c : Dev nD) (t : Fin (cfgM m hO).N) : (dats m hO hH 0 c).after 4 t = iblk m hO c 4 t := by dsimp only [dats]; try rfl
/-- What the body leaves in this window. -/
theorem after0_5 (hO : Ok m) (hH : Hyps m hO) (c : Dev nD) (t : Fin (cfgM m hO).N) : (dats m hO hH 0 c).after 5 t = (outsAt0 m hO hH c t.val t.isLt).1 := by dsimp only [dats]; try rfl

/-- An input window holds its block when the body starts. -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
/-- An input window holds its block when the body starts. -/
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
/-- An input window holds its block when the body starts. -/
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
/-- An input window holds its block when the body starts. -/
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
/-- An input window holds its block when the body starts. -/
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-- What the body starts from at point `t`. -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d)))

/-- What the body ends with at point `t`. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t)

set_option maxHeartbeats 6400000 in

/-- The body meets its obligation at every point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 80 := lt_of_lt_of_eq t.isLt (show (cfgM m hO).N = 80 from N_0)
  by_cases h0 : t.val % 5 = 0
  · by_cases h1 : 3 ≤ t.val % 5
    · exfalso; omega
    · by_cases h2 : t.val % 5 ≤ 2
      · by_cases h3 : t.val % 5 = 3
        · exfalso; omega
        · by_cases h4 : t.val % 5 ≠ 3
          · rw [show (dats m hO hH 0 c).leavesExact 0 t = owns (c : Thread nD τ) (ms0_0 m hO t) fullShare ((dats m hO hH 0 c).after 0 t) from by
      unfold Dat.leavesExact; rw [liveAt0_0 m hO t]; try rfl, after0_0]
            rw [show (dats m hO hH 0 c).leavesExact 1 t = owns (c : Thread nD τ) (ms0_1 m hO t) fullShare ((dats m hO hH 0 c).after 1 t) from by
      unfold Dat.leavesExact; rw [liveAt0_1 m hO t]; try rfl, after0_1]
            rw [show (dats m hO hH 0 c).leavesExact 2 t = owns (c : Thread nD τ) (ms0_2 m hO t) fullShare ((dats m hO hH 0 c).after 2 t) from by
      unfold Dat.leavesExact; rw [liveAt0_2 m hO t]; try rfl, after0_2]
            rw [show (dats m hO hH 0 c).leavesExact 3 t = owns (c : Thread nD τ) (ms0_3 m hO t) fullShare ((dats m hO hH 0 c).after 3 t) from by
      unfold Dat.leavesExact; rw [liveAt0_3 m hO t]; try rfl, after0_3]
            rw [show (dats m hO hH 0 c).leavesExact 4 t = owns (c : Thread nD τ) (ms0_4 m hO t) fullShare ((dats m hO hH 0 c).after 4 t) from by
      unfold Dat.leavesExact; rw [liveAt0_4 m hO t]; try rfl, after0_4]
            rw [show (dats m hO hH 0 c).leavesExact 5 t = owns (c : Thread nD τ) (ms0_5 m hO t) fullShare ((dats m hO hH 0 c).after 5 t) from by
      unfold Dat.leavesExact; rw [liveAt0_5 m hO t]; try rfl, after0_5]
            by_cases hz : t.val = 0
            · rw [PhiS_castSucc m hO hH c t, PhiS_zero m hO hH c _ _ hz, PhiT0_eq, PhiA0_eq]
              rw [outsAt0_A m hO hH c t h0 h1 h2 h3 h4]
              unfold out0_A_5 sout0_A_0; (try dsimp only)
              iintro ⟨⟨⟨HS0, Hg⟩, HT0⟩, Ho, ⟨%d0, H0⟩, ⟨%d1, H1⟩, ⟨%d2, H2⟩, ⟨%d3, H3⟩, ⟨%d4, H4⟩, ⟨%d5, H5⟩⟩
              iapply ((kernelRun0_A c (grid0.coords t) _ _ _ _ _ _ _ _ _ _ _ _ _ _ (tbl m 0) ((hcond0_0 t).mpr h0) (fun h => h1 ((hcond0_1 m c t).mp h)) ((hcond0_2 m c t).mpr h2) (fun h => h3 ((hcond0_3 m c t).mp h)) ((hcond0_4 m c t).mpr h4) (iblk m hO c 0 t) (iblk m hO c 1 t) (iblk m hO c 2 t) (iblk m hO c 3 t) (iblk m hO c 4 t) (Hyps.c0 hH c t) (Hyps.c1 hH c t)).2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [HS0]; · iexact HS0
              isplitl [HT0]; · iexact HT0
              iintro ⟨H0, H1, H2, H3, H4, ⟨%e5, H5⟩, ⟨%es0, HS0⟩, HT0⟩
              isplitl [HS0 Hg HT0]
              · isplitl [HS0 Hg]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _)
                  iexact Hg
                iexact HT0
              isplitl [Ho]; · iexact Ho
              isplitl [H0]; · iexact H0
              isplitl [H1]; · iexact H1
              isplitl [H2]; · iexact H2
              isplitl [H3]; · iexact H3
              isplitl [H4]; · iexact H4
              unfold owns; iexists _; isplitr
              swap; · iexact H5
              ipureintro; exact View.read_writes_of_cover _ _ _ _ _ (cover0_A_5 c _ _ _ _ _ _ _ _ _ _ _ _ _ _ _ _ _ _ _ _ _ _ _ _ _ _ _ _)
            · rw [PhiS_castSucc m hO hH c t, PhiS_pos m hO hH c _ _ hz, PhiT0_eq]
              rw [outsAt0_A m hO hH c t h0 h1 h2 h3 h4]
              unfold out0_A_5 sout0_A_0; (try dsimp only)
              iintro ⟨⟨⟨HS0, Hg⟩, HT0⟩, Ho, ⟨%d0, H0⟩, ⟨%d1, H1⟩, ⟨%d2, H2⟩, ⟨%d3, H3⟩, ⟨%d4, H4⟩, ⟨%d5, H5⟩⟩
              iapply ((kernelRun0_A c (grid0.coords t) _ _ _ _ _ _ _ _ _ _ _ _ _ _ (tbl m 0) ((hcond0_0 t).mpr h0) (fun h => h1 ((hcond0_1 m c t).mp h)) ((hcond0_2 m c t).mpr h2) (fun h => h3 ((hcond0_3 m c t).mp h)) ((hcond0_4 m c t).mpr h4) (iblk m hO c 0 t) (iblk m hO c 1 t) (iblk m hO c 2 t) (iblk m hO c 3 t) (iblk m hO c 4 t) (Hyps.c0 hH c t) (Hyps.c1 hH c t)).2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [HS0]; · iexists _; iexact HS0
              isplitl [HT0]; · iexact HT0
              iintro ⟨H0, H1, H2, H3, H4, ⟨%e5, H5⟩, ⟨%es0, HS0⟩, HT0⟩
              isplitl [HS0 Hg HT0]
              · isplitl [HS0 Hg]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _)
                  iexact Hg
                iexact HT0
              isplitl [Ho]; · iexact Ho
              isplitl [H0]; · iexact H0
              isplitl [H1]; · iexact H1
              isplitl [H2]; · iexact H2
              isplitl [H3]; · iexact H3
              isplitl [H4]; · iexact H4
              unfold owns; iexists _; isplitr
              swap; · iexact H5
              ipureintro; exact View.read_writes_of_cover _ _ _ _ _ (cover0_A_5 c _ _ _ _ _ _ _ _ _ _ _ _ _ _ _ _ _ _ _ _ _ _ _ _ _ _ _ _)
          · exfalso; omega
      · exfalso; omega
  · by_cases h1 : 3 ≤ t.val % 5
    · by_cases h2 : t.val % 5 ≤ 2
      · exfalso; omega
      · by_cases h3 : t.val % 5 = 3
        · by_cases h4 : t.val % 5 ≠ 3
          · exfalso; omega
          · rw [show (dats m hO hH 0 c).leavesExact 0 t = owns (c : Thread nD τ) (ms0_0 m hO t) fullShare ((dats m hO hH 0 c).after 0 t) from by
      unfold Dat.leavesExact; rw [liveAt0_0 m hO t]; try rfl, after0_0]
            rw [show (dats m hO hH 0 c).leavesExact 1 t = owns (c : Thread nD τ) (ms0_1 m hO t) fullShare ((dats m hO hH 0 c).after 1 t) from by
      unfold Dat.leavesExact; rw [liveAt0_1 m hO t]; try rfl, after0_1]
            rw [show (dats m hO hH 0 c).leavesExact 2 t = owns (c : Thread nD τ) (ms0_2 m hO t) fullShare ((dats m hO hH 0 c).after 2 t) from by
      unfold Dat.leavesExact; rw [liveAt0_2 m hO t]; try rfl, after0_2]
            rw [show (dats m hO hH 0 c).leavesExact 3 t = owns (c : Thread nD τ) (ms0_3 m hO t) fullShare ((dats m hO hH 0 c).after 3 t) from by
      unfold Dat.leavesExact; rw [liveAt0_3 m hO t]; try rfl, after0_3]
            rw [show (dats m hO hH 0 c).leavesExact 4 t = owns (c : Thread nD τ) (ms0_4 m hO t) fullShare ((dats m hO hH 0 c).after 4 t) from by
      unfold Dat.leavesExact; rw [liveAt0_4 m hO t]; try rfl, after0_4]
            rw [show (dats m hO hH 0 c).leavesExact 5 t = owns (c : Thread nD τ) (ms0_5 m hO t) fullShare ((dats m hO hH 0 c).after 5 t) from by
      unfold Dat.leavesExact; rw [liveAt0_5 m hO t]; try rfl, after0_5]
            by_cases hz : t.val = 0
            · exfalso; have hN : t.val < 80 := lt_of_lt_of_eq t.isLt (show (cfgM m hO).N = 80 from N_0); omega
            · rw [PhiS_castSucc m hO hH c t, PhiS_pos m hO hH c _ _ hz, PhiT0_eq]
              rw [outsAt0_C m hO hH c t h0 h1 h2 h3 h4]
              unfold out0_C_5 sout0_C_0; (try dsimp only)
              iintro ⟨⟨⟨HS0, Hg⟩, HT0⟩, Ho, ⟨%d0, H0⟩, ⟨%d1, H1⟩, ⟨%d2, H2⟩, ⟨%d3, H3⟩, ⟨%d4, H4⟩, ⟨%d5, H5⟩⟩
              iapply ((kernelRun0_C c (grid0.coords t) _ _ _ _ _ _ _ _ _ _ _ _ _ _ (tbl m 0) (fun h => h0 ((hcond0_0 t).mp h)) ((hcond0_1 m c t).mpr h1) (fun h => h2 ((hcond0_2 m c t).mp h)) ((hcond0_3 m c t).mpr h3) (fun h => h4 ((hcond0_4 m c t).mp h)) (iblk m hO c 0 t) (iblk m hO c 1 t) (iblk m hO c 2 t) (iblk m hO c 3 t) (iblk m hO c 4 t) _ (Hyps.c0 hH c t) (Hyps.c1 hH c t)).2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [HS0]; · iexact HS0
              isplitl [HT0]; · iexact HT0
              iintro ⟨H0, H1, H2, H3, H4, ⟨%e5, H5⟩, HS0, HT0⟩
              isplitl [HS0 Hg HT0]
              · isplitl [HS0 Hg]
                · isplitl [HS0]
                  · iexact HS0
                  iexact Hg
                iexact HT0
              isplitl [Ho]; · iexact Ho
              isplitl [H0]; · iexact H0
              isplitl [H1]; · iexact H1
              isplitl [H2]; · iexact H2
              isplitl [H3]; · iexact H3
              isplitl [H4]; · iexact H4
              unfold owns; iexists _; isplitr
              swap; · iexact H5
              ipureintro; exact View.read_writes_of_cover _ _ _ _ _ (cover0_C_5 c _ _ _ _ _ _ _ _ _ _ _ _ _ _ _ _ _ _ _ _ _ _ _ _ _ _ _ _ _)
        · by_cases h4 : t.val % 5 ≠ 3
          · rw [show (dats m hO hH 0 c).leavesExact 0 t = owns (c : Thread nD τ) (ms0_0 m hO t) fullShare ((dats m hO hH 0 c).after 0 t) from by
      unfold Dat.leavesExact; rw [liveAt0_0 m hO t]; try rfl, after0_0]
            rw [show (dats m hO hH 0 c).leavesExact 1 t = owns (c : Thread nD τ) (ms0_1 m hO t) fullShare ((dats m hO hH 0 c).after 1 t) from by
      unfold Dat.leavesExact; rw [liveAt0_1 m hO t]; try rfl, after0_1]
            rw [show (dats m hO hH 0 c).leavesExact 2 t = owns (c : Thread nD τ) (ms0_2 m hO t) fullShare ((dats m hO hH 0 c).after 2 t) from by
      unfold Dat.leavesExact; rw [liveAt0_2 m hO t]; try rfl, after0_2]
            rw [show (dats m hO hH 0 c).leavesExact 3 t = owns (c : Thread nD τ) (ms0_3 m hO t) fullShare ((dats m hO hH 0 c).after 3 t) from by
      unfold Dat.leavesExact; rw [liveAt0_3 m hO t]; try rfl, after0_3]
            rw [show (dats m hO hH 0 c).leavesExact 4 t = owns (c : Thread nD τ) (ms0_4 m hO t) fullShare ((dats m hO hH 0 c).after 4 t) from by
      unfold Dat.leavesExact; rw [liveAt0_4 m hO t]; try rfl, after0_4]
            rw [show (dats m hO hH 0 c).leavesExact 5 t = owns (c : Thread nD τ) (ms0_5 m hO t) fullShare ((dats m hO hH 0 c).after 5 t) from by
      unfold Dat.leavesExact; rw [liveAt0_5 m hO t]; try rfl, after0_5]
            by_cases hz : t.val = 0
            · exfalso; have hN : t.val < 80 := lt_of_lt_of_eq t.isLt (show (cfgM m hO).N = 80 from N_0); omega
            · rw [PhiS_castSucc m hO hH c t, PhiS_pos m hO hH c _ _ hz, PhiT0_eq]
              rw [outsAt0_D m hO hH c t h0 h1 h2 h3 h4]
              unfold out0_D_5 sout0_D_0; (try dsimp only)
              iintro ⟨⟨⟨HS0, Hg⟩, HT0⟩, Ho, ⟨%d0, H0⟩, ⟨%d1, H1⟩, ⟨%d2, H2⟩, ⟨%d3, H3⟩, ⟨%d4, H4⟩, ⟨%d5, H5⟩⟩
              iapply ((kernelRun0_D c (grid0.coords t) _ _ _ _ _ _ _ _ _ _ _ _ _ _ (tbl m 0) (fun h => h0 ((hcond0_0 t).mp h)) ((hcond0_1 m c t).mpr h1) (fun h => h2 ((hcond0_2 m c t).mp h)) (fun h => h3 ((hcond0_3 m c t).mp h)) ((hcond0_4 m c t).mpr h4) (iblk m hO c 0 t) (iblk m hO c 1 t) (iblk m hO c 2 t) (iblk m hO c 3 t) (iblk m hO c 4 t) _ (Hyps.c0 hH c t) (Hyps.c1 hH c t)).2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [HS0]; · iexact HS0
              isplitl [HT0]; · iexact HT0
              iintro ⟨H0, H1, H2, H3, H4, ⟨%e5, H5⟩, HS0, HT0⟩
              isplitl [HS0 Hg HT0]
              · isplitl [HS0 Hg]
                · isplitl [HS0]
                  · iexact HS0
                  iexact Hg
                iexact HT0
              isplitl [Ho]; · iexact Ho
              isplitl [H0]; · iexact H0
              isplitl [H1]; · iexact H1
              isplitl [H2]; · iexact H2
              isplitl [H3]; · iexact H3
              isplitl [H4]; · iexact H4
              unfold owns; iexists _; isplitr
              swap; · iexact H5
              ipureintro; exact View.read_writes_of_cover _ _ _ _ _ (cover0_D_5 c _ _ _ _ _ _ _ _ _ _ _ _ _ _ _ _ _ _ _ _ _ _ _ _ _ _ _ _ _)
          · exfalso; omega
    · by_cases h2 : t.val % 5 ≤ 2
      · by_cases h3 : t.val % 5 = 3
        · exfalso; omega
        · by_cases h4 : t.val % 5 ≠ 3
          · rw [show (dats m hO hH 0 c).leavesExact 0 t = owns (c : Thread nD τ) (ms0_0 m hO t) fullShare ((dats m hO hH 0 c).after 0 t) from by
      unfold Dat.leavesExact; rw [liveAt0_0 m hO t]; try rfl, after0_0]
            rw [show (dats m hO hH 0 c).leavesExact 1 t = owns (c : Thread nD τ) (ms0_1 m hO t) fullShare ((dats m hO hH 0 c).after 1 t) from by
      unfold Dat.leavesExact; rw [liveAt0_1 m hO t]; try rfl, after0_1]
            rw [show (dats m hO hH 0 c).leavesExact 2 t = owns (c : Thread nD τ) (ms0_2 m hO t) fullShare ((dats m hO hH 0 c).after 2 t) from by
      unfold Dat.leavesExact; rw [liveAt0_2 m hO t]; try rfl, after0_2]
            rw [show (dats m hO hH 0 c).leavesExact 3 t = owns (c : Thread nD τ) (ms0_3 m hO t) fullShare ((dats m hO hH 0 c).after 3 t) from by
      unfold Dat.leavesExact; rw [liveAt0_3 m hO t]; try rfl, after0_3]
            rw [show (dats m hO hH 0 c).leavesExact 4 t = owns (c : Thread nD τ) (ms0_4 m hO t) fullShare ((dats m hO hH 0 c).after 4 t) from by
      unfold Dat.leavesExact; rw [liveAt0_4 m hO t]; try rfl, after0_4]
            rw [show (dats m hO hH 0 c).leavesExact 5 t = owns (c : Thread nD τ) (ms0_5 m hO t) fullShare ((dats m hO hH 0 c).after 5 t) from by
      unfold Dat.leavesExact; rw [liveAt0_5 m hO t]; try rfl, after0_5]
            by_cases hz : t.val = 0
            · exfalso; have hN : t.val < 80 := lt_of_lt_of_eq t.isLt (show (cfgM m hO).N = 80 from N_0); omega
            · rw [PhiS_castSucc m hO hH c t, PhiS_pos m hO hH c _ _ hz, PhiT0_eq]
              rw [outsAt0_B m hO hH c t h0 h1 h2 h3 h4]
              unfold out0_B_5 sout0_B_0; (try dsimp only)
              iintro ⟨⟨⟨HS0, Hg⟩, HT0⟩, Ho, ⟨%d0, H0⟩, ⟨%d1, H1⟩, ⟨%d2, H2⟩, ⟨%d3, H3⟩, ⟨%d4, H4⟩, ⟨%d5, H5⟩⟩
              iapply ((kernelRun0_B c (grid0.coords t) _ _ _ _ _ _ _ _ _ _ _ _ _ _ (tbl m 0) (fun h => h0 ((hcond0_0 t).mp h)) (fun h => h1 ((hcond0_1 m c t).mp h)) ((hcond0_2 m c t).mpr h2) (fun h => h3 ((hcond0_3 m c t).mp h)) ((hcond0_4 m c t).mpr h4) (iblk m hO c 0 t) (iblk m hO c 1 t) (iblk m hO c 2 t) (iblk m hO c 3 t) (iblk m hO c 4 t) _ (Hyps.c0 hH c t) (Hyps.c1 hH c t)).2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [HS0]; · iexact HS0
              isplitl [HT0]; · iexact HT0
              iintro ⟨H0, H1, H2, H3, H4, ⟨%e5, H5⟩, HS0, HT0⟩
              isplitl [HS0 Hg HT0]
              · isplitl [HS0 Hg]
                · isplitl [HS0]
                  · iexact HS0
                  iexact Hg
                iexact HT0
              isplitl [Ho]; · iexact Ho
              isplitl [H0]; · iexact H0
              isplitl [H1]; · iexact H1
              isplitl [H2]; · iexact H2
              isplitl [H3]; · iexact H3
              isplitl [H4]; · iexact H4
              unfold owns; iexists _; isplitr
              swap; · iexact H5
              ipureintro; exact View.read_writes_of_cover _ _ _ _ _ (cover0_B_5 c _ _ _ _ _ _ _ _ _ _ _ _ _ _ _ _ _ _ _ _ _ _ _ _ _ _ _ _ _)
          · exfalso; omega
      · exfalso; omega

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨HS0, Hg⟩, -⟩
  isplitl [HS0]
  · iexists _; iexact HS0
  iexact Hg

theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 80 := N_0; omega)

set_option backward.isDefEq.respectTransparency.types false in

theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := hin m hO hH) (hout := hout m hO hH)

/-- The program ends with every array as the pipeline leaves it. -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- The program leaves its arguments as they were. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hH) (A_eq m hO hH) (run_main m ρ hO hH)

/-- The program ends, leaves its arguments as they were and every counter at zero. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel2Ideal.ProjA

end
-- ==== Proof.ProjASame.lean ====
/-
  The input projection's program and its idealization are one program at the floats, so the second's frame is the first's.
-/
module

public import proofs.«01_k».proof.Defs
public import proofs.«01_k».proof.Proof.Gen.Kernel2
public import proofs.«01_k».proof.Proof.ProjAIdealFrame

@[expose] public section

set_option maxRecDepth 16384
set_option maxHeartbeats 16000000

noncomputable section

namespace Cert.Kernel2.ProjSame

open Idealize.ShloMosaic Idealize.SL.Sem

/-- The bodies agree, -/
theorem body_eq : @Cert.Kernel2.cc0_proj Bits _ _ = @Cert.Kernel2Ideal.cc0_proj Bits _ _ := by exact rfl

/-- so do the tables of them, -/
theorem defs₀_eq : Cert.Kernel2.defs₀ (F := Bits) = Cert.Kernel2Ideal.defs₀ (F := Bits) := by
  refine congrArg Defs.onTc (funext fun l => funext fun a => ?_)
  match l, a with
  | ⟨0, _⟩, (t, s) => exact rfl
  | ⟨_ + 1, h⟩, _ => exact absurd h (Nat.not_lt.2 (Nat.le_add_left _ _))

/-- and the tables of the programs' labels. -/
theorem defs_eq : Cert.Kernel2.defs (F := Bits) = Cert.Kernel2Ideal.defs (F := Bits) := by
  unfold Cert.Kernel2.defs Cert.Kernel2Ideal.defs
  exact congrArg (Pipeline.defs Cert.Kernel2.pcfgs) defs₀_eq

/-- The programs agree. -/
theorem main_eq : Cert.Kernel2.main (F := Bits) = Cert.Kernel2Ideal.main (F := Bits) := by exact rfl

/-- The program's frame. -/
theorem frame : quiescent_Kernel2 (hKernel2 := Cert.Kernel2.Gen.facts) := fun m ρ _ =>
  (congrArg₂ (fun d p => θ_run d (onTc (τ := Cert.Kernel2.τ) p) ⟨m, fun _ => 0, ρ⟩ _) defs_eq main_eq).mpr
    (Cert.Kernel2Ideal.ProjA.frame (F := Bits) m ρ trivial (Cert.Kernel2Ideal.ProjA.hyps m trivial))

end Cert.Kernel2.ProjSame

end
-- ==== Proof.ProjASteps.lean ====
/-
  The steps of the input projection's body at an index: the normalised rows, the product, and a group of 128 columns
  normalised through a group matrix.
-/
module

public import proofs.«01_k».proof.Proof.Gen.Kernel2Ideal.Skeleton
public import Idealize.ShloMosaic.Lib.Pointwise

@[expose] public section

set_option maxRecDepth 16384

noncomputable section

open Idealize.ShloMosaic Idealize.ShloMosaic.TcCoe Idealize.SL.Sem

namespace Cert.Kernel2Ideal.ProjA

open Cert.Kernel2Ideal Cert.Kernel2Ideal.Gen

theorem pay10_apply (y : FVec Ideal S1024x1024 .f32) (gm : Vec Ideal S1x128x128 .bf16) (g : Vec Ideal S1x128 .f32) (r : Fin 1024) (e : Fin 128) :
    k0_pay10 (F := Ideal) y gm g (ix2 r e)
      = y (ix2 r ⟨0 + e.val, by omega⟩) * Ideal.rsqrt ((∑ l : Fin 128, y (ix2 r ⟨0 + l.val, by omega⟩) * y (ix2 r ⟨0 + l.val, by omega⟩) * gm (ix3 0 l e)) + Ideal.ofBits FTy.f32 897988541#32) * g (ix2 0 e) := by
  pointwise [k0_pay10, k0_pay9]

theorem pay11_apply (y : FVec Ideal S1024x1024 .f32) (gm : Vec Ideal S1x128x128 .bf16) (g : Vec Ideal S1x128 .f32) (r : Fin 1024) (e : Fin 128) :
    k0_pay11 (F := Ideal) y gm g (ix2 r e)
      = y (ix2 r ⟨128 + e.val, by omega⟩) * Ideal.rsqrt ((∑ l : Fin 128, y (ix2 r ⟨128 + l.val, by omega⟩) * y (ix2 r ⟨128 + l.val, by omega⟩) * gm (ix3 0 l e)) + Ideal.ofBits FTy.f32 897988541#32) * g (ix2 0 e) := by
  pointwise [k0_pay11, k0_pay9]

theorem pay12_apply (y : FVec Ideal S1024x1024 .f32) (gm : Vec Ideal S1x128x128 .bf16) (r : Fin 1024) (e : Fin 128) :
    k0_pay12 (F := Ideal) y gm (ix2 r e)
      = y (ix2 r ⟨256 + e.val, by omega⟩) * Ideal.rsqrt ((∑ l : Fin 128, y (ix2 r ⟨256 + l.val, by omega⟩) * y (ix2 r ⟨256 + l.val, by omega⟩) * gm (ix3 0 l e)) + Ideal.ofBits FTy.f32 897988541#32) := by
  pointwise [k0_pay12, k0_pay9]

theorem pay14_apply (y : FVec Ideal S1024x1024 .f32) (gm : Vec Ideal S1x128x128 .bf16) (g : Vec Ideal S1x128 .f32) (r : Fin 1024) (e : Fin 128) :
    k0_pay14 (F := Ideal) y gm g (ix2 r e)
      = y (ix2 r ⟨512 + e.val, by omega⟩) * Ideal.rsqrt ((∑ l : Fin 128, y (ix2 r ⟨512 + l.val, by omega⟩) * y (ix2 r ⟨512 + l.val, by omega⟩) * gm (ix3 0 l e)) + Ideal.ofBits FTy.f32 897988541#32) * g (ix2 0 e) := by
  pointwise [k0_pay14, k0_pay13]

theorem pay15_apply (y : FVec Ideal S1024x1024 .f32) (gm : Vec Ideal S1x128x128 .bf16) (g : Vec Ideal S1x128 .f32) (r : Fin 1024) (e : Fin 128) :
    k0_pay15 (F := Ideal) y gm g (ix2 r e)
      = y (ix2 r ⟨640 + e.val, by omega⟩) * Ideal.rsqrt ((∑ l : Fin 128, y (ix2 r ⟨640 + l.val, by omega⟩) * y (ix2 r ⟨640 + l.val, by omega⟩) * gm (ix3 0 l e)) + Ideal.ofBits FTy.f32 897988541#32) * g (ix2 0 e) := by
  pointwise [k0_pay15, k0_pay13]

theorem pay16_apply (y : FVec Ideal S1024x1024 .f32) (gm : Vec Ideal S1x128x128 .bf16) (r : Fin 1024) (e : Fin 128) :
    k0_pay16 (F := Ideal) y gm (ix2 r e)
      = y (ix2 r ⟨768 + e.val, by omega⟩) * Ideal.rsqrt ((∑ l : Fin 128, y (ix2 r ⟨768 + l.val, by omega⟩) * y (ix2 r ⟨768 + l.val, by omega⟩) * gm (ix3 0 l e)) + Ideal.ofBits FTy.f32 897988541#32) := by
  pointwise [k0_pay16, k0_pay13]

theorem pay5_apply (h : Vec Ideal S1024x2048 .bf16) (w : Vec Ideal S1x2048x1024 .bf16) (gm : Vec Ideal S1x128x128 .bf16) (g : Vec Ideal S1x128 .f32) (r : Fin 1024) (e : Fin 128) :
    k0_pay5 (F := Ideal) h w (k0_pay9 gm) g (ix2 r e)
      = k0_pay2 (F := Ideal) h w (ix2 r ⟨384 + e.val, by omega⟩) * Ideal.rsqrt ((∑ l : Fin 128, k0_pay2 (F := Ideal) h w (ix2 r ⟨384 + l.val, by omega⟩) * k0_pay2 (F := Ideal) h w (ix2 r ⟨384 + l.val, by omega⟩) * gm (ix3 0 l e)) + Ideal.ofBits FTy.f32 897988541#32) * g (ix2 0 e) := by
  pointwise [k0_pay5, k0_pay9]

theorem pay8_apply (h : Vec Ideal S1024x2048 .bf16) (w : Vec Ideal S1x2048x1024 .bf16) (gm : Vec Ideal S1x128x128 .bf16) (g : Vec Ideal S1x128 .f32) (r : Fin 1024) (e : Fin 128) :
    k0_pay8 (F := Ideal) h w (k0_pay13 gm) g (ix2 r e)
      = k0_pay2 (F := Ideal) h w (ix2 r ⟨896 + e.val, by omega⟩) * Ideal.rsqrt ((∑ l : Fin 128, k0_pay2 (F := Ideal) h w (ix2 r ⟨896 + l.val, by omega⟩) * k0_pay2 (F := Ideal) h w (ix2 r ⟨896 + l.val, by omega⟩) * gm (ix3 0 l e)) + Ideal.ofBits FTy.f32 897988541#32) * g (ix2 0 e) := by
  pointwise [k0_pay8, k0_pay13]

theorem pay4_apply (v : FVec Ideal S1024x128 .f32) (g : Vec Ideal S1x128 .f32) (r : Fin 1024) (e : Fin 128) :
    k0_pay4 (F := Ideal) v g (ix2 r e) = v (ix2 r e) * g (ix2 0 e) := by
  pointwise [k0_pay4]

theorem pay7_apply (v : FVec Ideal S1024x128 .f32) (g : Vec Ideal S1x128 .f32) (r : Fin 1024) (e : Fin 128) :
    k0_pay7 (F := Ideal) v g (ix2 r e) = v (ix2 r e) * g (ix2 0 e) := by
  pointwise [k0_pay7]

theorem pay3_apply (h : Vec Ideal S1024x2048 .bf16) (w : Vec Ideal S1x2048x1024 .bf16) (g : Vec Ideal S1x512 .f32) (r : Fin 1024) (u : Fin 512) :
    k0_pay3 (F := Ideal) h w g (ix2 r u) = k0_pay2 (F := Ideal) h w (ix2 r ⟨0 + u.val, by omega⟩) * g (ix2 0 u) := by
  pointwise [k0_pay3]

theorem pay6_apply (h : Vec Ideal S1024x2048 .bf16) (w : Vec Ideal S1x2048x1024 .bf16) (g : Vec Ideal S1x512 .f32) (r : Fin 1024) (u : Fin 512) :
    k0_pay6 (F := Ideal) h w g (ix2 r u) = k0_pay2 (F := Ideal) h w (ix2 r ⟨512 + u.val, by omega⟩) * g (ix2 0 u) := by
  pointwise [k0_pay6]

/-- The product at an index. -/
theorem pay2_apply (h : Vec Ideal S1024x2048 .bf16) (w : Vec Ideal S1x2048x1024 .bf16) (r : Fin 1024) (n : Fin 1024) :
    k0_pay2 (F := Ideal) h w (ix2 r n) = ∑ k : Fin 2048, h (ix2 r k) * w (ix3 0 k n) := by
  pointwise [k0_pay2]

/-- The normalised rows at an index. -/
theorem pay1_apply (x : Vec Ideal S1024x2048 .f32) (g : Vec Ideal S1x2048 .f32) (r : Fin 1024) (k : Fin 2048) :
    k0_pay1 (F := Ideal) x g (ix2 r k) = x (ix2 r k)
      * Ideal.rsqrt (Ideal.div (∑ l : Fin 2048, x (ix2 r l) * x (ix2 r l)) (Ideal.ofBits FTy.f32 1157627904#32) + Ideal.ofBits FTy.f32 897988541#32)
      * g (ix2 0 k) := by
  pointwise [k0_pay1]

end Cert.Kernel2Ideal.ProjA

end
-- ==== Proof.ProjATile.lean ====
/-
  What the input projection's body leaves in each case: the normalised rows, and the block of the product with its
  columns normalised in groups or multiplied by the gain.
-/
module

public import proofs.«01_k».proof.Proof.ProjASteps
public import proofs.«01_k».proof.Proof.ProjAIdealFrame

@[expose] public section

set_option maxRecDepth 16384

noncomputable section

open Idealize.ShloMosaic Idealize.ShloMosaic.TcCoe Idealize.SL.Sem Idealize.ShloMosaic.Tactic

namespace Cert.Kernel2Ideal.ProjA

open Cert.Kernel2Ideal Cert.Kernel2Ideal.Gen

/-- The normalising constant's word. -/
def eps : EReal := Ideal.ofBits FTy.f32 897988541#32

/-- A block's entry, its columns normalised in groups of 128 through the group matrix `κ`, times the gain. -/
def normAt (y : Fin 1024 → Fin 1024 → EReal) (gm : Vec Ideal S3x128x128 .bf16) (κ : Fin 3) (g : Vec Ideal S1x1024 .f32) (r n : Fin 1024) : EReal :=
  y r n * Ideal.rsqrt ((∑ l : Fin 128, y r ⟨128 * (n.val / 128) + l.val, by omega⟩ * y r ⟨128 * (n.val / 128) + l.val, by omega⟩
    * gm (ix3 κ l ⟨n.val % 128, by omega⟩)) + eps) * g (ix2 0 n)

/-- A block's entry times the gain. -/
def plainAt (y : Fin 1024 → Fin 1024 → EReal) (g : Vec Ideal S1x1024 .f32) (r n : Fin 1024) : EReal := y r n * g (ix2 0 n)

/-- The product of the kept rows and the weights' block. -/
def prodAt (h : Vec Ideal S1024x2048 .bf16) (w : Vec Ideal S1x2048x1024 .bf16) (r n : Fin 1024) : EReal := k0_pay2 (F := Ideal) h w (ix2 r n)

/-- A block given by its entries. -/
def block (f : Fin 1024 → Fin 1024 → EReal) : Vec Ideal S1024x1024 .bf16 := fun i => f ⟨(i 0).val, (i 0).isLt⟩ ⟨(i 1).val, (i 1).isLt⟩

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

/-- A group matrix read at the row of the table's word. -/
theorem group_at (off : Fin 3 → ℕ) (inb : ∀ a : Fin 3, off a + S1x128x128.size a ≤ S3x128x128.size a) (κ : Fin 3)
    (hoff : off = ![κ.val, 0, 0]) (x : Vec Ideal S3x128x128 .bf16) (l e : Fin 128) :
    View.ld x (Rect.unit (s := S3x128x128) off S1x128x128.size inb) (ix3 0 l e) = x (ix3 κ l e) := by
  subst hoff
  show x _ = x _
  refine congrArg x ?_
  funext a; apply Fin.ext
  match a with
  | ⟨0, _⟩ => show κ.val + 1 * 0 = κ.val; omega
  | ⟨1, _⟩ => show 0 + 1 * l.val = l.val; omega
  | ⟨2, _⟩ => show 0 + 1 * e.val = e.val; omega

/-- The gain's columns from `o` on. -/
theorem gain_at (o : ℕ) (inb : ∀ a : Fin 2, (![0, o] : Fin 2 → ℕ) a + S1x128.size a ≤ S1x1024.size a) (x : Vec Ideal S1x1024 .f32) (e : Fin 128)
    (u : Fin 1024) (hu : u.val = o + e.val) :
    View.ld x (Rect.unit (s := S1x1024) ![0, o] S1x128.size inb) (ix2 0 e) = x (ix2 0 u) := by
  show x _ = x _
  refine congrArg x ?_
  funext a; apply Fin.ext
  match a with
  | ⟨0, _⟩ => show 0 + 1 * 0 = 0; omega
  | ⟨1, _⟩ => show o + 1 * e.val = u.val; omega

/-- The same for a section of 512 columns. -/
theorem gain_half (o : ℕ) (inb : ∀ a : Fin 2, (![0, o] : Fin 2 → ℕ) a + S1x512.size a ≤ S1x1024.size a) (x : Vec Ideal S1x1024 .f32) (e : Fin 512)
    (u : Fin 1024) (hu : u.val = o + e.val) :
    View.ld x (Rect.unit (s := S1x1024) ![0, o] S1x512.size inb) (ix2 0 e) = x (ix2 0 u) := by
  show x _ = x _
  refine congrArg x ?_
  funext a; apply Fin.ext
  match a with
  | ⟨0, _⟩ => show 0 + 1 * 0 = 0; omega
  | ⟨1, _⟩ => show o + 1 * e.val = u.val; omega

/-- A group of 128 columns stored at column `o` is that group of the normalised block. -/
theorem norm_piece (o : ℕ) (ho : o % 128 = 0) (ho' : o + 128 ≤ 1024) (inb : ∀ a : Fin 2, (![0, o] : Fin 2 → ℕ) a + S1024x128.size a ≤ S1024x1024.size a)
    (y : Fin 1024 → Fin 1024 → EReal) (gm : Vec Ideal S3x128x128 .bf16) (κ : Fin 3) (g : Vec Ideal S1x1024 .f32)
    (G : Fin 1024 → Fin 1024 → EReal) (hG : ∀ r (n : Fin 1024), o ≤ n.val → n.val < o + 128 → G r n = normAt y gm κ g r n)
    (p : Vec Ideal S1024x128 .bf16) (gmv : Vec Ideal S1x128x128 .bf16) (gv : Vec Ideal S1x128 .f32)
    (hgm : ∀ l e, gmv (ix3 0 l e) = gm (ix3 κ l e)) (hgv : ∀ (e : Fin 128), gv (ix2 0 e) = g (ix2 0 ⟨o + e.val, by omega⟩))
    (hp : ∀ (r : Fin 1024) (e : Fin 128), p (ix2 r e) = y r ⟨o + e.val, by omega⟩ * Ideal.rsqrt ((∑ l : Fin 128,
      y r ⟨o + l.val, by omega⟩ * y r ⟨o + l.val, by omega⟩ * gmv (ix3 0 l e)) + Ideal.ofBits FTy.f32 897988541#32) * gv (ix2 0 e)) (x) :
    p x = block G ((Rect.unit (s := S1024x1024) ![0, o] S1024x128.size inb).emb x) := by
  have hx : x = ix2 (⟨(x 0).val, (x 0).isLt⟩ : Fin 1024) (⟨(x 1).val, (x 1).isLt⟩ : Fin 128) := by
    funext a; match a with | ⟨0, _⟩ => rfl | ⟨1, _⟩ => rfl
  obtain ⟨r, hr⟩ : ∃ r : Fin 1024, r = ⟨(x 0).val, (x 0).isLt⟩ := ⟨_, rfl⟩
  obtain ⟨e, he⟩ : ∃ e : Fin 128, e = ⟨(x 1).val, (x 1).isLt⟩ := ⟨_, rfl⟩
  rw [← hr, ← he] at hx
  subst hx
  have he' := e.isLt
  have hb : block G ((Rect.unit (s := S1024x1024) ![0, o] S1024x128.size inb).emb (ix2 r e)) = G r ⟨o + e.val, by omega⟩ := by
    show G _ _ = G _ _
    refine congrArg₂ G ?_ ?_
    · apply Fin.ext; show 0 + 1 * r.val = r.val; omega
    · apply Fin.ext; show o + 1 * e.val = o + e.val; omega
  rw [hb, hG r ⟨o + e.val, by omega⟩ (by simp) (by simp), hp, hgv]
  unfold normAt eps
  refine congrArg (fun z => y r ⟨o + e.val, by omega⟩ * Ideal.rsqrt (z + Ideal.ofBits FTy.f32 897988541#32) * g (ix2 0 ⟨o + e.val, by omega⟩)) ?_
  refine Finset.sum_congr rfl fun l _ => ?_
  have hl := l.isLt
  have h1 : (⟨o + l.val, by omega⟩ : Fin 1024) = ⟨128 * ((o + e.val) / 128) + l.val, by omega⟩ := Fin.ext (by show o + l.val = _; dsimp only; omega)
  have h2 : (⟨(o + e.val) % 128, by omega⟩ : Fin 128) = e := Fin.ext (by show (o + e.val) % 128 = e.val; omega)
  show _ = y r ⟨128 * ((o + e.val) / 128) + l.val, _⟩ * y r ⟨128 * ((o + e.val) / 128) + l.val, _⟩ * gm (ix3 κ l ⟨(o + e.val) % 128, _⟩)
  rw [hgm, h1, h2]

/-- A section of 512 columns stored at column `o` is that section of the plain block. -/
theorem plain_piece (o : ℕ) (ho' : o + 512 ≤ 1024) (inb : ∀ a : Fin 2, (![0, o] : Fin 2 → ℕ) a + S1024x512.size a ≤ S1024x1024.size a)
    (y : Fin 1024 → Fin 1024 → EReal) (g : Vec Ideal S1x1024 .f32)
    (G : Fin 1024 → Fin 1024 → EReal) (hG : ∀ r (n : Fin 1024), o ≤ n.val → n.val < o + 512 → G r n = plainAt y g r n)
    (p : Vec Ideal S1024x512 .bf16) (gv : Vec Ideal S1x512 .f32)
    (hgv : ∀ (e : Fin 512), gv (ix2 0 e) = g (ix2 0 ⟨o + e.val, by omega⟩))
    (hp : ∀ (r : Fin 1024) (e : Fin 512), p (ix2 r e) = y r ⟨o + e.val, by omega⟩ * gv (ix2 0 e)) (x) :
    p x = block G ((Rect.unit (s := S1024x1024) ![0, o] S1024x512.size inb).emb x) := by
  have hx : x = ix2 (⟨(x 0).val, (x 0).isLt⟩ : Fin 1024) (⟨(x 1).val, (x 1).isLt⟩ : Fin 512) := by
    funext a; match a with | ⟨0, _⟩ => rfl | ⟨1, _⟩ => rfl
  obtain ⟨r, hr⟩ : ∃ r : Fin 1024, r = ⟨(x 0).val, (x 0).isLt⟩ := ⟨_, rfl⟩
  obtain ⟨e, he⟩ : ∃ e : Fin 512, e = ⟨(x 1).val, (x 1).isLt⟩ := ⟨_, rfl⟩
  rw [← hr, ← he] at hx
  subst hx
  have he' := e.isLt
  have hb : block G ((Rect.unit (s := S1024x1024) ![0, o] S1024x512.size inb).emb (ix2 r e)) = G r ⟨o + e.val, by omega⟩ := by
    show G _ _ = G _ _
    refine congrArg₂ G ?_ ?_
    · apply Fin.ext; show 0 + 1 * r.val = r.val; omega
    · apply Fin.ext; show o + 1 * e.val = o + e.val; omega
  rw [hb, hG r ⟨o + e.val, by omega⟩ (by simp) (by simp), hp, hgv]
  rfl

theorem sout_A (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := Ideal) c tbM0_0) (hc0 : cond0_0 i) (hc1 : ¬cond0_1 c xt0 i) (hc2 : cond0_2 c xt0 i) (hc3 : ¬cond0_3 c xt0 i) (hc4 : cond0_4 c xt0 i)
    (x0 : Vec Ideal S1024x2048 .f32) (x1 : Vec Ideal S1x2048 .f32) (x2 : Vec Ideal S1x2048x1024 .bf16) (x3 : Vec Ideal S3x128x128 .bf16) (x4 : Vec Ideal S1x1024 .f32) (k0_hw1 : k0_chk1 (tbM0_0.view.readAt (Elt Ideal) (Rect.unit (s := S10) (k0_off1 i) S1.size (k0_off1_inb i)).toLoadRect xt0 (Shape.Idx.first (numel1_S1.symm ▸ Nat.one_pos)))) (k0_hw2 : k0_chk2 (tbM0_0.view.readAt (Elt Ideal) (Rect.unit (s := S10) (k0_off3 i) S1.size (k0_off3_inb i)).toLoadRect xt0 (Shape.Idx.first (numel1_S1.symm ▸ Nat.one_pos)))) :
    sout0_A_0 (F := Ideal) c i arg3 harg3 arg4 harg4 arg5 harg5 arg6 harg6 arg7 harg7 arg8 harg8 arg9 harg9 xt0 hc0 hc1 hc2 hc3 hc4 x0 x1 x2 x3 x4 k0_hw1 k0_hw2 = k0_pay1 x0 x1 := by
  unfold sout0_A_0
  rw [View.read_writes_eq_canon _ _ _ (scover0_A_0 c i arg3 harg3 arg4 harg4 arg5 harg5 arg6 harg6 arg7 harg7 arg8 harg8 arg9 harg9 xt0 hc0 hc1 hc2 hc3 hc4 x0 x1 x2 x3 x4 k0_hw1 k0_hw2)]
  unfold kernelRun0_A
  dsimp only
  sl_unfold_words
  rw [View.canon_unit_zero zero2]
  simp only [View.readAt_eq_ld, harg3.read_unread, harg4.read_unread, harg5.read_unread, harg6.read_unread, harg7.read_unread, harg9.read_unread,
    View.readCov_unit_zero (S := S1024x2048) _ zero2, View.ld_unit_zero (S := S1024x2048) zero2, View.ld_unit_zero (S := S1x2048) zero2, View.ld_unit_zero (S := S1x2048x1024) zero3, shapeCast_self]

/-- The block this case leaves. -/
theorem out_A (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := Ideal) c tbM0_0) (hc0 : cond0_0 i) (hc1 : ¬cond0_1 c xt0 i) (hc2 : cond0_2 c xt0 i) (hc3 : ¬cond0_3 c xt0 i) (hc4 : cond0_4 c xt0 i)
    (x0 : Vec Ideal S1024x2048 .f32) (x1 : Vec Ideal S1x2048 .f32) (x2 : Vec Ideal S1x2048x1024 .bf16) (x3 : Vec Ideal S3x128x128 .bf16) (x4 : Vec Ideal S1x1024 .f32) (k0_hw1 : k0_chk1 (tbM0_0.view.readAt (Elt Ideal) (Rect.unit (s := S10) (k0_off1 i) S1.size (k0_off1_inb i)).toLoadRect xt0 (Shape.Idx.first (numel1_S1.symm ▸ Nat.one_pos)))) (k0_hw2 : k0_chk2 (tbM0_0.view.readAt (Elt Ideal) (Rect.unit (s := S10) (k0_off3 i) S1.size (k0_off3_inb i)).toLoadRect xt0 (Shape.Idx.first (numel1_S1.symm ▸ Nat.one_pos)))) (κ : Fin 3) (k1 : k0_off2 (word0 (F := Ideal) c xt0 i) = ![κ.val, 0, 0]) (k2 : k0_off4 (word1 (F := Ideal) c xt0 i) = ![κ.val, 0, 0]) :
    out0_A_5 (F := Ideal) c i arg3 harg3 arg4 harg4 arg5 harg5 arg6 harg6 arg7 harg7 arg8 harg8 arg9 harg9 xt0 hc0 hc1 hc2 hc3 hc4 x0 x1 x2 x3 x4 k0_hw1 k0_hw2 = block (normAt (prodAt (k0_pay1 x0 x1) x2) x3 κ x4) := by
  unfold out0_A_5
  have hcov := cover0_A_5 (F := Ideal) c i arg3 harg3 arg4 harg4 arg5 harg5 arg6 harg6 arg7 harg7 arg8 harg8 arg9 harg9 xt0 hc0 hc1 hc2 hc3 hc4 x0 x1 x2 x3 x4 k0_hw1 k0_hw2
  rw [View.read_writes_eq_canon _ _ _ hcov]
  funext z
  refine View.canon_apply_of_pieces (block (normAt (prodAt (k0_pay1 x0 x1) x2) x3 κ x4)) _ ?_ z (hcov z)
  clear hcov
  unfold kernelRun0_A
  dsimp only
  sl_unfold_words
  simp only [View.readAt_eq_ld, harg3.read_unread, harg4.read_unread, harg5.read_unread, harg6.read_unread, harg7.read_unread, harg9.read_unread,
    View.readCov_unit_zero (S := S1024x2048) _ zero2, View.ld_unit_zero (S := S1024x2048) zero2, View.ld_unit_zero (S := S1x2048) zero2, View.ld_unit_zero (S := S1x2048x1024) zero3, shapeCast_self]
  simp only [List.forall_mem_cons, List.not_mem_nil, false_imp_iff, implies_true, and_true]
  refine ⟨?_, ?_, ?_, ?_, ?_, ?_, ?_, ?_⟩
  · exact norm_piece 896 (by norm_num) (by norm_num) _ (prodAt (k0_pay1 x0 x1) x2) x3 κ x4 _ (fun r n _ _ => rfl) _ _ _
      (fun l e => group_at _ _ κ k2 x3 l e) (fun e => gain_at 896 _ x4 e _ rfl) (fun r e => pay8_apply _ _ _ _ r e)
  · exact norm_piece 768 (by norm_num) (by norm_num) _ (prodAt (k0_pay1 x0 x1) x2) x3 κ x4 _ (fun r n _ _ => rfl) _ _ _
      (fun l e => group_at _ _ κ k2 x3 l e) (fun e => gain_at 768 _ x4 e _ rfl) (fun r e => (pay7_apply _ _ r e).trans (congrArg (· * _) (pay16_apply _ _ r e)))
  · exact norm_piece 640 (by norm_num) (by norm_num) _ (prodAt (k0_pay1 x0 x1) x2) x3 κ x4 _ (fun r n _ _ => rfl) _ _ _
      (fun l e => group_at _ _ κ k2 x3 l e) (fun e => gain_at 640 _ x4 e _ rfl) (fun r e => pay15_apply _ _ _ r e)
  · exact norm_piece 512 (by norm_num) (by norm_num) _ (prodAt (k0_pay1 x0 x1) x2) x3 κ x4 _ (fun r n _ _ => rfl) _ _ _
      (fun l e => group_at _ _ κ k2 x3 l e) (fun e => gain_at 512 _ x4 e _ rfl) (fun r e => pay14_apply _ _ _ r e)
  · exact norm_piece 384 (by norm_num) (by norm_num) _ (prodAt (k0_pay1 x0 x1) x2) x3 κ x4 _ (fun r n _ _ => rfl) _ _ _
      (fun l e => group_at _ _ κ k1 x3 l e) (fun e => gain_at 384 _ x4 e _ rfl) (fun r e => pay5_apply _ _ _ _ r e)
  · exact norm_piece 256 (by norm_num) (by norm_num) _ (prodAt (k0_pay1 x0 x1) x2) x3 κ x4 _ (fun r n _ _ => rfl) _ _ _
      (fun l e => group_at _ _ κ k1 x3 l e) (fun e => gain_at 256 _ x4 e _ rfl) (fun r e => (pay4_apply _ _ r e).trans (congrArg (· * _) (pay12_apply _ _ r e)))
  · exact norm_piece 128 (by norm_num) (by norm_num) _ (prodAt (k0_pay1 x0 x1) x2) x3 κ x4 _ (fun r n _ _ => rfl) _ _ _
      (fun l e => group_at _ _ κ k1 x3 l e) (fun e => gain_at 128 _ x4 e _ rfl) (fun r e => pay11_apply _ _ _ r e)
  · exact norm_piece 0 (by norm_num) (by norm_num) _ (prodAt (k0_pay1 x0 x1) x2) x3 κ x4 _ (fun r n _ _ => rfl) _ _ _
      (fun l e => group_at _ _ κ k1 x3 l e) (fun e => gain_at 0 _ x4 e _ rfl) (fun r e => pay10_apply _ _ _ r e)

/-- The block this case leaves. -/
theorem out_B (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := Ideal) c tbM0_0) (hc0 : ¬cond0_0 i) (hc1 : ¬cond0_1 c xt0 i) (hc2 : cond0_2 c xt0 i) (hc3 : ¬cond0_3 c xt0 i) (hc4 : cond0_4 c xt0 i)
    (x0 : Vec Ideal S1024x2048 .f32) (x1 : Vec Ideal S1x2048 .f32) (x2 : Vec Ideal S1x2048x1024 .bf16) (x3 : Vec Ideal S3x128x128 .bf16) (x4 : Vec Ideal S1x1024 .f32) (xs0 : Vec Ideal S1024x2048 .bf16) (k0_hw1 : k0_chk1 (tbM0_0.view.readAt (Elt Ideal) (Rect.unit (s := S10) (k0_off1 i) S1.size (k0_off1_inb i)).toLoadRect xt0 (Shape.Idx.first (numel1_S1.symm ▸ Nat.one_pos)))) (k0_hw2 : k0_chk2 (tbM0_0.view.readAt (Elt Ideal) (Rect.unit (s := S10) (k0_off3 i) S1.size (k0_off3_inb i)).toLoadRect xt0 (Shape.Idx.first (numel1_S1.symm ▸ Nat.one_pos)))) (κ : Fin 3) (k1 : k0_off2 (word0 (F := Ideal) c xt0 i) = ![κ.val, 0, 0]) (k2 : k0_off4 (word1 (F := Ideal) c xt0 i) = ![κ.val, 0, 0]) :
    out0_B_5 (F := Ideal) c i arg3 harg3 arg4 harg4 arg5 harg5 arg6 harg6 arg7 harg7 arg8 harg8 arg9 harg9 xt0 hc0 hc1 hc2 hc3 hc4 x0 x1 x2 x3 x4 xs0 k0_hw1 k0_hw2 = block (normAt (prodAt xs0 x2) x3 κ x4) := by
  unfold out0_B_5
  have hcov := cover0_B_5 (F := Ideal) c i arg3 harg3 arg4 harg4 arg5 harg5 arg6 harg6 arg7 harg7 arg8 harg8 arg9 harg9 xt0 hc0 hc1 hc2 hc3 hc4 x0 x1 x2 x3 x4 xs0 k0_hw1 k0_hw2
  rw [View.read_writes_eq_canon _ _ _ hcov]
  funext z
  refine View.canon_apply_of_pieces (block (normAt (prodAt xs0 x2) x3 κ x4)) _ ?_ z (hcov z)
  clear hcov
  unfold kernelRun0_B
  dsimp only
  sl_unfold_words
  simp only [View.readAt_eq_ld, harg3.read_unread, harg4.read_unread, harg5.read_unread, harg6.read_unread, harg7.read_unread, harg9.read_unread,
    View.readCov_unit_zero (S := S1024x2048) _ zero2, View.ld_unit_zero (S := S1024x2048) zero2, View.ld_unit_zero (S := S1x2048) zero2, View.ld_unit_zero (S := S1x2048x1024) zero3, shapeCast_self]
  simp only [List.forall_mem_cons, List.not_mem_nil, false_imp_iff, implies_true, and_true]
  refine ⟨?_, ?_, ?_, ?_, ?_, ?_, ?_, ?_⟩
  · exact norm_piece 896 (by norm_num) (by norm_num) _ (prodAt xs0 x2) x3 κ x4 _ (fun r n _ _ => rfl) _ _ _
      (fun l e => group_at _ _ κ k2 x3 l e) (fun e => gain_at 896 _ x4 e _ rfl) (fun r e => pay8_apply _ _ _ _ r e)
  · exact norm_piece 768 (by norm_num) (by norm_num) _ (prodAt xs0 x2) x3 κ x4 _ (fun r n _ _ => rfl) _ _ _
      (fun l e => group_at _ _ κ k2 x3 l e) (fun e => gain_at 768 _ x4 e _ rfl) (fun r e => (pay7_apply _ _ r e).trans (congrArg (· * _) (pay16_apply _ _ r e)))
  · exact norm_piece 640 (by norm_num) (by norm_num) _ (prodAt xs0 x2) x3 κ x4 _ (fun r n _ _ => rfl) _ _ _
      (fun l e => group_at _ _ κ k2 x3 l e) (fun e => gain_at 640 _ x4 e _ rfl) (fun r e => pay15_apply _ _ _ r e)
  · exact norm_piece 512 (by norm_num) (by norm_num) _ (prodAt xs0 x2) x3 κ x4 _ (fun r n _ _ => rfl) _ _ _
      (fun l e => group_at _ _ κ k2 x3 l e) (fun e => gain_at 512 _ x4 e _ rfl) (fun r e => pay14_apply _ _ _ r e)
  · exact norm_piece 384 (by norm_num) (by norm_num) _ (prodAt xs0 x2) x3 κ x4 _ (fun r n _ _ => rfl) _ _ _
      (fun l e => group_at _ _ κ k1 x3 l e) (fun e => gain_at 384 _ x4 e _ rfl) (fun r e => pay5_apply _ _ _ _ r e)
  · exact norm_piece 256 (by norm_num) (by norm_num) _ (prodAt xs0 x2) x3 κ x4 _ (fun r n _ _ => rfl) _ _ _
      (fun l e => group_at _ _ κ k1 x3 l e) (fun e => gain_at 256 _ x4 e _ rfl) (fun r e => (pay4_apply _ _ r e).trans (congrArg (· * _) (pay12_apply _ _ r e)))
  · exact norm_piece 128 (by norm_num) (by norm_num) _ (prodAt xs0 x2) x3 κ x4 _ (fun r n _ _ => rfl) _ _ _
      (fun l e => group_at _ _ κ k1 x3 l e) (fun e => gain_at 128 _ x4 e _ rfl) (fun r e => pay11_apply _ _ _ r e)
  · exact norm_piece 0 (by norm_num) (by norm_num) _ (prodAt xs0 x2) x3 κ x4 _ (fun r n _ _ => rfl) _ _ _
      (fun l e => group_at _ _ κ k1 x3 l e) (fun e => gain_at 0 _ x4 e _ rfl) (fun r e => pay10_apply _ _ _ r e)

/-- The block this case leaves. -/
theorem out_C (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := Ideal) c tbM0_0) (hc0 : ¬cond0_0 i) (hc1 : cond0_1 c xt0 i) (hc2 : ¬cond0_2 c xt0 i) (hc3 : cond0_3 c xt0 i) (hc4 : ¬cond0_4 c xt0 i)
    (x0 : Vec Ideal S1024x2048 .f32) (x1 : Vec Ideal S1x2048 .f32) (x2 : Vec Ideal S1x2048x1024 .bf16) (x3 : Vec Ideal S3x128x128 .bf16) (x4 : Vec Ideal S1x1024 .f32) (xs0 : Vec Ideal S1024x2048 .bf16) (k0_hw1 : k0_chk1 (tbM0_0.view.readAt (Elt Ideal) (Rect.unit (s := S10) (k0_off1 i) S1.size (k0_off1_inb i)).toLoadRect xt0 (Shape.Idx.first (numel1_S1.symm ▸ Nat.one_pos)))) (k0_hw2 : k0_chk2 (tbM0_0.view.readAt (Elt Ideal) (Rect.unit (s := S10) (k0_off3 i) S1.size (k0_off3_inb i)).toLoadRect xt0 (Shape.Idx.first (numel1_S1.symm ▸ Nat.one_pos))))  :
    out0_C_5 (F := Ideal) c i arg3 harg3 arg4 harg4 arg5 harg5 arg6 harg6 arg7 harg7 arg8 harg8 arg9 harg9 xt0 hc0 hc1 hc2 hc3 hc4 x0 x1 x2 x3 x4 xs0 k0_hw1 k0_hw2 = block (plainAt (prodAt xs0 x2) x4) := by
  unfold out0_C_5
  have hcov := cover0_C_5 (F := Ideal) c i arg3 harg3 arg4 harg4 arg5 harg5 arg6 harg6 arg7 harg7 arg8 harg8 arg9 harg9 xt0 hc0 hc1 hc2 hc3 hc4 x0 x1 x2 x3 x4 xs0 k0_hw1 k0_hw2
  rw [View.read_writes_eq_canon _ _ _ hcov]
  funext z
  refine View.canon_apply_of_pieces (block (plainAt (prodAt xs0 x2) x4)) _ ?_ z (hcov z)
  clear hcov
  unfold kernelRun0_C
  dsimp only
  sl_unfold_words
  simp only [View.readAt_eq_ld, harg3.read_unread, harg4.read_unread, harg5.read_unread, harg6.read_unread, harg7.read_unread, harg9.read_unread,
    View.readCov_unit_zero (S := S1024x2048) _ zero2, View.ld_unit_zero (S := S1024x2048) zero2, View.ld_unit_zero (S := S1x2048) zero2, View.ld_unit_zero (S := S1x2048x1024) zero3, shapeCast_self]
  simp only [List.forall_mem_cons, List.not_mem_nil, false_imp_iff, implies_true, and_true]
  refine ⟨?_, ?_⟩
  · exact plain_piece 512 (by norm_num) _ (prodAt xs0 x2) x4 _ (fun r n _ _ => rfl) _ _
      (fun e => gain_half 512 _ x4 e _ rfl) (fun r e => pay6_apply _ _ _ r e)
  · exact plain_piece 0 (by norm_num) _ (prodAt xs0 x2) x4 _ (fun r n _ _ => rfl) _ _
      (fun e => gain_half 0 _ x4 e _ rfl) (fun r e => pay3_apply _ _ _ r e)

/-- The block this case leaves. -/
theorem out_D (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x2048 .bf16) (harg9 : arg9.IsWhole) (xt0 : TbBuf0 (F := Ideal) c tbM0_0) (hc0 : ¬cond0_0 i) (hc1 : cond0_1 c xt0 i) (hc2 : ¬cond0_2 c xt0 i) (hc3 : ¬cond0_3 c xt0 i) (hc4 : cond0_4 c xt0 i)
    (x0 : Vec Ideal S1024x2048 .f32) (x1 : Vec Ideal S1x2048 .f32) (x2 : Vec Ideal S1x2048x1024 .bf16) (x3 : Vec Ideal S3x128x128 .bf16) (x4 : Vec Ideal S1x1024 .f32) (xs0 : Vec Ideal S1024x2048 .bf16) (k0_hw1 : k0_chk1 (tbM0_0.view.readAt (Elt Ideal) (Rect.unit (s := S10) (k0_off1 i) S1.size (k0_off1_inb i)).toLoadRect xt0 (Shape.Idx.first (numel1_S1.symm ▸ Nat.one_pos)))) (k0_hw2 : k0_chk2 (tbM0_0.view.readAt (Elt Ideal) (Rect.unit (s := S10) (k0_off3 i) S1.size (k0_off3_inb i)).toLoadRect xt0 (Shape.Idx.first (numel1_S1.symm ▸ Nat.one_pos)))) (κ : Fin 3) (k2 : k0_off4 (word1 (F := Ideal) c xt0 i) = ![κ.val, 0, 0]) :
    out0_D_5 (F := Ideal) c i arg3 harg3 arg4 harg4 arg5 harg5 arg6 harg6 arg7 harg7 arg8 harg8 arg9 harg9 xt0 hc0 hc1 hc2 hc3 hc4 x0 x1 x2 x3 x4 xs0 k0_hw1 k0_hw2 = block (fun r n => if n.val < 512 then plainAt (prodAt xs0 x2) x4 r n else normAt (prodAt xs0 x2) x3 κ x4 r n) := by
  unfold out0_D_5
  have hcov := cover0_D_5 (F := Ideal) c i arg3 harg3 arg4 harg4 arg5 harg5 arg6 harg6 arg7 harg7 arg8 harg8 arg9 harg9 xt0 hc0 hc1 hc2 hc3 hc4 x0 x1 x2 x3 x4 xs0 k0_hw1 k0_hw2
  rw [View.read_writes_eq_canon _ _ _ hcov]
  funext z
  refine View.canon_apply_of_pieces (block (fun r n => if n.val < 512 then plainAt (prodAt xs0 x2) x4 r n else normAt (prodAt xs0 x2) x3 κ x4 r n)) _ ?_ z (hcov z)
  clear hcov
  unfold kernelRun0_D
  dsimp only
  sl_unfold_words
  simp only [View.readAt_eq_ld, harg3.read_unread, harg4.read_unread, harg5.read_unread, harg6.read_unread, harg7.read_unread, harg9.read_unread,
    View.readCov_unit_zero (S := S1024x2048) _ zero2, View.ld_unit_zero (S := S1024x2048) zero2, View.ld_unit_zero (S := S1x2048) zero2, View.ld_unit_zero (S := S1x2048x1024) zero3, shapeCast_self]
  simp only [List.forall_mem_cons, List.not_mem_nil, false_imp_iff, implies_true, and_true]
  refine ⟨?_, ?_, ?_, ?_, ?_⟩
  · exact norm_piece 896 (by norm_num) (by norm_num) _ (prodAt xs0 x2) x3 κ x4 _ (fun r n h _ => if_neg (by omega)) _ _ _
      (fun l e => group_at _ _ κ k2 x3 l e) (fun e => gain_at 896 _ x4 e _ rfl) (fun r e => pay8_apply _ _ _ _ r e)
  · exact norm_piece 768 (by norm_num) (by norm_num) _ (prodAt xs0 x2) x3 κ x4 _ (fun r n h _ => if_neg (by omega)) _ _ _
      (fun l e => group_at _ _ κ k2 x3 l e) (fun e => gain_at 768 _ x4 e _ rfl) (fun r e => (pay7_apply _ _ r e).trans (congrArg (· * _) (pay16_apply _ _ r e)))
  · exact norm_piece 640 (by norm_num) (by norm_num) _ (prodAt xs0 x2) x3 κ x4 _ (fun r n h _ => if_neg (by omega)) _ _ _
      (fun l e => group_at _ _ κ k2 x3 l e) (fun e => gain_at 640 _ x4 e _ rfl) (fun r e => pay15_apply _ _ _ r e)
  · exact norm_piece 512 (by norm_num) (by norm_num) _ (prodAt xs0 x2) x3 κ x4 _ (fun r n h _ => if_neg (by omega)) _ _ _
      (fun l e => group_at _ _ κ k2 x3 l e) (fun e => gain_at 512 _ x4 e _ rfl) (fun r e => pay14_apply _ _ _ r e)
  · exact plain_piece 0 (by norm_num) _ (prodAt xs0 x2) x4 _ (fun r n _ h => if_pos h) _ _
      (fun e => gain_half 0 _ x4 e _ rfl) (fun r e => pay3_apply _ _ _ r e)

end Cert.Kernel2Ideal.ProjA

end
-- ==== Proof.Reshapes.lean ====
/-
  Reshapes read at an index: two leading axes as one, and a last axis split into heads; and a host maximum along a last axis.
-/
module

public import Idealize.ShloMosaic.Lib.Pointwise
public import Idealize.ShloMosaic.Lib.ValueIdx
public import Idealize.ShloMosaic.Lib.ShapeFacts

@[expose] public section

noncomputable section

open Idealize.ShloMosaic

namespace Cert.Reshapes

/-- The batch and sequence axes as one: row `b T + t` of the rows is row `t` of batch `b`. -/
theorem rows_apply {α : Type} {B T N M : ℕ} (x : (⟨3, ![B, T, N]⟩ : Shape).Idx → α) (h : (⟨3, ![B, T, N]⟩ : Shape).ShapeCasts ⟨2, ![M, N]⟩)
    (b : Fin B) (t : Fin T) (j : Fin N) (R : Fin M) (hR : R.val = b.val * T + t.val) :
    shapeCast ⟨2, ![M, N]⟩ x h (ix2 R j) = x (ix3 b t j) := by
  rw [Pointwise.shapeCast_apply]
  refine congrArg x ?_
  refine Shape.reshapeEquiv_eq_of_vals _ _ _ _ _ (rowMajor_val3 _ (T * N) N rfl rfl) (rowMajor_val2 _ N rfl) ?_
  show b.val * (T * N) + t.val * N + j.val = R.val * N + j.val
  rw [hR]
  ring

/-- The last axis as heads: element `d` of head `h` is element `h D + d` of the axis. -/
theorem heads_apply {α : Type} {B T N H D : ℕ} (x : (⟨3, ![B, T, N]⟩ : Shape).Idx → α) (hc : (⟨3, ![B, T, N]⟩ : Shape).ShapeCasts ⟨4, ![B, T, H, D]⟩)
    (hN : N = H * D) (b : Fin B) (t : Fin T) (h : Fin H) (d : Fin D) (j : Fin N) (hj : j.val = h.val * D + d.val) :
    shapeCast ⟨4, ![B, T, H, D]⟩ x hc (ix4 b t h d) = x (ix3 b t j) := by
  rw [Pointwise.shapeCast_apply]
  refine congrArg x ?_
  refine Shape.reshapeEquiv_eq_of_vals _ _ _ _ _ (rowMajor_val3 _ (T * N) N rfl rfl) (rowMajor_val4 _ (T * (H * D)) (H * D) D rfl rfl rfl) ?_
  show b.val * (T * N) + t.val * N + j.val = b.val * (T * (H * D)) + t.val * (H * D) + h.val * D + d.val
  rw [hj, hN]
  ring

/-- The heads as one last axis. -/
theorem unheads_apply {α : Type} {B T N H D : ℕ} (x : (⟨4, ![B, T, H, D]⟩ : Shape).Idx → α) (hc : (⟨4, ![B, T, H, D]⟩ : Shape).ShapeCasts ⟨3, ![B, T, N]⟩)
    (hN : N = H * D) (b : Fin B) (t : Fin T) (h : Fin H) (d : Fin D) (j : Fin N) (hj : j.val = h.val * D + d.val) :
    shapeCast ⟨3, ![B, T, N]⟩ x hc (ix3 b t j) = x (ix4 b t h d) := by
  rw [Pointwise.shapeCast_apply]
  refine congrArg x ?_
  refine Shape.reshapeEquiv_eq_of_vals _ _ _ _ _ (rowMajor_val4 _ (T * (H * D)) (H * D) D rfl rfl rfl) (rowMajor_val3 _ (T * N) N rfl rfl) ?_
  show b.val * (T * (H * D)) + t.val * (H * D) + h.val * D + d.val = b.val * (T * N) + t.val * N + j.val
  rw [hj, hN]
  ring

/-- The largest along the last of four axes, at an index. -/
theorem max_last {n0 n1 n2 n3 : ℕ} {u : Shape} (s : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    (Host.reduce (α := Ideal .f32) FloatOps.maximumf s init h hu : FVec Ideal ⟨3, ![n0, n1, n2]⟩ .f32) (ix3 a b c)
      = Finset.univ.fold max (init (Shape.Idx.first hu)) fun k : Fin n3 => s (ix4 a b c k) := by
  pointwise []

end Cert.Reshapes

end
-- ==== Proof.ProjAHost.lean ====
/-
  What the input projection's launch finds in its operands: the rows, the weights, the gains laid side by side, and the
  matrices that take the mean over a group of columns.
-/
module

public import proofs.«01_k».proof.Proof.ProjATile
public import proofs.«01_k».proof.Proof.Reshapes
public import Idealize.ShloMosaic.Lib.Tactic

@[expose] public section

set_option maxRecDepth 16384
set_option maxHeartbeats 1600000

noncomputable section

open Idealize.ShloMosaic Idealize.ShloMosaic.TcCoe Idealize.SL.Sem

namespace Cert.Kernel2Ideal.ProjA

open Cert.Kernel2Ideal Cert.Kernel2Ideal.Gen

variable (m : (ℓ : Loc nD τ sig) → Buf (Elt Ideal) ℓ)

/-- The rows, -/
theorem rows_found (c : Dev nD) (x : FVec Ideal S4x4096x2048 .f32) (hx : m ((c.tc : Thread nD τ).loc main_arg0) = x) :
    @Eq (FVec Ideal S16384x2048 .f32) (V m c (Pipeline.arrRef spec0 0)) (shapeCast S16384x2048 x shapeCasts_S4x4096x2048_S16384x2048) := by
  subst hx
  show StableHlo.after (List.flatten [hostOps0, hostOps0_1, hostOps0_2, hostOps0_3, hostOps0_4, hostOps0_5, hostOps0_6]) (fun b => m (c, b)) (Proc.tc.devRef main_v0) = _
  simp only [hostOps0, hostOps0_1, hostOps0_2, hostOps0_3, hostOps0_4, hostOps0_5, hostOps0_6, List.flatten_cons, List.flatten_nil, List.append_nil, List.cons_append, List.nil_append]
  after_results_simp <;> rfl

/-- the rows' gain, -/
theorem mix_found (c : Dev nD) (g : FVec Ideal S2x2048 .f32) (hg : m ((c.tc : Thread nD τ).loc main_arg1) = g) :
    @Eq (FVec Ideal S1x2048 .f32) (V m c (Pipeline.arrRef spec0 1)) (shapeCast S1x2048 (shapeCast S2048 (extractStridedSlice S1x2048 ![0, 0] g slices_S2x2048_S1x2048_0_0) shapeCasts_S1x2048_S2048) shapeCasts_S2048_S1x2048) := by
  subst hg
  show StableHlo.after (List.flatten [hostOps0, hostOps0_1, hostOps0_2, hostOps0_3, hostOps0_4, hostOps0_5, hostOps0_6]) (fun b => m (c, b)) (Proc.tc.devRef main_v23) = _
  simp only [hostOps0, hostOps0_1, hostOps0_2, hostOps0_3, hostOps0_4, hostOps0_5, hostOps0_6, List.flatten_cons, List.flatten_nil, List.append_nil, List.cons_append, List.nil_append]
  after_results_simp <;> rfl

/-- the weights, -/
theorem weights_found (c : Dev nD) (w : FVec Ideal S1x2048x5120 .f32) (hw : m ((c.tc : Thread nD τ).loc main_arg2) = w) :
    @Eq (FVec Ideal S1x2048x5120 .bf16) (V m c (Pipeline.arrRef spec0 2)) (truncf .bf16 w bitsLt_bf16_f32) := by
  subst hw
  show StableHlo.after (List.flatten [hostOps0, hostOps0_1, hostOps0_2, hostOps0_3, hostOps0_4, hostOps0_5, hostOps0_6]) (fun b => m (c, b)) (Proc.tc.devRef main_v1) = _
  simp only [hostOps0, hostOps0_1, hostOps0_2, hostOps0_3, hostOps0_4, hostOps0_5, hostOps0_6, List.flatten_cons, List.flatten_nil, List.append_nil, List.cons_append, List.nil_append]
  after_results_simp <;> rfl

/-- A head's gain repeated over the heads, times a constant's word; -/
def tile64 (g : FVec Ideal S1x64 .f32) : FVec Ideal S1536 .f32 :=
  shapeCast S1536 (broadcastInDim S24x64 ![0, 1] bcast_S1x64_S24x64_0_1 (shapeCast S1x64 (shapeCast S64 g shapeCasts_S1x64_S64) shapeCasts_S64_S1x64)) shapeCasts_S24x64_S1536

/-- the same for the memory queries' heads. -/
def tile128 (g : FVec Ideal S2x128 .f32) : FVec Ideal S512 .f32 :=
  shapeCast S512 (broadcastInDim S4x128 ![0, 1] bcast_S1x128_S4x128_0_1
    (shapeCast S1x128 (shapeCast S128 (extractStridedSlice S1x128 ![0, 0] g slices_S2x128_S1x128_0_0) shapeCasts_S1x128_S128) shapeCasts_S128_S1x128)) shapeCasts_S4x128_S512

/-- The columns' gains. -/
def gains (gq gk : FVec Ideal S1x64 .f32) (gm : FVec Ideal S2x128 .f32) : FVec Ideal S1x5120 .f32 :=
  shapeCast S1x5120 (concatenate S5120 0 [⟨S1536, mulf (tile64 gq) (broadcastInDim S1536 ![] bcast_S_S1536 (constant S_ .f32 0x3E38AA3B#32))⟩,
    ⟨S1536, tile64 gk⟩, ⟨S1536, broadcastInDim S1536 ![] bcast_S_S1536 (constant S_ .f32 0x3F800000#32)⟩,
    ⟨S512, mulf (tile128 gm) (broadcastInDim S512 ![] bcast_S_S512 (constant S_ .f32 0x3E0293EE#32))⟩] concatenates_S1536_S1536_S1536_S512_S5120_d0) shapeCasts_S5120_S1x5120

/-- the gains, -/
theorem gains_found (c : Dev nD) (gq : FVec Ideal S1x64 .f32) (hgq : m ((c.tc : Thread nD τ).loc main_arg3) = gq) (gk : FVec Ideal S1x64 .f32) (hgk : m ((c.tc : Thread nD τ).loc main_arg4) = gk) (gm : FVec Ideal S2x128 .f32) (hgm : m ((c.tc : Thread nD τ).loc main_arg5) = gm) :
    @Eq (FVec Ideal S1x5120 .f32) (V m c (Pipeline.arrRef spec0 4)) (gains gq gk gm) := by
  subst hgq; subst hgk; subst hgm
  show StableHlo.after (List.flatten [hostOps0, hostOps0_1, hostOps0_2, hostOps0_3, hostOps0_4, hostOps0_5, hostOps0_6]) (fun b => m (c, b)) (Proc.tc.devRef main_v41) = _
  simp only [hostOps0, hostOps0_1, hostOps0_2, hostOps0_3, hostOps0_4, hostOps0_5, hostOps0_6, List.flatten_cons, List.flatten_nil, List.append_nil, List.cons_append, List.nil_append]
  after_results_simp <;> rfl

/-- The constant `64` and the number of a column's group of 64 as words. -/
def sixtyFour : IVec S_ 32 := id (constantI S_ 32 64#32)

def groupNo (S : Shape) (h : S_.BroadcastsInDim S ![]) (v : IVec S 32) : IVec S 32 :=
  select (andi (cmpi .ne (signi v) (broadcastInDim S ![] h (signi sixtyFour))) (cmpi .ne (Host.remsi v (broadcastInDim S ![] h sixtyFour)) (broadcastInDim S ![] h (constantI S_ 32 0#32))))
    (subi (Host.divsi v (broadcastInDim S ![] h sixtyFour)) (broadcastInDim S ![] h (constantI S_ 32 1#32))) (Host.divsi v (broadcastInDim S ![] h sixtyFour))

/-- Whether two columns lie in the same group. -/
def sameGroup : IVec S128x128 1 :=
  cmpi .eq (broadcastInDim S128x128 ![0, 1] bcast_S128x1_S128x128_0_1 (groupNo S128x1 bcast_S_S128x1 (broadcastInDim S128x1 ![0] bcast_S128_S128x1_0 (iotaInDim S128 32 0))))
    (broadcastInDim S128x128 ![0, 1] bcast_S1x128_S128x128_0_1 (groupNo S1x128 bcast_S_S1x128 (broadcastInDim S1x128 ![1] bcast_S128_S1x128_1 (iotaInDim S128 32 0))))

/-- The three matrices: none, the mean over 64, the mean over 128. -/
def groups : FVec Ideal S3x128x128 .bf16 :=
  truncf .bf16 (concatenate S3x128x128 0 [⟨S1x128x128, broadcastInDim S1x128x128 ![1, 2] bcast_S128x128_S1x128x128_1_2 (broadcastInDim S128x128 ![] bcast_S_S128x128 (constant S_ .f32 0x00000000#32))⟩,
    ⟨S1x128x128, broadcastInDim S1x128x128 ![1, 2] bcast_S128x128_S1x128x128_1_2 (id (select sameGroup (broadcastInDim S128x128 ![] bcast_S_S128x128 (constant S_ .f32 0x3C800000#32))
      (broadcastInDim S128x128 ![] bcast_S_S128x128 (constant S_ .f32 0x00000000#32))))⟩,
    ⟨S1x128x128, broadcastInDim S1x128x128 ![1, 2] bcast_S128x128_S1x128x128_1_2 (broadcastInDim S128x128 ![] bcast_S_S128x128 (constant S_ .f32 0x3C000000#32))⟩]
    concatenates_S1x128x128_S1x128x128_S1x128x128_S3x128x128_d0) bitsLt_bf16_f32

/-- and the group matrices. -/
theorem groups_found (c : Dev nD)  :
    @Eq (FVec Ideal S3x128x128 .bf16) (V m c (Pipeline.arrRef spec0 3)) (groups) := by
  skip
  show StableHlo.after (List.flatten [hostOps0, hostOps0_1, hostOps0_2, hostOps0_3, hostOps0_4, hostOps0_5, hostOps0_6]) (fun b => m (c, b)) (Proc.tc.devRef main_v40) = _
  simp only [hostOps0, hostOps0_1, hostOps0_2, hostOps0_3, hostOps0_4, hostOps0_5, hostOps0_6, List.flatten_cons, List.flatten_nil, List.append_nil, List.cons_append, List.nil_append]
  after_results_simp <;> rfl

end Cert.Kernel2Ideal.ProjA

end
-- ==== Proof.ProjASpec.lean ====
/-
  The differential mixer's input projection as a function of its operands, one row and one column at a time: the
  normalised row's product with the weights, the queries' and keys' columns normalised over their heads of 64, the
  memory queries' over their heads of 128, each times its gain, and the values' left as they are. Two facts join a
  kernel that takes a head's mean by a product with a matrix to it.
-/
module

public import proofs.«01_k».proof.Proof.FfnSpec

@[expose] public section

noncomputable section

open Idealize.ShloMosaic

namespace Cert.ProjSpec

/-- The product of the normalised row `R` and the weights' column `n`. -/
def proj (X : Fin 16384 → Fin 2048 → EReal) (G : Fin 2048 → EReal) (W : Fin 2048 → Fin 5120 → EReal) (R : Fin 16384) (n : Fin 5120) : EReal :=
  ∑ k : Fin 2048, FfnSpec.nrm X G R k * W k n

/-- One over the root of the mean square of a head of 64 columns, the head that column `n` lies in; -/
def root64 (p : Fin 5120 → EReal) (n : Fin 5120) : EReal :=
  Ideal.rsqrt (Ideal.div (∑ l : Fin 64, p ⟨64 * (n.val / 64) + l.val, by omega⟩ * p ⟨64 * (n.val / 64) + l.val, by omega⟩) (Ideal.ofBits FTy.f32 1115684864#32)
    + Ideal.ofBits FTy.f32 897988541#32)

/-- the same for a head of 128. -/
def root128 (p : Fin 5120 → EReal) (n : Fin 5120) : EReal :=
  Ideal.rsqrt (Ideal.div (∑ l : Fin 128, p ⟨128 * (n.val / 128) + l.val, by omega⟩ * p ⟨128 * (n.val / 128) + l.val, by omega⟩) (Ideal.ofBits FTy.f32 1124073472#32)
    + Ideal.ofBits FTy.f32 897988541#32)

/-- The result's column `n` from the row of products `p`: queries, keys, values, memory queries. -/
def cols (GQ GK : Fin 64 → EReal) (GM : Fin 128 → EReal) (p : Fin 5120 → EReal) (n : Fin 5120) : EReal :=
  if n.val < 1536 then p n * root64 p n * GQ ⟨n.val % 64, by omega⟩ * Ideal.ofBits FTy.f32 1043900987#32
  else if n.val < 3072 then p n * root64 p n * GK ⟨n.val % 64, by omega⟩
  else if n.val < 4608 then p n
  else p n * root128 p n * GM ⟨n.val % 128, by omega⟩ * Ideal.ofBits FTy.f32 1040356334#32

/-! ## A head's mean as a product with a matrix -/

theorem c64_eq : Ideal.ofBits FTy.f32 1015021568#32 = ((1 / 64 : ℝ) : EReal) := by
  simp [Ideal.ofBits, Ideal.ieee]
  norm_num [← EReal.coe_mul]

theorem c128_eq : Ideal.ofBits FTy.f32 1006632960#32 = ((1 / 128 : ℝ) : EReal) := by
  simp [Ideal.ofBits, Ideal.ieee]
  norm_num [← EReal.coe_mul]

theorem w64_eq : Ideal.ofBits FTy.f32 1115684864#32 = ((64 : ℝ) : EReal) := by
  simp [Ideal.ofBits, Ideal.ieee]
  norm_num [← EReal.coe_mul]

theorem w128_eq : Ideal.ofBits FTy.f32 1124073472#32 = ((128 : ℝ) : EReal) := by
  simp [Ideal.ofBits, Ideal.ieee]
  norm_num [← EReal.coe_mul]

/-- A quotient by 64 is a product with the printed 1/64, -/
theorem div64 (x : EReal) : Ideal.div x (Ideal.ofBits FTy.f32 1115684864#32) = Ideal.ofBits FTy.f32 1015021568#32 * x := by
  rw [w64_eq, c64_eq]
  unfold Ideal.div
  rw [if_neg (by exact_mod_cast (by norm_num : (64 : ℝ) ≠ 0)), ← EReal.coe_inv, mul_comm]
  norm_num

/-- and by 128 one with the printed 1/128. -/
theorem div128 (x : EReal) : Ideal.div x (Ideal.ofBits FTy.f32 1124073472#32) = Ideal.ofBits FTy.f32 1006632960#32 * x := by
  rw [w128_eq, c128_eq]
  unfold Ideal.div
  rw [if_neg (by exact_mod_cast (by norm_num : (128 : ℝ) ≠ 0)), ← EReal.coe_inv, mul_comm]
  norm_num

/-- The products with 1/128, added up, are the mean over 128. -/
theorem mean128 (f : Fin 128 → EReal) :
    ∑ l : Fin 128, f l * Ideal.ofBits FTy.f32 1006632960#32 = Ideal.div (∑ l : Fin 128, f l) (Ideal.ofBits FTy.f32 1124073472#32) := by
  rw [div128, ← FfnSpec.sum_factor _ _ (by rw [c128_eq]; exact_mod_cast (by norm_num : (0 : ℝ) ≤ 1 / 128)) (by rw [c128_eq]; exact EReal.coe_ne_top _)]
  exact Finset.sum_congr rfl fun l _ => mul_comm _ _

/-- The products with 1/64 on the columns of the group `q` and zero on the others, added up, are the mean over that group. -/
theorem mean64 (f : Fin 128 → EReal) (q : Fin 2) :
    ∑ l : Fin 128, f l * (if l.val / 64 = q.val then Ideal.ofBits FTy.f32 1015021568#32 else 0)
      = Ideal.div (∑ l : Fin 64, f ⟨64 * q.val + l.val, by omega⟩) (Ideal.ofBits FTy.f32 1115684864#32) := by
  rw [div64, ← FfnSpec.sum_factor _ _ (by rw [c64_eq]; exact_mod_cast (by norm_num : (0 : ℝ) ≤ 1 / 64)) (by rw [c64_eq]; exact EReal.coe_ne_top _)]
  have h := Fin.sum_univ_add (a := 64) (b := 64) (fun l : Fin 128 => f l * (if l.val / 64 = q.val then Ideal.ofBits FTy.f32 1015021568#32 else 0))
  refine h.trans ?_
  match q with
  | ⟨0, _⟩ =>
    have h2 : ∀ l : Fin 64, f (Fin.natAdd 64 l) * (if (Fin.natAdd 64 l : Fin 128).val / 64 = 0 then Ideal.ofBits FTy.f32 1015021568#32 else 0) = 0 := fun l => by
      rw [if_neg (by show ¬(64 + l.val) / 64 = 0; omega), mul_zero]
    rw [Finset.sum_congr rfl fun l _ => h2 l, Finset.sum_const_zero, add_zero]
    refine Finset.sum_congr rfl fun l _ => ?_
    rw [if_pos (by show l.val / 64 = 0; omega), mul_comm]
    refine congrArg (fun z => _ * f z) (Fin.ext ?_)
    show l.val = 64 * 0 + l.val
    omega
  | ⟨1, _⟩ =>
    have h2 : ∀ l : Fin 64, f (Fin.castAdd 64 l) * (if (Fin.castAdd 64 l : Fin 128).val / 64 = 1 then Ideal.ofBits FTy.f32 1015021568#32 else 0) = 0 := fun l => by
      rw [if_neg (by show ¬l.val / 64 = 1; omega), mul_zero]
    rw [Finset.sum_congr rfl fun l _ => h2 l, Finset.sum_const_zero, zero_add]
    refine Finset.sum_congr rfl fun l _ => ?_
    rw [if_pos (by show (64 + l.val) / 64 = 1; omega), mul_comm]
    refine congrArg (fun z => _ * f z) (Fin.ext ?_)
    show 64 + l.val = 64 * 1 + l.val
    omega

end Cert.ProjSpec

end
-- ==== Proof.ProjACols.lean ====
/-
  The input projection's array: what every point leaves is the projection of the arguments at its rows and columns.
-/
module

public import proofs.«01_k».proof.Proof.ProjAHost
public import proofs.«01_k».proof.Proof.ProjASpec
public import Idealize.ShloMosaic.Lib.Pointwise

@[expose] public section

set_option maxRecDepth 16384
set_option maxHeartbeats 1600000

noncomputable section

open Idealize.ShloMosaic Idealize.ShloMosaic.TcCoe Idealize.SL.Sem

namespace Cert.Kernel2Ideal.ProjA

open Cert.Kernel2Ideal Cert.Kernel2Ideal.Gen Cert.ProjSpec

/-! ## The operands at an index -/

/-- A column's group of 64, down the rows -/
theorem group_rows : ∀ l : Fin 128, groupNo S128x1 bcast_S_S128x1 (broadcastInDim S128x1 ![0] bcast_S128_S128x1_0 (iotaInDim S128 32 0)) (ix2 l 0) = BitVec.ofNat 32 (l.val / 64) := by
  decide +kernel

/-- and along the columns. -/
theorem group_cols : ∀ l : Fin 128, groupNo S1x128 bcast_S_S1x128 (broadcastInDim S1x128 ![1] bcast_S128_S1x128_1 (iotaInDim S128 32 0)) (ix2 0 l) = BitVec.ofNat 32 (l.val / 64) := by
  decide +kernel

theorem sameGroup_apply (l e : Fin 128) : sameGroup (ix2 l e) = if l.val / 64 = e.val / 64 then 1#1 else 0#1 := by
  have h : sameGroup (ix2 l e) = IntOp.cmpi .eq (BitVec.ofNat 32 (l.val / 64)) (BitVec.ofNat 32 (e.val / 64)) := by
    rw [← group_rows l, ← group_cols e]
    unfold sameGroup
    pointwise
  rw [h]
  have hl : l.val / 64 = 0 ∨ l.val / 64 = 1 := by omega
  have he : e.val / 64 = 0 ∨ e.val / 64 = 1 := by omega
  rcases hl with hl | hl <;> rcases he with he | he <;> rw [hl, he] <;> decide

theorem tile64_apply (g : FVec Ideal S1x64 .f32) (n : Fin 1536) : tile64 g (ix1 n) = g (ix2 0 ⟨n.val % 64, by omega⟩) := by
  unfold tile64
  pointwise

theorem tile128_apply (g : FVec Ideal S2x128 .f32) (n : Fin 512) : tile128 g (ix1 n) = g (ix2 0 ⟨n.val % 128, by omega⟩) := by
  unfold tile128
  pointwise

/-- The gain of column `n`. -/
theorem gains_apply (gq gk : FVec Ideal S1x64 .f32) (gm : FVec Ideal S2x128 .f32) (n : Fin 5120) :
    gains gq gk gm (ix2 0 n) = if h : n.val < 1536 then tile64 gq (ix1 ⟨n.val, h⟩) * Ideal.ofBits FTy.f32 1043900987#32
      else if h : n.val - 1536 < 1536 then tile64 gk (ix1 ⟨n.val - 1536, h⟩)
      else if h : n.val - 1536 - 1536 < 1536 then 1
      else tile128 gm (ix1 ⟨n.val - 1536 - 1536 - 1536, by omega⟩) * Ideal.ofBits FTy.f32 1040356334#32 := by
  unfold gains
  pointwise

theorem groups_one (l e : Fin 128) : groups (ix3 1 l e) = if l.val / 64 = e.val / 64 then Ideal.ofBits FTy.f32 1015021568#32 else 0 := by
  have h : groups (ix3 1 l e) = Scalar.select (sameGroup (ix2 l e)) (Ideal.ofBits FTy.f32 1015021568#32) 0 := by
    unfold groups
    pointwise
    rw [id_eq]
    pointwise
  rw [h, sameGroup_apply]
  by_cases hc : l.val / 64 = e.val / 64
  · rw [if_pos hc, if_pos hc]; rfl
  · rw [if_neg hc, if_neg hc]; rfl

theorem groups_two (l e : Fin 128) : groups (ix3 2 l e) = Ideal.ofBits FTy.f32 1006632960#32 := by
  unfold groups
  pointwise

/-! ## A block's columns -/

/-- Column `n` of column block `j`. -/
def colAt (j : Fin 5) (n : Fin 1024) : Fin 5120 := ⟨1024 * j.val + n.val, by omega⟩

/-- Normalised through the mean over 64, -/
theorem norm_one (y : Fin 1024 → Fin 1024 → EReal) (gm : Vec Ideal S3x128x128 .bf16) (g : Vec Ideal S1x1024 .f32) (r : Fin 1024) (j : Fin 5) (p : Fin 5120 → EReal)
    (hy : ∀ n, y r n = p (colAt j n)) (hgm : ∀ l e, gm (ix3 1 l e) = groups (ix3 1 l e)) (n : Fin 1024) :
    normAt y gm 1 g r n = p (colAt j n) * root64 p (colAt j n) * g (ix2 0 n) := by
  have hn := n.isLt
  have hj := j.isLt
  unfold normAt root64 eps
  rw [hy n]
  refine congrArg (fun z => p (colAt j n) * Ideal.rsqrt (z + Ideal.ofBits FTy.f32 897988541#32) * g (ix2 0 n)) ?_
  refine Eq.trans ?_ ((mean64 (fun l => y r ⟨128 * (n.val / 128) + l.val, by omega⟩ * y r ⟨128 * (n.val / 128) + l.val, by omega⟩) ⟨n.val % 128 / 64, by omega⟩).trans ?_)
  · exact Finset.sum_congr rfl fun l _ => by rw [hgm, groups_one]
  · refine congrArg (Ideal.div · _) (Finset.sum_congr rfl fun l _ => ?_)
    have hl := l.isLt
    have e : colAt j ⟨128 * (n.val / 128) + (64 * (n.val % 128 / 64) + l.val), by omega⟩ = ⟨64 * ((colAt j n).val / 64) + l.val, by have := (colAt j n).isLt; omega⟩ := by
      apply Fin.ext
      show 1024 * j.val + (128 * (n.val / 128) + (64 * (n.val % 128 / 64) + l.val)) = 64 * ((1024 * j.val + n.val) / 64) + l.val
      omega
    show y r ⟨128 * (n.val / 128) + (64 * (n.val % 128 / 64) + l.val), _⟩ * y r ⟨128 * (n.val / 128) + (64 * (n.val % 128 / 64) + l.val), _⟩ = _
    rw [hy, e]

/-- and over 128. -/
theorem norm_two (y : Fin 1024 → Fin 1024 → EReal) (gm : Vec Ideal S3x128x128 .bf16) (g : Vec Ideal S1x1024 .f32) (r : Fin 1024) (j : Fin 5) (p : Fin 5120 → EReal)
    (hy : ∀ n, y r n = p (colAt j n)) (hgm : ∀ l e, gm (ix3 2 l e) = groups (ix3 2 l e)) (n : Fin 1024) :
    normAt y gm 2 g r n = p (colAt j n) * root128 p (colAt j n) * g (ix2 0 n) := by
  have hn := n.isLt
  have hj := j.isLt
  unfold normAt root128 eps
  rw [hy n]
  refine congrArg (fun z => p (colAt j n) * Ideal.rsqrt (z + Ideal.ofBits FTy.f32 897988541#32) * g (ix2 0 n)) ?_
  refine Eq.trans ?_ ((mean128 (fun l => y r ⟨128 * (n.val / 128) + l.val, by omega⟩ * y r ⟨128 * (n.val / 128) + l.val, by omega⟩)).trans ?_)
  · exact Finset.sum_congr rfl fun l _ => by rw [hgm, groups_two]
  · refine congrArg (Ideal.div · _) (Finset.sum_congr rfl fun l _ => ?_)
    have hl := l.isLt
    have e : colAt j ⟨128 * (n.val / 128) + l.val, by omega⟩ = ⟨128 * ((colAt j n).val / 128) + l.val, by have := (colAt j n).isLt; omega⟩ := by
      apply Fin.ext
      show 1024 * j.val + (128 * (n.val / 128) + l.val) = 128 * ((1024 * j.val + n.val) / 128) + l.val
      omega
    show y r ⟨128 * (n.val / 128) + l.val, _⟩ * y r ⟨128 * (n.val / 128) + l.val, _⟩ = _
    rw [hy, e]

section cols
variable (gq gk : FVec Ideal S1x64 .f32) (gm : FVec Ideal S2x128 .f32) (p : Fin 5120 → EReal) (N : Fin 5120)

/-- A column of queries or keys is the normalised column times its gain, -/
theorem cols_head (h : N.val < 3072) : p N * root64 p N * gains gq gk gm (ix2 0 N)
    = cols (fun e => gq (ix2 0 e)) (fun e => gk (ix2 0 e)) (fun e => gm (ix2 0 e)) p N := by
  unfold cols
  rw [gains_apply]
  by_cases h1 : N.val < 1536
  · rw [dif_pos h1, if_pos h1, tile64_apply, ← mul_assoc]
  · rw [dif_neg h1, if_neg h1, dif_pos (by omega), if_pos h, tile64_apply]
    refine congrArg (fun z => p N * root64 p N * gk (ix2 0 z)) (Fin.ext ?_)
    show (N.val - 1536) % 64 = N.val % 64
    omega

/-- one of values is the product's, -/
theorem cols_plain (h : 3072 ≤ N.val) (h' : N.val < 4608) : p N * gains gq gk gm (ix2 0 N)
    = cols (fun e => gq (ix2 0 e)) (fun e => gk (ix2 0 e)) (fun e => gm (ix2 0 e)) p N := by
  unfold cols
  rw [gains_apply, dif_neg (by omega), dif_neg (by omega), dif_pos (by omega), if_neg (by omega), if_neg (by omega), if_pos h', mul_one]

/-- and one of memory queries the column normalised over 128 times its gain. -/
theorem cols_memory (h : 4608 ≤ N.val) : p N * root128 p N * gains gq gk gm (ix2 0 N)
    = cols (fun e => gq (ix2 0 e)) (fun e => gk (ix2 0 e)) (fun e => gm (ix2 0 e)) p N := by
  unfold cols
  rw [gains_apply, dif_neg (by omega), dif_neg (by omega), dif_neg (by omega), if_neg (by omega), if_neg (by omega), if_neg (by omega), tile128_apply, ← mul_assoc]
  refine congrArg (fun z => p N * root128 p N * gm (ix2 0 z) * _) (Fin.ext ?_)
  show (N.val - 1536 - 1536 - 1536) % 128 = N.val % 128
  omega
end cols

end Cert.Kernel2Ideal.ProjA

end
-- ==== Proof.ProjAValue.lean ====
/-
  The input projection's array: what every point leaves is the projection of the arguments at its rows and columns.
-/
module

public import proofs.«01_k».proof.Proof.ProjACols
public import Idealize.ShloMosaic.Lib.Pointwise

@[expose] public section

set_option maxRecDepth 16384
set_option maxHeartbeats 1600000

noncomputable section

open Idealize.ShloMosaic Idealize.ShloMosaic.TcCoe Idealize.SL.Sem

namespace Cert.Kernel2Ideal.ProjA

open Cert.Kernel2Ideal Cert.Kernel2Ideal.Gen Cert.ProjSpec

variable (m : (ℓ : Loc nD τ sig) → Buf (Elt Ideal) ℓ)

/-- The batch that row `R` of the rows is in, -/
def batchOf (R : Fin 16384) : Fin 4 := ⟨R.val / 4096, by omega⟩
/-- and its place in the sequence. -/
def seqOf (R : Fin 16384) : Fin 4096 := ⟨R.val % 4096, Nat.mod_lt _ (by decide)⟩

/-- The projection's row of products, -/
def products (x : FVec Ideal S4x4096x2048 .f32) (g : FVec Ideal S2x2048 .f32) (w : FVec Ideal S1x2048x5120 .f32) (R : Fin 16384) : Fin 5120 → EReal :=
  proj (fun R k => x (ix3 (batchOf R) (seqOf R) k)) (fun k => g (ix2 0 k)) (fun k n => w (ix3 0 k n)) R

/-- and the result at row `R`, column `n`. -/
def value (x : FVec Ideal S4x4096x2048 .f32) (g : FVec Ideal S2x2048 .f32) (w : FVec Ideal S1x2048x5120 .f32) (gq gk : FVec Ideal S1x64 .f32) (gm : FVec Ideal S2x128 .f32) (R : Fin 16384) (n : Fin 5120) : EReal :=
  cols (fun e => gq (ix2 0 e)) (fun e => gk (ix2 0 e)) (fun e => gm (ix2 0 e)) (products x g w R) n

/-- The result at every row and column. -/
def result (x : FVec Ideal S4x4096x2048 .f32) (g : FVec Ideal S2x2048 .f32) (w : FVec Ideal S1x2048x5120 .f32) (gq gk : FVec Ideal S1x64 .f32) (gm : FVec Ideal S2x128 .f32) : FVec Ideal S16384x5120 .bf16 := fun i => value x g w gq gk gm (i 0) (i 1)

/-! ## The blocks a point reads -/

/-- The index maps, decided over the grid: point `t` takes row block `t / 5` and column block `t % 5`. -/
theorem maps : ∀ t : Fin grid0.N, (cc0_transform_0 (grid0.coords t) (0 : Fin 2) = t.val / 5 ∧ cc0_transform_0 (grid0.coords t) (1 : Fin 2) = 0)
    ∧ (cc0_transform_1 (grid0.coords t) (0 : Fin 2) = 0 ∧ cc0_transform_1 (grid0.coords t) (1 : Fin 2) = 0)
    ∧ (cc0_transform_2 (grid0.coords t) (0 : Fin 3) = 0 ∧ cc0_transform_2 (grid0.coords t) (1 : Fin 3) = 0 ∧ cc0_transform_2 (grid0.coords t) (2 : Fin 3) = t.val % 5)
    ∧ (cc0_transform_3 (grid0.coords t) (0 : Fin 3) = 0 ∧ cc0_transform_3 (grid0.coords t) (1 : Fin 3) = 0 ∧ cc0_transform_3 (grid0.coords t) (2 : Fin 3) = 0)
    ∧ (cc0_transform_4 (grid0.coords t) (0 : Fin 2) = 0 ∧ cc0_transform_4 (grid0.coords t) (1 : Fin 2) = t.val % 5)
    ∧ (cc0_transform_5 (grid0.coords t) (0 : Fin 2) = t.val / 5 ∧ cc0_transform_5 (grid0.coords t) (1 : Fin 2) = t.val % 5) := by
  decide +kernel

/-- Row `r` of the row block of point `t`, -/
def rowOf (t : Fin grid0.N) (r : Fin 1024) : Fin 16384 :=
  ⟨1024 * (t.val / 5) + r.val, by have h := lt_of_lt_of_eq t.isLt (show grid0.N = 80 from N_0); omega⟩
/-- and its column block. -/
def blkOf (t : Fin grid0.N) : Fin 5 := ⟨t.val % 5, Nat.mod_lt _ (by decide)⟩

/-- The rows, -/
theorem x_block (hO : Ok m) (c : Dev nD) (t : Fin grid0.N) (x : FVec Ideal S4x4096x2048 .f32) (hx : m ((c.tc : Thread nD τ).loc main_arg0) = x) (r : Fin 1024) (k : Fin 2048) :
    (iblk m hO c 0 t : FVec Ideal S1024x2048 .f32) (ix2 r k) = x (ix3 (batchOf (rowOf t r)) (seqOf (rowOf t r)) k) := by
  have h : (((cfgM m hO).win 0).rect t).emb (ix2 r k) = (ix2 (rowOf t r) k : (S16384x2048).Idx) := by
    obtain ⟨e0, e1, e2, e3, e4, e5⟩ := maps t
    have hN := lt_of_lt_of_eq t.isLt (show grid0.N = 80 from N_0)
    funext a; apply Fin.ext
    match a with
    | ⟨0, _⟩ => show cc0_transform_0 (grid0.coords t) (0 : Fin 2) * 1024 + 1 * r.val = 1024 * (t.val / 5) + r.val; omega
    | ⟨1, _⟩ => show cc0_transform_0 (grid0.coords t) (1 : Fin 2) * 2048 + 1 * k.val = k.val; omega
  show (V m c (Pipeline.arrRef spec0 0) : FVec Ideal S16384x2048 .f32) ((((cfgM m hO).win 0).rect t).emb (ix2 r k)) = _
  rw [rows_found m c x hx, h]
  exact Reshapes.rows_apply x _ _ _ _ _ (by show (rowOf t r).val = (rowOf t r).val / 4096 * 4096 + (rowOf t r).val % 4096; omega)

/-- the rows' gain, -/
theorem g_block (hO : Ok m) (c : Dev nD) (t : Fin grid0.N) (g : FVec Ideal S2x2048 .f32) (hg : m ((c.tc : Thread nD τ).loc main_arg1) = g) (k : Fin 2048) :
    (iblk m hO c 1 t : FVec Ideal S1x2048 .f32) (ix2 0 k) = g (ix2 0 k) := by
  have h : (((cfgM m hO).win 1).rect t).emb (ix2 0 k) = (ix2 0 k : (S1x2048).Idx) := by
    obtain ⟨e0, e1, e2, e3, e4, e5⟩ := maps t
    have hN := lt_of_lt_of_eq t.isLt (show grid0.N = 80 from N_0)
    funext a; apply Fin.ext
    match a with
    | ⟨0, _⟩ => show cc0_transform_1 (grid0.coords t) (0 : Fin 2) * 1 + 1 * 0 = 0; omega
    | ⟨1, _⟩ => show cc0_transform_1 (grid0.coords t) (1 : Fin 2) * 2048 + 1 * k.val = k.val; omega
  show (V m c (Pipeline.arrRef spec0 1) : FVec Ideal S1x2048 .f32) ((((cfgM m hO).win 1).rect t).emb (ix2 0 k)) = _
  rw [mix_found m c g hg, h]
  pointwise

/-- the weights, -/
theorem w_block (hO : Ok m) (c : Dev nD) (t : Fin grid0.N) (w : FVec Ideal S1x2048x5120 .f32) (hw : m ((c.tc : Thread nD τ).loc main_arg2) = w) (k : Fin 2048) (n : Fin 1024) :
    (iblk m hO c 2 t : FVec Ideal S1x2048x1024 .bf16) (ix3 0 k n) = w (ix3 0 k (colAt (blkOf t) n)) := by
  have h : (((cfgM m hO).win 2).rect t).emb (ix3 0 k n) = (ix3 0 k (colAt (blkOf t) n) : (S1x2048x5120).Idx) := by
    obtain ⟨e0, e1, e2, e3, e4, e5⟩ := maps t
    have hN := lt_of_lt_of_eq t.isLt (show grid0.N = 80 from N_0)
    funext a; apply Fin.ext
    match a with
    | ⟨0, _⟩ => show cc0_transform_2 (grid0.coords t) (0 : Fin 3) * 1 + 1 * 0 = 0; omega
    | ⟨1, _⟩ => show cc0_transform_2 (grid0.coords t) (1 : Fin 3) * 2048 + 1 * k.val = k.val; omega
    | ⟨2, _⟩ => show cc0_transform_2 (grid0.coords t) (2 : Fin 3) * 1024 + 1 * n.val = 1024 * (t.val % 5) + n.val; omega
  show (V m c (Pipeline.arrRef spec0 2) : FVec Ideal S1x2048x5120 .bf16) ((((cfgM m hO).win 2).rect t).emb (ix3 0 k n)) = _
  rw [weights_found m c w hw, h]
  rfl

/-- the group matrices -/
theorem groups_block (hO : Ok m) (c : Dev nD) (t : Fin grid0.N) (κ : Fin 3) (l e : Fin 128) :
    (iblk m hO c 3 t : FVec Ideal S3x128x128 .bf16) (ix3 κ l e) = groups (ix3 κ l e) := by
  have h : (((cfgM m hO).win 3).rect t).emb (ix3 κ l e) = (ix3 κ l e : (S3x128x128).Idx) := by
    obtain ⟨e0, e1, e2, e3, e4, e5⟩ := maps t
    have hN := lt_of_lt_of_eq t.isLt (show grid0.N = 80 from N_0)
    funext a; apply Fin.ext
    match a with
    | ⟨0, _⟩ => show cc0_transform_3 (grid0.coords t) (0 : Fin 3) * 3 + 1 * κ.val = κ.val; omega
    | ⟨1, _⟩ => show cc0_transform_3 (grid0.coords t) (1 : Fin 3) * 128 + 1 * l.val = l.val; omega
    | ⟨2, _⟩ => show cc0_transform_3 (grid0.coords t) (2 : Fin 3) * 128 + 1 * e.val = e.val; omega
  show (V m c (Pipeline.arrRef spec0 3) : FVec Ideal S3x128x128 .bf16) ((((cfgM m hO).win 3).rect t).emb (ix3 κ l e)) = _
  rw [groups_found m c, h]

/-- and the gains. -/
theorem gains_block (hO : Ok m) (c : Dev nD) (t : Fin grid0.N) (gq gk : FVec Ideal S1x64 .f32) (gm : FVec Ideal S2x128 .f32) (hgq : m ((c.tc : Thread nD τ).loc main_arg3) = gq)(hgk : m ((c.tc : Thread nD τ).loc main_arg4) = gk)(hgm : m ((c.tc : Thread nD τ).loc main_arg5) = gm) (n : Fin 1024) :
    (iblk m hO c 4 t : FVec Ideal S1x1024 .f32) (ix2 0 n) = gains gq gk gm (ix2 0 (colAt (blkOf t) n)) := by
  have h : (((cfgM m hO).win 4).rect t).emb (ix2 0 n) = (ix2 0 (colAt (blkOf t) n) : (S1x5120).Idx) := by
    obtain ⟨e0, e1, e2, e3, e4, e5⟩ := maps t
    have hN := lt_of_lt_of_eq t.isLt (show grid0.N = 80 from N_0)
    funext a; apply Fin.ext
    match a with
    | ⟨0, _⟩ => show cc0_transform_4 (grid0.coords t) (0 : Fin 2) * 1 + 1 * 0 = 0; omega
    | ⟨1, _⟩ => show cc0_transform_4 (grid0.coords t) (1 : Fin 2) * 1024 + 1 * n.val = 1024 * (t.val % 5) + n.val; omega
  show (V m c (Pipeline.arrRef spec0 4) : FVec Ideal S1x5120 .f32) ((((cfgM m hO).win 4).rect t).emb (ix2 0 n)) = _
  rw [gains_found m c gq hgq gk hgk gm hgm, h]

/-! ## The kept rows and the block of every point -/

/-- The normalised row of point `t`. -/
def kept (x : FVec Ideal S4x4096x2048 .f32) (g : FVec Ideal S2x2048 .f32) (t : Fin grid0.N) (r : Fin 1024) (k : Fin 2048) : EReal :=
  FfnSpec.nrm (fun R k => x (ix3 (batchOf R) (seqOf R) k)) (fun k => g (ix2 0 k)) (rowOf t r) k

theorem fresh (hO : Ok m) (c : Dev nD) (t : Fin grid0.N) (x : FVec Ideal S4x4096x2048 .f32) (g : FVec Ideal S2x2048 .f32) (hx : m ((c.tc : Thread nD τ).loc main_arg0) = x) (hg : m ((c.tc : Thread nD τ).loc main_arg1) = g) (r : Fin 1024) (k : Fin 2048) :
    k0_pay1 (F := Ideal) (iblk m hO c 0 t) (iblk m hO c 1 t) (ix2 r k) = kept x g t r k := by
  refine (pay1_apply _ _ r k).trans ?_
  unfold kept FfnSpec.nrm
  simp only [x_block m hO c t x hx, g_block m hO c t g hg]

/-- Every point keeps the normalised rows of its row block. -/
theorem rows_kept (hO : Ok m) (hH : Hyps m hO) (c : Dev nD) (x : FVec Ideal S4x4096x2048 .f32) (g : FVec Ideal S2x2048 .f32) (hx : m ((c.tc : Thread nD τ).loc main_arg0) = x) (hg : m ((c.tc : Thread nD τ).loc main_arg1) = g) :
    ∀ (n : ℕ) (hn : n < grid0.N) (r : Fin 1024) (k : Fin 2048), (outsAt0 m hO hH c n hn).2 (ix2 r k) = kept x g ⟨n, hn⟩ r k := by
  intro n
  induction n with
  | zero =>
    intro hn r k
    rw [outsAt0_A m hO hH c ⟨0, hn⟩ (by dsimp only) (by dsimp only; omega) (by dsimp only; omega) (by dsimp only; omega) (by dsimp only; omega)]
    dsimp only
    refine (congrFun (sout_A ..) (ix2 r k)).trans ?_
    exact fresh m hO c ⟨0, hn⟩ x g hx hg r k
  | succ n ih =>
    intro hn r k
    by_cases h0 : (n + 1) % 5 = 0
    · rw [outsAt0_A m hO hH c ⟨n + 1, hn⟩ h0 (by dsimp only; omega) (by dsimp only; omega) (by dsimp only; omega) (by dsimp only; omega)]
      dsimp only
      refine (congrFun (sout_A ..) (ix2 r k)).trans ?_
      exact fresh m hO c ⟨n + 1, hn⟩ x g hx hg r k
    · have hp : kept x g ⟨n + 1, hn⟩ r k = kept x g ⟨n, Nat.lt_of_succ_lt hn⟩ r k := by
        unfold kept
        refine congrArg (fun R => FfnSpec.nrm _ _ R k) (Fin.ext ?_)
        show 1024 * ((n + 1) / 5) + r.val = 1024 * (n / 5) + r.val
        omega
      rw [hp, ← ih (Nat.lt_of_succ_lt hn) r k]
      by_cases h1 : 3 ≤ (n + 1) % 5
      · by_cases h3 : (n + 1) % 5 = 3
        · rw [outsAt0_C m hO hH c ⟨n + 1, hn⟩ h0 h1 (by dsimp only; omega) h3 (by dsimp only; omega)]; rfl
        · rw [outsAt0_D m hO hH c ⟨n + 1, hn⟩ h0 h1 (by dsimp only; omega) h3 h3]; rfl
      · rw [outsAt0_B m hO hH c ⟨n + 1, hn⟩ h0 h1 (by dsimp only; omega) (by dsimp only; omega) (by dsimp only; omega)]; rfl

/-- The product of kept rows and the point's weights. -/
theorem prod_eq (hO : Ok m) (c : Dev nD) (t : Fin grid0.N) (x : FVec Ideal S4x4096x2048 .f32) (g : FVec Ideal S2x2048 .f32) (w : FVec Ideal S1x2048x5120 .f32) (hw : m ((c.tc : Thread nD τ).loc main_arg2) = w)
    (h : Vec Ideal S1024x2048 .bf16) (hh : ∀ r k, h (ix2 r k) = kept x g t r k) (r n : Fin 1024) :
    prodAt h (iblk m hO c 2 t) r n = products x g w (rowOf t r) (colAt (blkOf t) n) := by
  refine (pay2_apply _ _ r n).trans ?_
  unfold products proj
  refine Finset.sum_congr rfl fun k _ => ?_
  rw [hh, w_block m hO c t w hw]
  rfl

/-- The words of the table at a column block, as places of the group matrices. -/
theorem place0 : ∀ t : Fin grid0.N, t.val % 5 ≤ 2 → k0_off2 (lit0 ⟨2 * (t.val % 5), by omega⟩) = ![(1 : Fin 3).val, 0, 0] := by decide +kernel
theorem place1 : ∀ t : Fin grid0.N, t.val % 5 ≤ 2 → k0_off4 (lit0 ⟨2 * (t.val % 5) + 1, by omega⟩) = ![(1 : Fin 3).val, 0, 0] := by decide +kernel
theorem place2 : ∀ t : Fin grid0.N, t.val % 5 = 4 → k0_off4 (lit0 ⟨2 * (t.val % 5) + 1, by omega⟩) = ![(2 : Fin 3).val, 0, 0] := by decide +kernel

/-- What every point leaves at row `r`, column `n` of its block. -/
theorem point_value (hO : Ok m) (hH : Hyps m hO) (c : Dev nD) (x : FVec Ideal S4x4096x2048 .f32) (g : FVec Ideal S2x2048 .f32) (w : FVec Ideal S1x2048x5120 .f32) (gq gk : FVec Ideal S1x64 .f32) (gm : FVec Ideal S2x128 .f32) (hx : m ((c.tc : Thread nD τ).loc main_arg0) = x) (hg : m ((c.tc : Thread nD τ).loc main_arg1) = g) (hw : m ((c.tc : Thread nD τ).loc main_arg2) = w) (hgq : m ((c.tc : Thread nD τ).loc main_arg3) = gq) (hgk : m ((c.tc : Thread nD τ).loc main_arg4) = gk) (hgm : m ((c.tc : Thread nD τ).loc main_arg5) = gm) (t : Fin grid0.N) (r n : Fin 1024) :
    (outsAt0 m hO hH c t.val t.isLt).1 (ix2 r n) = value x g w gq gk gm (rowOf t r) (colAt (blkOf t) n) := by
  have hb : (blkOf t).val = t.val % 5 := rfl
  have hc : (colAt (blkOf t) n).val = 1024 * (t.val % 5) + n.val := rfl
  have hn := n.isLt
  have hG := gains_block m hO c t gq gk gm hgq hgk hgm n
  have gr : ∀ κ l e, (iblk m hO c 3 t : FVec Ideal S3x128x128 .bf16) (ix3 κ l e) = groups (ix3 κ l e) := groups_block m hO c t
  have back : ∀ (h : 0 < t.val % 5) r k, (outsAt0 m hO hH c (t.val - 1) (Nat.lt_of_le_of_lt (Nat.sub_le _ _) t.isLt)).2 (ix2 r k) = kept x g t r k := fun h r k => by
    rw [rows_kept m hO hH c x g hx hg]
    unfold kept
    refine congrArg (fun R => FfnSpec.nrm _ _ R k) (Fin.ext ?_)
    show 1024 * ((t.val - 1) / 5) + r.val = 1024 * (t.val / 5) + r.val
    omega
  by_cases h1 : 3 ≤ t.val % 5
  · by_cases h3 : t.val % 5 = 3
    · rw [outsAt0_C m hO hH c t (by omega) h1 (by omega) h3 (by omega)]
      dsimp only
      refine (congrFun (out_C ..) (ix2 r n)).trans ?_
      show plainAt _ _ r n = _
      unfold plainAt
      rw [prod_eq m hO c t x g w hw _ (back (by omega)) r n, hG]
      exact cols_plain gq gk gm _ _ (by omega) (by omega)
    · rw [outsAt0_D m hO hH c t (by omega) h1 (by omega) h3 h3]
      dsimp only
      refine (congrFun (out_D (κ := 2) (k2 := ((congrArg k0_off4 (word1_eq m c t)).trans (place2 t (by omega)))) ..) (ix2 r n)).trans ?_
      show (if n.val < 512 then plainAt _ _ r n else normAt _ _ 2 _ r n) = _
      by_cases hh : n.val < 512
      · rw [if_pos hh]
        unfold plainAt
        rw [prod_eq m hO c t x g w hw _ (back (by omega)) r n, hG]
        exact cols_plain gq gk gm _ _ (by omega) (by omega)
      · rw [if_neg hh]
        refine (norm_two _ _ _ r (blkOf t) (products x g w (rowOf t r)) (fun n => prod_eq m hO c t x g w hw _ (back (by omega)) r n) (gr 2) n).trans ?_
        refine (congrArg₂ (fun a b : EReal => a * b) rfl hG).trans ?_
        exact cols_memory gq gk gm _ _ (by omega)
  · by_cases h0 : t.val % 5 = 0
    · rw [outsAt0_A m hO hH c t h0 h1 (by omega) (by omega) (by omega)]
      dsimp only
      refine (congrFun (out_A (κ := 1) (k1 := ((congrArg k0_off2 (word0_eq m c t)).trans (place0 t (by omega)))) (k2 := ((congrArg k0_off4 (word1_eq m c t)).trans (place1 t (by omega)))) ..) (ix2 r n)).trans ?_
      show normAt _ _ 1 _ r n = _
      refine (norm_one _ _ _ r (blkOf t) (products x g w (rowOf t r)) (fun n => prod_eq m hO c t x g w hw _ (fresh m hO c t x g hx hg) r n) (gr 1) n).trans ?_
      refine (congrArg₂ (fun a b : EReal => a * b) rfl hG).trans ?_
      exact cols_head gq gk gm _ _ (by omega)
    · rw [outsAt0_B m hO hH c t h0 h1 (by omega) (by omega) (by omega)]
      dsimp only
      refine (congrFun (out_B (κ := 1) (k1 := ((congrArg k0_off2 (word0_eq m c t)).trans (place0 t (by omega)))) (k2 := ((congrArg k0_off4 (word1_eq m c t)).trans (place1 t (by omega)))) ..) (ix2 r n)).trans ?_
      show normAt _ _ 1 _ r n = _
      refine (norm_one _ _ _ r (blkOf t) (products x g w (rowOf t r)) (fun n => prod_eq m hO c t x g w hw _ (back (by omega)) r n) (gr 1) n).trans ?_
      refine (congrArg₂ (fun a b : EReal => a * b) rfl hG).trans ?_
      exact cols_head gq gk gm _ _ (by omega)

end Cert.Kernel2Ideal.ProjA

end
-- ==== Proof.ProjAArray.lean ====
/-
  The input projection's array: the points' blocks, put together, are the projection of the arguments.
-/
module

public import proofs.«01_k».proof.Proof.ProjAValue
public import Idealize.ShloMosaic.Lib.Pointwise

@[expose] public section

set_option maxRecDepth 16384
set_option maxHeartbeats 400000

noncomputable section

open Idealize.ShloMosaic Idealize.ShloMosaic.TcCoe Idealize.SL.Sem

namespace Cert.Kernel2Ideal.ProjA

open Cert.Kernel2Ideal Cert.Kernel2Ideal.Gen Cert.ProjSpec

variable (m : (ℓ : Loc nD τ sig) → Buf (Elt Ideal) ℓ)

/-! ## The array the run leaves -/

/-- Distinct points write distinct blocks. -/
theorem idx_inj : ∀ t t' : Fin grid0.N, cc0_transform_5 (grid0.coords t) = cc0_transform_5 (grid0.coords t') → t = t' := by
  decide +kernel

theorem disjoint (hO : Ok m) : ∀ t t' : Fin (cfgM m hO).N, ((cfgM m hO).win 5).flush t = true → ((cfgM m hO).win 5).flush t' = true → t ≠ t' →
    Disjoint (((cfgM m hO).win 5).blk t).view.set (((cfgM m hO).win 5).blk t').view.set :=
  fun t t' _ _ hne => ((cfgM m hO).win 5).disjoint_blk fun h => hne (idx_inj t t' h)

/-- A block of the final array is what its point left. -/
theorem blocks (hO : Ok m) (hH : Hyps m hO) (c : Dev nD) (t : Fin (cfgM m hO).N) :
    (((cfgM m hO).win 5).blk t).view.read (Elt Ideal) ((dats m hO hH 0 c).arrAt 5 (cfgM m hO).N)
      = ((cfgM m hO).win 5).cut ((cfgM m hO).grid.coords t) (outsAt0 m hO hH c t.val t.isLt).1 := by
  refine ((dats m hO hH 0 c).read_blk_arrAt_eq_flushed 5 (disjoint m hO) (cfgM m hO).N t t.isLt (flush0_5 (adm m hO) t)).trans ?_
  show ((cfgM m hO).win 5).cut _ ((dats m hO hH 0 c).after 5 t) = _
  rw [after0_5]

/-- Where the block of a point lies in the array. -/
theorem block_at (hO : Ok m) (t : Fin grid0.N) (r n : Fin 1024) (R : Fin 16384) (N : Fin 5120) (hR : R.val = 1024 * (t.val / 5) + r.val) (hN : N.val = 1024 * (t.val % 5) + n.val) :
    (((cfgM m hO).win 5).rect t).emb (ix2 r n) = (ix2 R N : S16384x5120.Idx) := by
  obtain ⟨-, -, -, -, -, e0, e1⟩ := maps t
  funext a; apply Fin.ext
  match a with
  | ⟨0, _⟩ => show cc0_transform_5 (grid0.coords t) (0 : Fin 2) * 1024 + 1 * r.val = R.val; omega
  | ⟨1, _⟩ => show cc0_transform_5 (grid0.coords t) (1 : Fin 2) * 1024 + 1 * n.val = N.val; omega

/-- A point's block of an array, read at an index. -/
theorem read_at (hO : Ok m) (t : Fin grid0.N) (r n : Fin 1024) (A : FVec Ideal S16384x5120 .bf16) :
    (((cfgM m hO).win 5).blk t).view.read (Elt Ideal) A (ix2 r n) = A ((((cfgM m hO).win 5).rect t).emb (ix2 r n)) := by
  rfl

/-- Every block is whole. -/
theorem whole_at (hO : Ok m) (t : Fin grid0.N) (r n : Fin 1024) (A : FVec Ideal S1024x1024 .bf16) :
    ((cfgM m hO).win 5).cut ((cfgM m hO).grid.coords t) A (ix2 r n) = A (ix2 r n) := by
  rfl

/-- The array at a point's block. -/
theorem array_at (hO : Ok m) (hH : Hyps m hO) (c : Dev nD) (t : Fin grid0.N) (r n : Fin 1024) :
    (((cfgM m hO).win 5).blk t).view.read (Elt Ideal) ((dats m hO hH 0 c).arrAt 5 (cfgM m hO).N) (ix2 r n)
      = ((cfgM m hO).win 5).cut ((cfgM m hO).grid.coords t) (outsAt0 m hO hH c t.val t.isLt).1 (ix2 r n) := by
  have h := congrFun (blocks m hO hH c t) (ix2 r n)
  exact h

/-- Every row and column lies in the block of some point. -/
theorem covered (R : Fin 16384) (N : Fin 5120) : ∃ (t : Fin grid0.N) (r n : Fin 1024), R.val = 1024 * (t.val / 5) + r.val ∧ N.val = 1024 * (t.val % 5) + n.val :=
  have hR := R.isLt
  have hN := N.isLt
  ⟨⟨5 * (R.val / 1024) + N.val / 1024, lt_of_lt_of_eq (by omega) (show 80 = grid0.N from N_0.symm)⟩, ⟨R.val % 1024, Nat.mod_lt _ (by decide)⟩,
    ⟨N.val % 1024, Nat.mod_lt _ (by decide)⟩, by dsimp only; omega, by dsimp only; omega⟩

/-- The final array is the projection of the arguments. -/
theorem final_eq (hO : Ok m) (hH : Hyps m hO) (c : Dev nD) (x : FVec Ideal S4x4096x2048 .f32) (g : FVec Ideal S2x2048 .f32) (w : FVec Ideal S1x2048x5120 .f32) (gq gk : FVec Ideal S1x64 .f32) (gm : FVec Ideal S2x128 .f32) (hx : m ((c.tc : Thread nD τ).loc main_arg0) = x) (hg : m ((c.tc : Thread nD τ).loc main_arg1) = g) (hw : m ((c.tc : Thread nD τ).loc main_arg2) = w) (hgq : m ((c.tc : Thread nD τ).loc main_arg3) = gq) (hgk : m ((c.tc : Thread nD τ).loc main_arg4) = gk) (hgm : m ((c.tc : Thread nD τ).loc main_arg5) = gm) :
    @Eq (FVec Ideal S16384x5120 .bf16) ((dats m hO hH 0 c).arrAt 5 (cfgM m hO).N) (result x g w gq gk gm) := by
  refine funext fun (i : S16384x5120.Idx) => ?_
  obtain ⟨R, N, rfl⟩ : ∃ (R : Fin 16384) (N : Fin 5120), i = ix2 R N := ⟨i 0, i 1, eq_ix2 i⟩
  obtain ⟨t, r, n, hR, hN⟩ := covered R N
  have h := (read_at m hO t r n _).symm.trans ((array_at m hO hH c t r n).trans ((whole_at m hO t r n _).trans
    (point_value m hO hH c x g w gq gk gm hx hg hw hgq hgk hgm t r n)))
  rw [block_at m hO t r n R N hR hN, show rowOf t r = R from Fin.ext hR.symm, show colAt (blkOf t) n = N from Fin.ext hN.symm] at h
  exact h

/-- The run ends with the final array in its result and leaves its arguments as they were. -/
theorem run_values (ρ : Dev nD → PrngReg) (hO : Ok m) (hH : Hyps m hO) : θ_run defs (onTc (τ := τ) (main (F := Ideal))) ⟨m, fun _ => 0, ρ⟩ (fun r => ∀ c : Dev nD,
      r.2.mem ((c.tc : Thread nD τ).loc main_v42) = (dats m hO hH 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1 5,
    ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c)⟩)
    (run_main m ρ hO hH)

end Cert.Kernel2Ideal.ProjA

end
-- ==== Proof.ProjARef.lean ====
/-
  The differential mixer's reference, read index by index: the same array as the kernel's projection.
-/
module

public import proofs.«01_k».proof.Proof.ProjAArray
public import proofs.«01_k».proof.Proof.Reshapes
public import proofs.«01_k».proof.Proof.Gen.Reference2Ideal.Run
public import Idealize.ShloMosaic.Lib.Tactic

@[expose] public section

set_option maxRecDepth 16384

noncomputable section

open Idealize.ShloMosaic Idealize.ShloMosaic.TcCoe Idealize.SL.Sem

namespace Cert.Reference2Ideal.ProjA

open Cert.Reference2Ideal Cert.Reference2Ideal.Gen

/-- The last axis of two as heads: element `e` of head `h` is element `h D + e` of the axis. -/
theorem split_apply {α : Type} {M N H D : ℕ} (x : (⟨2, ![M, N]⟩ : Shape).Idx → α) (hc : (⟨2, ![M, N]⟩ : Shape).ShapeCasts ⟨3, ![M, H, D]⟩)
    (hN : N = H * D) (r : Fin M) (h : Fin H) (e : Fin D) (j : Fin N) (hj : j.val = h.val * D + e.val) :
    shapeCast ⟨3, ![M, H, D]⟩ x hc (ix3 r h e) = x (ix2 r j) := by
  rw [Pointwise.shapeCast_apply]
  refine congrArg x ?_
  refine Shape.reshapeEquiv_eq_of_vals _ _ _ _ _ (rowMajor_val2 _ N rfl) (rowMajor_val3 _ (H * D) D rfl rfl) ?_
  show r.val * N + j.val = r.val * (H * D) + h.val * D + e.val
  rw [hj, hN]
  ring

/-- The normalised rows, -/
def normalised (y : FVec Ideal S16384x2048 .f32) (g : FVec Ideal S2x2048 .f32) : FVec Ideal S16384x2048 .f32 :=
  (mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] g slices_S2x2048_S1x2048_0_0) shapeCasts_S1x2048_S2048))))
/-- their product with the weights, -/
def product (y : FVec Ideal S16384x2048 .f32) (w : FVec Ideal S1x2048x5120 .f32) : FVec Ideal S16384x5120 .f32 :=
  (Host.dotGeneral dot_S16384x2048_S2048x5120_S16384x5120_1_0_0_1_n_n none y (shapeCast _ w shapeCasts_S1x2048x5120_S2048x5120))
/-- heads of 64 normalised, -/
def heads24 (q : FVec Ideal S16384x24x64 .f32) (gain : FVec Ideal S1x64 .f32) : FVec Ideal S16384x24x64 .f32 :=
  (mulf (mulf q (broadcastInDim S16384x24x64 ![0, 1, 2] bcast_S16384x24x1_S16384x24x64_0_1_2 (Host.rsqrt (addf (Host.divf (broadcastInDim S16384x24x1 ![0, 1] bcast_S16384x24_S16384x24x1_0_1 (Host.reduceAdd (mulf q q) (constant S_ .f32 0x00000000#32) reducesTo_S16384x24x64_S16384x24_d2 h_S_)) (broadcastInDim S16384x24x1 ![] bcast_S_S16384x24x1 (constant S_ .f32 0x42800000#32))) (broadcastInDim S16384x24x1 ![] bcast_S_S16384x24x1 (constant S_ .f32 0x358637BD#32)))))) (broadcastInDim S16384x24x64 ![0, 1, 2] bcast_S1x1x64_S16384x24x64_0_1_2 (broadcastInDim S1x1x64 ![2] bcast_S64_S1x1x64_2 (shapeCast _ gain shapeCasts_S1x64_S64))))
/-- heads of 128 normalised, -/
def heads4 (q : FVec Ideal S16384x4x128 .f32) (gain : FVec Ideal S2x128 .f32) : FVec Ideal S16384x4x128 .f32 :=
  (mulf (mulf q (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf q q) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x1x128_S16384x4x128_0_1_2 (broadcastInDim S1x1x128 ![2] bcast_S128_S1x1x128_2 (shapeCast _ (extractStridedSlice S1x128 ![0, 0] gain slices_S2x128_S1x128_0_0) shapeCasts_S1x128_S128))))
/-- and the four parts joined. -/
def joined (p : FVec Ideal S16384x5120 .f32) (gq gk : FVec Ideal S1x64 .f32) (gm : FVec Ideal S2x128 .f32) : FVec Ideal S16384x5120 .bf16 :=
  truncf .bf16 ((concatenate S16384x5120 1 [⟨S16384x1536, ((shapeCast _ (mulf (heads24 (shapeCast _ (extractStridedSlice S16384x1536 ![0, 0] p slices_S16384x5120_S16384x1536_0_0) shapeCasts_S16384x1536_S16384x24x64) gq) (broadcastInDim S16384x24x64 ![] bcast_S_S16384x24x64 (constant S_ .f32 0x3E38AA3B#32))) shapeCasts_S16384x24x64_S16384x1536) : (⟨S16384x1536, .f32⟩ : BufTy).Contents (Elt Ideal))⟩, ⟨S16384x1536, ((shapeCast _ (heads24 (shapeCast _ (extractStridedSlice S16384x1536 ![0, 1536] p slices_S16384x5120_S16384x1536_0_1536) shapeCasts_S16384x1536_S16384x24x64) gk) shapeCasts_S16384x24x64_S16384x1536) : (⟨S16384x1536, .f32⟩ : BufTy).Contents (Elt Ideal))⟩, ⟨S16384x1536, ((extractStridedSlice S16384x1536 ![0, 3072] p slices_S16384x5120_S16384x1536_0_3072) : (⟨S16384x1536, .f32⟩ : BufTy).Contents (Elt Ideal))⟩, ⟨S16384x512, ((shapeCast _ (mulf (heads4 (shapeCast _ (extractStridedSlice S16384x512 ![0, 4608] p slices_S16384x5120_S16384x512_0_4608) shapeCasts_S16384x512_S16384x4x128) gm) (broadcastInDim S16384x4x128 ![] bcast_S_S16384x4x128 (constant S_ .f32 0x3E0293EE#32))) shapeCasts_S16384x4x128_S16384x512) : (⟨S16384x512, .f32⟩ : BufTy).Contents (Elt Ideal))⟩] concatenates_S16384x1536_S16384x1536_S16384x1536_S16384x512_S16384x5120_d1 : (⟨S16384x5120, .f32⟩ : BufTy).Contents (Elt Ideal))) bitsLt_bf16_f32

theorem normalised_apply (y : FVec Ideal S16384x2048 .f32) (g : FVec Ideal S2x2048 .f32) (R : Fin 16384) (k : Fin 2048) :
    normalised y g (ix2 R k) = FfnSpec.nrm (fun R k => y (ix2 R k)) (fun k => g (ix2 0 k)) R k := by
  pointwise [normalised, FfnSpec.nrm]

theorem product_apply (y : FVec Ideal S16384x2048 .f32) (w : FVec Ideal S1x2048x5120 .f32) (R : Fin 16384) (n : Fin 5120) :
    product y w (ix2 R n) = ∑ k : Fin 2048, y (ix2 R k) * w (ix3 0 k n) := by
  pointwise [product]

theorem heads24_apply (q : FVec Ideal S16384x24x64 .f32) (gain : FVec Ideal S1x64 .f32) (R : Fin 16384) (h : Fin 24) (e : Fin 64) :
    heads24 q gain (ix3 R h e) = q (ix3 R h e) * Ideal.rsqrt (Ideal.div (∑ l : Fin 64, q (ix3 R h l) * q (ix3 R h l)) (Ideal.ofBits FTy.f32 1115684864#32)
      + Ideal.ofBits FTy.f32 897988541#32) * gain (ix2 0 e) := by
  pointwise [heads24]

theorem heads4_apply (q : FVec Ideal S16384x4x128 .f32) (gain : FVec Ideal S2x128 .f32) (R : Fin 16384) (h : Fin 4) (e : Fin 128) :
    heads4 q gain (ix3 R h e) = q (ix3 R h e) * Ideal.rsqrt (Ideal.div (∑ l : Fin 128, q (ix3 R h l) * q (ix3 R h l)) (Ideal.ofBits FTy.f32 1124073472#32)
      + Ideal.ofBits FTy.f32 897988541#32) * gain (ix2 0 e) := by
  pointwise [heads4]

/-- A head of 64 at column `n`. -/
theorem head64 (p : FVec Ideal S16384x5120 .f32) (R : Fin 16384) (n : Fin 5120) (q : FVec Ideal S16384x24x64 .f32) (gain : FVec Ideal S1x64 .f32) (h : Fin 24) (e : Fin 64)
    (hq : ∀ l : Fin 64, q (ix3 R h l) = p (ix2 R ⟨64 * (n.val / 64) + l.val, by omega⟩)) (he : e.val = n.val % 64) :
    heads24 q gain (ix3 R h e) = p (ix2 R n) * ProjSpec.root64 (fun n => p (ix2 R n)) n * gain (ix2 0 ⟨n.val % 64, by omega⟩) := by
  rw [heads24_apply]
  unfold ProjSpec.root64
  simp only [hq]
  have e1 : (⟨64 * (n.val / 64) + e.val, by omega⟩ : Fin 5120) = n := Fin.ext (by show 64 * (n.val / 64) + e.val = n.val; omega)
  have e2 : e = ⟨n.val % 64, by omega⟩ := Fin.ext he
  rw [e1, ← e2]

/-- A head of 128 at column `n`. -/
theorem head128 (p : FVec Ideal S16384x5120 .f32) (R : Fin 16384) (n : Fin 5120) (q : FVec Ideal S16384x4x128 .f32) (gain : FVec Ideal S2x128 .f32) (h : Fin 4) (e : Fin 128)
    (hq : ∀ l : Fin 128, q (ix3 R h l) = p (ix2 R ⟨128 * (n.val / 128) + l.val, by omega⟩)) (he : e.val = n.val % 128) :
    heads4 q gain (ix3 R h e) = p (ix2 R n) * ProjSpec.root128 (fun n => p (ix2 R n)) n * gain (ix2 0 ⟨n.val % 128, by omega⟩) := by
  rw [heads4_apply]
  unfold ProjSpec.root128
  simp only [hq]
  have e1 : (⟨128 * (n.val / 128) + e.val, by omega⟩ : Fin 5120) = n := Fin.ext (by show 128 * (n.val / 128) + e.val = n.val; omega)
  have e2 : e = ⟨n.val % 128, by omega⟩ := Fin.ext he
  rw [e1, ← e2]

/-- The joined parts at a row and column. -/
theorem joined_apply (p : FVec Ideal S16384x5120 .f32) (gq gk : FVec Ideal S1x64 .f32) (gm : FVec Ideal S2x128 .f32) (R : Fin 16384) (n : Fin 5120) :
    joined p gq gk gm (ix2 R n) = ProjSpec.cols (fun e => gq (ix2 0 e)) (fun e => gk (ix2 0 e)) (fun e => gm (ix2 0 e)) (fun n => p (ix2 R n)) n := by
  have hn := n.isLt
  pointwise [joined]
  unfold ProjSpec.cols
  by_cases h0 : n.val < 1536
  · rw [dif_pos h0, if_pos h0]
    refine congrArg₂ (fun a b : EReal => a * b) (head64 p R n _ gq _ _ ?_ rfl) rfl
    intro l
    rw [split_apply _ _ (by decide) R ⟨(n.val) / 64, by omega⟩ l ⟨(n.val) / 64 * 64 + l.val, by omega⟩ rfl]
    pointwise []
    exact congrArg (fun z => p (ix2 R z)) (Fin.ext (by show ((n.val) / 64 * 64 + l.val) = 64 * (n.val / 64) + l.val; omega))
  · rw [dif_neg h0, if_neg h0]
    by_cases h1 : n.val < 3072
    rw [dif_pos (by omega), if_pos h1]
    refine head64 p R n _ gk _ _ ?_ (by show (n.val - 1536) % 64 = n.val % 64; omega)
    intro l
    rw [split_apply _ _ (by decide) R ⟨(n.val - 1536) / 64, by omega⟩ l ⟨(n.val - 1536) / 64 * 64 + l.val, by omega⟩ rfl]
    pointwise []
    exact congrArg (fun z => p (ix2 R z)) (Fin.ext (by show 1536 + ((n.val - 1536) / 64 * 64 + l.val) = 64 * (n.val / 64) + l.val; omega))
    rw [dif_neg (by omega), if_neg h1]
    by_cases h2 : n.val < 4608
    · rw [dif_pos (by omega), if_pos h2]
      exact congrArg (fun z => p (ix2 R z)) (Fin.ext (by show 3072 + (n.val - 1536 - 1536) = n.val; omega))
    rw [dif_neg (by omega), if_neg h2]
    refine congrArg₂ (fun a b : EReal => a * b) (head128 p R n _ gm _ _ ?_ (by show (n.val - 1536 - 1536 - 1536) % 128 = n.val % 128; omega)) rfl
    intro l
    rw [split_apply _ _ (by decide) R ⟨(n.val - 1536 - 1536 - 1536) / 128, by omega⟩ l ⟨(n.val - 1536 - 1536 - 1536) / 128 * 128 + l.val, by omega⟩ rfl]
    pointwise []
    exact congrArg (fun z => p (ix2 R z)) (Fin.ext (by show 4608 + ((n.val - 1536 - 1536 - 1536) / 128 * 128 + l.val) = 128 * (n.val / 128) + l.val; omega))

/-- The reference's result is the kernel's. -/
theorem result_eq (m : (ℓ : Loc nD τ sig) → Buf (Elt Ideal) ℓ) (c : Dev nD)
    (x : FVec Ideal S4x4096x2048 .f32) (g : FVec Ideal S2x2048 .f32) (w : FVec Ideal S1x2048x5120 .f32) (gq gk : FVec Ideal S1x64 .f32) (gm : FVec Ideal S2x128 .f32)
    (hx : m ((c.tc : Thread nD τ).loc main_arg0) = x) (hg : m ((c.tc : Thread nD τ).loc main_arg1) = g) (hw : m ((c.tc : Thread nD τ).loc main_arg2) = w)
    (hgq : m ((c.tc : Thread nD τ).loc main_arg3) = gq) (hgk : m ((c.tc : Thread nD τ).loc main_arg4) = gk) (hgm : m ((c.tc : Thread nD τ).loc main_arg5) = gm) :
    Value.res_out0 (F := Ideal) m c = Cert.Kernel2Ideal.ProjA.result x g w gq gk gm := by
  have hres : @Eq (FVec Ideal S16384x5120 .bf16) (Value.res_out0 (F := Ideal) m c)
      (joined (product (normalised (shapeCast S16384x2048 x shapeCasts_S4x4096x2048_S16384x2048) g) w) gq gk gm) := by
    unfold Value.res_out0 Value.res_main_v76 joined heads24 heads4 product normalised
    rw [hx, hg, hw, hgq, hgk, hgm]
  show @Eq (FVec Ideal S16384x5120 .bf16) _ _
  rw [hres]
  refine funext fun (i : S16384x5120.Idx) => ?_
  obtain ⟨R, n, rfl⟩ : ∃ (R : Fin 16384) (n : Fin 5120), i = ix2 R n := ⟨i 0, i 1, eq_ix2 i⟩
  rw [joined_apply]
  show _ = Cert.Kernel2Ideal.ProjA.value x g w gq gk gm R n
  unfold Cert.Kernel2Ideal.ProjA.value
  refine congrArg (fun p => ProjSpec.cols _ _ _ p n) (funext fun n => ?_)
  rw [product_apply]
  unfold Cert.Kernel2Ideal.ProjA.products ProjSpec.proj
  refine Finset.sum_congr rfl fun k _ => ?_
  rw [normalised_apply]
  refine congrArg₂ (fun a b : EReal => a * b) ?_ rfl
  unfold FfnSpec.nrm
  simp only [fun l : Fin 2048 => Reshapes.rows_apply x shapeCasts_S4x4096x2048_S16384x2048 (Cert.Kernel2Ideal.ProjA.batchOf R) (Cert.Kernel2Ideal.ProjA.seqOf R) l R
    (by show R.val = R.val / 4096 * 4096 + R.val % 4096; omega)]

end Cert.Reference2Ideal.ProjA

end
-- ==== Proof.OutTile.lean ====
/-
  What one grid point of the output projection computes, in plain sums: a row of the residual, the row's self-attention
  product, and the product of the row's four memory heads, each a base-two softmax attention with its quotient last.
-/
module

public import proofs.«01_k».proof.Proof.Gen.Kernel3Ideal.Value
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.Kernel3Ideal.Out

open Cert.Kernel3Ideal Cert.Kernel3Ideal.Gen

variable {F : FTy → Type} [FloatOps F]

theorem zero2 : ![0, 0] = (fun _ : Fin 2 => 0) := by funext i; fin_cases i <;> rfl
theorem zero3 : ![0, 0, 0] = (fun _ : Fin 3 => 0) := by funext i; fin_cases i <;> rfl

/-- The output block of a point, as the payloads of its input blocks: each head reads its own columns. -/
theorem out_eq (c : Dev nD) (i : grid0.Coords) (arg1 : Memref sig .tc .vmem S512x1536 .bf16) (harg1 : arg1.IsWhole) (arg2 : Memref sig .tc .vmem S512x512 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x1536x2048 .bf16) (harg5 : arg5.IsWhole) (arg6 : Memref sig .tc .vmem S1x512x2048 .bf16) (harg6 : arg6.IsWhole) (arg7 : Memref sig .tc .vmem S512x2048 .f32) (harg7 : arg7.IsWhole) (arg8 : Memref sig .tc .vmem S512x2048 .f32) (harg8 : arg8.IsWhole)
    (x0 : Vec F S512x1536 .bf16) (x1 : Vec F S512x512 .bf16) (x2 : Vec F S1x256x512 .bf16) (x3 : Vec F S1x256x512 .bf16) (x4 : Vec F S1x1536x2048 .bf16) (x5 : Vec F S1x512x2048 .bf16) (x6 : Vec F S512x2048 .f32) :
    out0_A_7 c i arg1 harg1 arg2 harg2 arg3 harg3 arg4 harg4 arg5 harg5 arg6 harg6 arg7 harg7 arg8 harg8 x0 x1 x2 x3 x4 x5 x6
      = k0_pay1 (k0_pay2 x6 x0 x4)
          (k0_pay3 (View.ld x1 (Rect.unit (s := S512x512) ![0, 0] S512x128.size inb_S512x512_S512x128_0_0)) (View.ld x2 (Rect.unit (s := S1x256x512) ![0, 0, 0] S1x256x128.size inb_S1x256x512_S1x256x128_0_0_0)) (View.ld x3 (Rect.unit (s := S1x256x512) ![0, 0, 0] S1x256x128.size inb_S1x256x512_S1x256x128_0_0_0)))
          (k0_pay5 (k0_pay4 (View.ld x1 (Rect.unit (s := S512x512) ![0, 128] S512x128.size inb_S512x512_S512x128_0_128)) (View.ld x2 (Rect.unit (s := S1x256x512) ![0, 0, 128] S1x256x128.size inb_S1x256x512_S1x256x128_0_0_128))) (View.ld x3 (Rect.unit (s := S1x256x512) ![0, 0, 128] S1x256x128.size inb_S1x256x512_S1x256x128_0_0_128)))
          (k0_pay6 (View.ld x1 (Rect.unit (s := S512x512) ![0, 256] S512x128.size inb_S512x512_S512x128_0_256)) (View.ld x2 (Rect.unit (s := S1x256x512) ![0, 0, 256] S1x256x128.size inb_S1x256x512_S1x256x128_0_0_256)) (View.ld x3 (Rect.unit (s := S1x256x512) ![0, 0, 256] S1x256x128.size inb_S1x256x512_S1x256x128_0_0_256)))
          (k0_pay7 (View.ld x1 (Rect.unit (s := S512x512) ![0, 384] S512x128.size inb_S512x512_S512x128_0_384))) (k0_pay8 (View.ld x2 (Rect.unit (s := S1x256x512) ![0, 0, 384] S1x256x128.size inb_S1x256x512_S1x256x128_0_0_384))) (constant S512x256 .f32 0x00000000#32) (View.ld x3 (Rect.unit (s := S1x256x512) ![0, 0, 384] S1x256x128.size inb_S1x256x512_S1x256x128_0_0_384)) x5 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero zero2]
  simp only [View.readAt_eq_ld, harg1.read_unread, harg2.read_unread, harg3.read_unread, harg4.read_unread, harg5.read_unread, harg6.read_unread, harg7.read_unread,
    View.ld_unit_zero (S := S512x1536) zero2, View.ld_unit_zero (S := S512x2048) zero2, View.ld_unit_zero (S := S1x1536x2048) zero3, View.ld_unit_zero (S := S1x512x2048) zero3]

/-- A head's columns of the queries, -/
theorem queries_at (o : ℕ) (inb : ∀ a : Fin 2, (![0, o] : Fin 2 → ℕ) a + S512x128.size a ≤ S512x512.size a) (q : Vec F S512x512 .bf16) (r : Fin 512) (e : Fin 128)
    (u : Fin 512) (hu : u.val = o + e.val) :
    View.ld q (Rect.unit (s := S512x512) ![0, o] S512x128.size inb) (ix2 r e) = q (ix2 r u) := by
  show q _ = q _
  refine congrArg q ?_
  funext a; apply Fin.ext
  match a with
  | ⟨0, _⟩ => show 0 + 1 * r.val = r.val; omega
  | ⟨1, _⟩ => show o + 1 * e.val = u.val; omega

/-- and of the keys or values. -/
theorem keys_at (o : ℕ) (inb : ∀ a : Fin 3, (![0, 0, o] : Fin 3 → ℕ) a + S1x256x128.size a ≤ S1x256x512.size a) (k : Vec F S1x256x512 .bf16) (n : Fin 256) (e : Fin 128)
    (u : Fin 512) (hu : u.val = o + e.val) :
    View.ld k (Rect.unit (s := S1x256x512) ![0, 0, o] S1x256x128.size inb) (ix3 0 n e) = k (ix3 0 n u) := by
  show k _ = k _
  refine congrArg k ?_
  funext a; apply Fin.ext
  match a with
  | ⟨0, _⟩ => show 0 + 1 * 0 = 0; omega
  | ⟨1, _⟩ => show 0 + 1 * n.val = n.val; omega
  | ⟨2, _⟩ => show o + 1 * e.val = u.val; omega

/-- One head's attention over scores `s` and values `v`: the weights are powers of two, the quotient is taken last. -/
def attend (s v : Fin 256 → EReal) : EReal :=
  Ideal.div (∑ x, Ideal.exp2 (s x - Finset.univ.fold max (Ideal.ofBits FTy.f32 4286578688#32) s) * v x)
    (∑ x, Ideal.exp2 (s x - Finset.univ.fold max (Ideal.ofBits FTy.f32 4286578688#32) s))

theorem head_first (q : Vec Ideal S512x128 .bf16) (k v : Vec Ideal S1x256x128 .bf16) (r : Fin 512) (d : Fin 128) :
    k0_pay3 (F := Ideal) q k v (ix2 r d) = attend (fun n => ∑ e : Fin 128, q (ix2 r e) * k (ix3 0 n e)) (fun n => v (ix3 0 n d)) := by
  unfold attend
  pointwise [k0_pay3]
  try rfl

theorem head_second (q : Vec Ideal S512x128 .bf16) (k v : Vec Ideal S1x256x128 .bf16) (r : Fin 512) (d : Fin 128) :
    k0_pay5 (F := Ideal) (k0_pay4 q k) v (ix2 r d) = attend (fun n => ∑ e : Fin 128, q (ix2 r e) * k (ix3 0 n e)) (fun n => v (ix3 0 n d)) := by
  unfold attend
  pointwise [k0_pay5, k0_pay4]
  try rfl

theorem head_third (q : Vec Ideal S512x128 .bf16) (k v : Vec Ideal S1x256x128 .bf16) (r : Fin 512) (d : Fin 128) :
    k0_pay6 (F := Ideal) q k v (ix2 r d) = attend (fun n => ∑ e : Fin 128, q (ix2 r e) * k (ix3 0 n e)) (fun n => v (ix3 0 n d)) := by
  unfold attend
  pointwise [k0_pay6]
  try rfl

/-- The last payload: what the accumulator holds, plus the product of the four heads' columns. -/
theorem last_apply (acc : Vec Ideal S512x2048 .f32) (a b c : Vec Ideal S512x128 .bf16) (q : Vec Ideal S512x128 .bf16) (k v : Vec Ideal S1x256x128 .bf16)
    (w : Vec Ideal S1x512x2048 .bf16) (r : Fin 512) (j : Fin 2048) :
    k0_pay1 (F := Ideal) acc a b c (k0_pay7 q) (k0_pay8 k) (constant S512x256 .f32 0x00000000#32) v w (ix2 r j)
      = acc (ix2 r j) + ∑ u : Fin 512, (if h : u.val < 128 then a (ix2 r ⟨u.val, h⟩) else if h : u.val - 128 < 128 then b (ix2 r ⟨u.val - 128, h⟩)
          else if h : u.val - 128 - 128 < 128 then c (ix2 r ⟨u.val - 128 - 128, h⟩)
          else attend (fun n => ∑ e : Fin 128, q (ix2 r e) * k (ix3 0 n e)) (fun n => v (ix3 0 n ⟨u.val - 128 - 128 - 128, by omega⟩))) * w (ix3 0 u j) := by
  unfold attend
  pointwise [k0_pay1, k0_pay7, k0_pay8]
  try rfl

/-- The accumulator: the residual plus the self-attention product. -/
theorem acc_apply (x : Vec Ideal S512x2048 .f32) (y : Vec Ideal S512x1536 .bf16) (w : Vec Ideal S1x1536x2048 .bf16) (r : Fin 512) (j : Fin 2048) :
    k0_pay2 (F := Ideal) x y w (ix2 r j) = x (ix2 r j) + ∑ k : Fin 1536, y (ix2 r k) * w (ix3 0 k j) := by
  pointwise [k0_pay2]

/-- Column `e` of the head that column `u` lies in. -/
def headCol (u : Fin 512) (e : Fin 128) : Fin 512 := ⟨128 * (u.val / 128) + e.val, by omega⟩

/-- The output block at an index. -/
theorem out_apply (c : Dev nD) (i : grid0.Coords) (arg1 : Memref sig .tc .vmem S512x1536 .bf16) (harg1 : arg1.IsWhole) (arg2 : Memref sig .tc .vmem S512x512 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x1536x2048 .bf16) (harg5 : arg5.IsWhole) (arg6 : Memref sig .tc .vmem S1x512x2048 .bf16) (harg6 : arg6.IsWhole) (arg7 : Memref sig .tc .vmem S512x2048 .f32) (harg7 : arg7.IsWhole) (arg8 : Memref sig .tc .vmem S512x2048 .f32) (harg8 : arg8.IsWhole)
    (x0 : Vec Ideal S512x1536 .bf16) (x1 : Vec Ideal S512x512 .bf16) (x2 : Vec Ideal S1x256x512 .bf16) (x3 : Vec Ideal S1x256x512 .bf16) (x4 : Vec Ideal S1x1536x2048 .bf16) (x5 : Vec Ideal S1x512x2048 .bf16) (x6 : Vec Ideal S512x2048 .f32) (r : Fin 512) (j : Fin 2048) :
    out0_A_7 (F := Ideal) c i arg1 harg1 arg2 harg2 arg3 harg3 arg4 harg4 arg5 harg5 arg6 harg6 arg7 harg7 arg8 harg8 x0 x1 x2 x3 x4 x5 x6 (ix2 r j)
      = (x6 (ix2 r j) + ∑ k : Fin 1536, x0 (ix2 r k) * x4 (ix3 0 k j))
        + ∑ u : Fin 512, attend (fun n => ∑ e : Fin 128, x1 (ix2 r (headCol u e)) * x2 (ix3 0 n (headCol u e))) (fun n => x3 (ix3 0 n u)) * x5 (ix3 0 u j) := by
  rw [out_eq, last_apply, acc_apply]
  congr 1
  refine Finset.sum_congr rfl fun u _ => ?_
  congr 1
  have hu := u.isLt
  split_ifs with h0 h1 h2
  · rw [head_first]
    congr 1
    · funext n
      refine Finset.sum_congr rfl fun e _ => ?_
      rw [queries_at 0 _ x1 r e (headCol u e) (by show 128 * (u.val / 128) + e.val = _; omega), keys_at 0 _ x2 n e (headCol u e) (by show 128 * (u.val / 128) + e.val = _; omega)]
    · funext n
      exact keys_at 0 _ x3 n _ u (by show u.val = 0 + u.val; omega)
  · rw [head_second]
    congr 1
    · funext n
      refine Finset.sum_congr rfl fun e _ => ?_
      rw [queries_at 128 _ x1 r e (headCol u e) (by show 128 * (u.val / 128) + e.val = _; omega), keys_at 128 _ x2 n e (headCol u e) (by show 128 * (u.val / 128) + e.val = _; omega)]
    · funext n
      exact keys_at 128 _ x3 n _ u (by show u.val = 128 + (u.val - 128); omega)
  · rw [head_third]
    congr 1
    · funext n
      refine Finset.sum_congr rfl fun e _ => ?_
      rw [queries_at 256 _ x1 r e (headCol u e) (by show 128 * (u.val / 128) + e.val = _; omega), keys_at 256 _ x2 n e (headCol u e) (by show 128 * (u.val / 128) + e.val = _; omega)]
    · funext n
      exact keys_at 256 _ x3 n _ u (by show u.val = 256 + (u.val - 128 - 128); omega)
  · congr 1
    · funext n
      refine Finset.sum_congr rfl fun e _ => ?_
      rw [queries_at 384 _ x1 r e (headCol u e) (by show 128 * (u.val / 128) + e.val = _; omega), keys_at 384 _ x2 n e (headCol u e) (by show 128 * (u.val / 128) + e.val = _; omega)]
    · funext n
      exact keys_at 384 _ x3 n _ u (by show u.val = 384 + (u.val - 128 - 128 - 128); omega)

end Cert.Kernel3Ideal.Out

end
-- ==== Proof.OutValue.lean ====
/-
  The output projection's array: at every row and column the residual, the self-attention product and the memory
  attention's product, of the arguments.
-/
module

public import proofs.«01_k».proof.Proof.OutTile
public import proofs.«01_k».proof.Proof.Reshapes
public import Idealize.ShloMosaic.Lib.Tactic

@[expose] public section

set_option maxRecDepth 16384

noncomputable section

open Idealize.ShloMosaic Idealize.ShloMosaic.TcCoe Idealize.SL.Sem

namespace Cert.Kernel3Ideal.Out

open Cert.Kernel3Ideal Cert.Kernel3Ideal.Gen

variable (m : (ℓ : Loc nD τ sig) → Buf (Elt Ideal) ℓ)

/-- The batch that row `R` of the rows is in, -/
def batchOf (R : Fin 16384) : Fin 4 := ⟨R.val / 4096, by omega⟩
/-- and its place in the sequence. -/
def seqOf (R : Fin 16384) : Fin 4096 := ⟨R.val % 4096, Nat.mod_lt _ (by decide)⟩

/-- The projection at row `R`, column `j`: the residual and self-attention product, then the memory heads' product. -/
def value (y : FVec Ideal S4x4096x1536 .bf16) (p : FVec Ideal S4x4096x5120 .bf16) (kv : FVec Ideal S4x256x1024 .bf16) (w : FVec Ideal S2x2048x2048 .f32)
    (x : FVec Ideal S4x4096x2048 .f32) (R : Fin 16384) (j : Fin 2048) : EReal :=
  (x (ix3 (batchOf R) (seqOf R) j) + ∑ k : Fin 1536, y (ix3 (batchOf R) (seqOf R) k) * w (ix3 0 ⟨k.val, by omega⟩ j))
    + ∑ u : Fin 512, attend (fun n => ∑ e : Fin 128, p (ix3 (batchOf R) (seqOf R) ⟨4608 + (headCol u e).val, by omega⟩) * kv (ix3 (batchOf R) n ⟨(headCol u e).val, by omega⟩))
        (fun n => kv (ix3 (batchOf R) n ⟨512 + u.val, by omega⟩)) * w (ix3 0 ⟨1536 + u.val, by omega⟩ j)

/-! ## What the region finds in its operands -/

theorem self_found (c : Dev nD) (y : FVec Ideal S4x4096x1536 .bf16) (hy : m ((c.tc : Thread nD τ).loc main_arg0) = y) :
    @Eq (FVec Ideal S16384x1536 .bf16) (V m c (Pipeline.arrRef spec0 0)) (shapeCast S16384x1536 y shapeCasts_S4x4096x1536_S16384x1536) := by
  subst hy
  show StableHlo.after hostOps0 (fun b => m (c, b)) (Proc.tc.devRef main_v1) = _
  simp only [hostOps0]
  after_results_simp <;> rfl

theorem proj_found (c : Dev nD) (p : FVec Ideal S4x4096x5120 .bf16) (hp : m ((c.tc : Thread nD τ).loc main_arg1) = p) :
    @Eq (FVec Ideal S16384x5120 .bf16) (V m c (Pipeline.arrRef spec0 1)) (shapeCast S16384x5120 p shapeCasts_S4x4096x5120_S16384x5120) := by
  subst hp
  show StableHlo.after hostOps0 (fun b => m (c, b)) (Proc.tc.devRef main_v2) = _
  simp only [hostOps0]
  after_results_simp <;> rfl

theorem keys_found (c : Dev nD) (kv : FVec Ideal S4x256x1024 .bf16) (hk : m ((c.tc : Thread nD τ).loc main_arg2) = kv) :
    @Eq (FVec Ideal S4x256x1024 .bf16) (V m c (Pipeline.arrRef spec0 2)) kv := by
  subst hk
  show StableHlo.after hostOps0 (fun b => m (c, b)) (Proc.tc.devRef main_arg2) = _
  simp only [hostOps0]
  after_results_simp <;> rfl

theorem weights_found (c : Dev nD) (w : FVec Ideal S2x2048x2048 .f32) (hw : m ((c.tc : Thread nD τ).loc main_arg3) = w) :
    @Eq (FVec Ideal S2x2048x2048 .bf16) (V m c (Pipeline.arrRef spec0 4)) (truncf .bf16 w bitsLt_bf16_f32) := by
  subst hw
  show StableHlo.after hostOps0 (fun b => m (c, b)) (Proc.tc.devRef main_v0) = _
  simp only [hostOps0]
  after_results_simp <;> rfl

theorem rows_found (c : Dev nD) (x : FVec Ideal S4x4096x2048 .f32) (hx : m ((c.tc : Thread nD τ).loc main_arg4) = x) :
    @Eq (FVec Ideal S16384x2048 .f32) (V m c (Pipeline.arrRef spec0 6)) (shapeCast S16384x2048 x shapeCasts_S4x4096x2048_S16384x2048) := by
  subst hx
  show StableHlo.after hostOps0 (fun b => m (c, b)) (Proc.tc.devRef main_v3) = _
  simp only [hostOps0]
  after_results_simp <;> rfl

/-! ## The blocks a point reads -/

/-- The index maps, decided over the grid: point `t` takes row block `t`, the memory of batch `t / 8`. -/
theorem maps : ∀ t : Fin cfg0.N, (win0_0.index t (0 : Fin 2) = t.val ∧ win0_0.index t (1 : Fin 2) = 0
    ∧ win0_1.index t (0 : Fin 2) = t.val ∧ win0_1.index t (1 : Fin 2) = 9)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 1)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 3 ∧ win0_5.index t (2 : Fin 3) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `r` of the block of point `t`. -/
def rowOf (t : Fin cfg0.N) (r : Fin 512) : Fin 16384 :=
  ⟨512 * t.val + r.val, by have h := lt_of_lt_of_eq t.isLt (show cfg0.N = 32 from N_0); omega⟩

theorem self_block (c : Dev nD) (t : Fin cfg0.N) (y : FVec Ideal S4x4096x1536 .bf16) (hy : m ((c.tc : Thread nD τ).loc main_arg0) = y)
    (r : Fin 512) (k : Fin 1536) : (iblk m c 0 t : FVec Ideal S512x1536 .bf16) (ix2 r k) = y (ix3 (batchOf (rowOf t r)) (seqOf (rowOf t r)) k) := by
  show (V m c (Pipeline.arrRef spec0 0) : FVec Ideal S16384x1536 .bf16) ((win0_0.rect t).emb (ix2 r k)) = _
  rw [self_found m c y hy]
  have h : (win0_0.rect t).emb (ix2 r k) = ix2 (rowOf t r) k := by
    obtain ⟨⟨e0, e1, -⟩, -⟩ := maps t
    funext a; apply Fin.ext
    match a with
    | ⟨0, _⟩ => show win0_0.index t (0 : Fin 2) * 512 + 1 * r.val = 512 * t.val + r.val; omega
    | ⟨1, _⟩ => show win0_0.index t (1 : Fin 2) * 1536 + 1 * k.val = k.val; omega
  rw [h]
  exact Reshapes.rows_apply y _ _ _ _ _ (by show (rowOf t r).val = (rowOf t r).val / 4096 * 4096 + (rowOf t r).val % 4096; omega)

theorem query_block (c : Dev nD) (t : Fin cfg0.N) (p : FVec Ideal S4x4096x5120 .bf16) (hp : m ((c.tc : Thread nD τ).loc main_arg1) = p)
    (r : Fin 512) (u : Fin 512) : (iblk m c 1 t : FVec Ideal S512x512 .bf16) (ix2 r u)
      = p (ix3 (batchOf (rowOf t r)) (seqOf (rowOf t r)) ⟨4608 + u.val, by omega⟩) := by
  show (V m c (Pipeline.arrRef spec0 1) : FVec Ideal S16384x5120 .bf16) ((win0_1.rect t).emb (ix2 r u)) = _
  rw [proj_found m c p hp]
  have h : (win0_1.rect t).emb (ix2 r u) = ix2 (rowOf t r) ⟨4608 + u.val, by omega⟩ := by
    obtain ⟨⟨-, -, e0, e1⟩, -⟩ := maps t
    funext a; apply Fin.ext
    match a with
    | ⟨0, _⟩ => show win0_1.index t (0 : Fin 2) * 512 + 1 * r.val = 512 * t.val + r.val; omega
    | ⟨1, _⟩ => show win0_1.index t (1 : Fin 2) * 512 + 1 * u.val = 4608 + u.val; omega
  rw [h]
  exact Reshapes.rows_apply p _ _ _ _ _ (by show (rowOf t r).val = (rowOf t r).val / 4096 * 4096 + (rowOf t r).val % 4096; omega)

theorem batch_point (t : Fin cfg0.N) (r : Fin 512) : (batchOf (rowOf t r)).val = t.val / 8 := by
  show (512 * t.val + r.val) / 4096 = t.val / 8
  omega

theorem key_block (c : Dev nD) (t : Fin cfg0.N) (kv : FVec Ideal S4x256x1024 .bf16) (hk : m ((c.tc : Thread nD τ).loc main_arg2) = kv)
    (r : Fin 512) (n : Fin 256) (u : Fin 512) : (iblk m c 2 t : FVec Ideal S1x256x512 .bf16) (ix3 0 n u)
      = kv (ix3 (batchOf (rowOf t r)) n ⟨u.val, by omega⟩) := by
  show (V m c (Pipeline.arrRef spec0 2) : FVec Ideal S4x256x1024 .bf16) ((win0_2.rect t).emb (ix3 0 n u)) = _
  rw [keys_found m c kv hk]
  refine congrArg _ ?_
  obtain ⟨-, ⟨e0, e1, e2⟩, -⟩ := maps t
  have hb := batch_point t r
  funext a; apply Fin.ext
  match a with
  | ⟨0, _⟩ => show win0_2.index t (0 : Fin 3) * 1 + 1 * 0 = (batchOf (rowOf t r)).val; omega
  | ⟨1, _⟩ => show win0_2.index t (1 : Fin 3) * 256 + 1 * n.val = n.val; omega
  | ⟨2, _⟩ => show win0_2.index t (2 : Fin 3) * 512 + 1 * u.val = u.val; omega

theorem value_block (c : Dev nD) (t : Fin cfg0.N) (kv : FVec Ideal S4x256x1024 .bf16) (hk : m ((c.tc : Thread nD τ).loc main_arg2) = kv)
    (r : Fin 512) (n : Fin 256) (u : Fin 512) : (iblk m c 3 t : FVec Ideal S1x256x512 .bf16) (ix3 0 n u)
      = kv (ix3 (batchOf (rowOf t r)) n ⟨512 + u.val, by omega⟩) := by
  show (V m c (Pipeline.arrRef spec0 2) : FVec Ideal S4x256x1024 .bf16) ((win0_3.rect t).emb (ix3 0 n u)) = _
  rw [keys_found m c kv hk]
  refine congrArg _ ?_
  obtain ⟨-, -, ⟨e0, e1, e2⟩, -⟩ := maps t
  have hb := batch_point t r
  funext a; apply Fin.ext
  match a with
  | ⟨0, _⟩ => show win0_3.index t (0 : Fin 3) * 1 + 1 * 0 = (batchOf (rowOf t r)).val; omega
  | ⟨1, _⟩ => show win0_3.index t (1 : Fin 3) * 256 + 1 * n.val = n.val; omega
  | ⟨2, _⟩ => show win0_3.index t (2 : Fin 3) * 512 + 1 * u.val = 512 + u.val; omega

theorem self_weights (c : Dev nD) (t : Fin cfg0.N) (w : FVec Ideal S2x2048x2048 .f32) (hw : m ((c.tc : Thread nD τ).loc main_arg3) = w)
    (k : Fin 1536) (j : Fin 2048) : (X0_4 m c t : FVec Ideal S1x1536x2048 .bf16) (ix3 0 k j) = w (ix3 0 ⟨k.val, by omega⟩ j) := by
  unfold X0_4 Pipeline.Window.fill
  rw [dif_pos (moved0_4 t _)]
  show (V m c (Pipeline.arrRef spec0 4) : FVec Ideal S2x2048x2048 .bf16) ((win0_4.rect t).emb _) = _
  rw [weights_found m c w hw]
  show w _ = w _
  refine congrArg _ ?_
  obtain ⟨-, -, -, ⟨e0, e1, e2⟩, -⟩ := maps t
  funext a; apply Fin.ext
  match a with
  | ⟨0, _⟩ => show win0_4.index t (0 : Fin 3) * 1 + 1 * 0 = 0; omega
  | ⟨1, _⟩ => show win0_4.index t (1 : Fin 3) * 1536 + 1 * k.val = k.val; omega
  | ⟨2, _⟩ => show win0_4.index t (2 : Fin 3) * 2048 + 1 * j.val = j.val; omega

theorem memory_weights (c : Dev nD) (t : Fin cfg0.N) (w : FVec Ideal S2x2048x2048 .f32) (hw : m ((c.tc : Thread nD τ).loc main_arg3) = w)
    (u : Fin 512) (j : Fin 2048) : (iblk m c 5 t : FVec Ideal S1x512x2048 .bf16) (ix3 0 u j) = w (ix3 0 ⟨1536 + u.val, by omega⟩ j) := by
  show (V m c (Pipeline.arrRef spec0 4) : FVec Ideal S2x2048x2048 .bf16) ((win0_5.rect t).emb (ix3 0 u j)) = _
  rw [weights_found m c w hw]
  show w _ = w _
  refine congrArg _ ?_
  obtain ⟨-, -, -, -, ⟨e0, e1, e2⟩, -⟩ := maps t
  funext a; apply Fin.ext
  match a with
  | ⟨0, _⟩ => show win0_5.index t (0 : Fin 3) * 1 + 1 * 0 = 0; omega
  | ⟨1, _⟩ => show win0_5.index t (1 : Fin 3) * 512 + 1 * u.val = 1536 + u.val; omega
  | ⟨2, _⟩ => show win0_5.index t (2 : Fin 3) * 2048 + 1 * j.val = j.val; omega

theorem rows_block (c : Dev nD) (t : Fin cfg0.N) (x : FVec Ideal S4x4096x2048 .f32) (hx : m ((c.tc : Thread nD τ).loc main_arg4) = x)
    (r : Fin 512) (j : Fin 2048) : (iblk m c 6 t : FVec Ideal S512x2048 .f32) (ix2 r j) = x (ix3 (batchOf (rowOf t r)) (seqOf (rowOf t r)) j) := by
  show (V m c (Pipeline.arrRef spec0 6) : FVec Ideal S16384x2048 .f32) ((win0_6.rect t).emb (ix2 r j)) = _
  rw [rows_found m c x hx]
  have h : (win0_6.rect t).emb (ix2 r j) = ix2 (rowOf t r) j := by
    obtain ⟨-, -, -, -, -, ⟨e0, e1⟩, -⟩ := maps t
    funext a; apply Fin.ext
    match a with
    | ⟨0, _⟩ => show win0_6.index t (0 : Fin 2) * 512 + 1 * r.val = 512 * t.val + r.val; omega
    | ⟨1, _⟩ => show win0_6.index t (1 : Fin 2) * 2048 + 1 * j.val = j.val; omega
  rw [h]
  exact Reshapes.rows_apply x _ _ _ _ _ (by show (rowOf t r).val = (rowOf t r).val / 4096 * 4096 + (rowOf t r).val % 4096; omega)

/-! ## The result array -/

/-- The result at every row and column. -/
def result (y : FVec Ideal S4x4096x1536 .bf16) (p : FVec Ideal S4x4096x5120 .bf16) (kv : FVec Ideal S4x256x1024 .bf16) (w : FVec Ideal S2x2048x2048 .f32)
    (x : FVec Ideal S4x4096x2048 .f32) : FVec Ideal S16384x2048 .f32 :=
  fun i => value y p kv w x (i 0) (i 1)

/-- What a point computes at row `r` of its block, column `j`. -/
theorem point_value (c : Dev nD) (t : Fin cfg0.N) (y : FVec Ideal S4x4096x1536 .bf16) (p : FVec Ideal S4x4096x5120 .bf16) (kv : FVec Ideal S4x256x1024 .bf16) (w : FVec Ideal S2x2048x2048 .f32)
    (x : FVec Ideal S4x4096x2048 .f32) (hy : m ((c.tc : Thread nD τ).loc main_arg0) = y) (hp : m ((c.tc : Thread nD τ).loc main_arg1) = p) (hk : m ((c.tc : Thread nD τ).loc main_arg2) = kv)
    (hw : m ((c.tc : Thread nD τ).loc main_arg3) = w) (hx : m ((c.tc : Thread nD τ).loc main_arg4) = x) (r : Fin 512) (j : Fin 2048) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (X0_4 m c t) (iblk m c 5 t) (iblk m c 6 t) (ix2 r j)
      = value y p kv w x (rowOf t r) j := by
  rw [out_apply]
  simp only [self_block m c t y hy, query_block m c t p hp, key_block m c t kv hk r, value_block m c t kv hk r, self_weights m c t w hw, memory_weights m c t w hw, rows_block m c t x hx]
  rfl

/-- The array the run leaves is the projection of the arguments. -/
theorem final_eq (c : Dev nD) (y : FVec Ideal S4x4096x1536 .bf16) (p : FVec Ideal S4x4096x5120 .bf16) (kv : FVec Ideal S4x256x1024 .bf16) (w : FVec Ideal S2x2048x2048 .f32)
    (x : FVec Ideal S4x4096x2048 .f32) (hy : m ((c.tc : Thread nD τ).loc main_arg0) = y) (hp : m ((c.tc : Thread nD τ).loc main_arg1) = p) (hk : m ((c.tc : Thread nD τ).loc main_arg2) = kv)
    (hw : m ((c.tc : Thread nD τ).loc main_arg3) = w) (hx : m ((c.tc : Thread nD τ).loc main_arg4) = x) :
    @Eq (FVec Ideal S16384x2048 .f32) ((dats m 0 c).arrAt 7 cfg0.N) (result y p kv w x) := by
  funext i
  obtain ⟨R, j, rfl⟩ : ∃ (R : Fin 16384) (j : Fin 2048), i = ix2 R j := ⟨i 0, i 1, eq_ix2 i⟩
  have hN : cfg0.N = 32 := N_0
  let t : Fin cfg0.N := ⟨R.val / 512, by rw [hN]; omega⟩
  let r : Fin 512 := ⟨R.val % 512, Nat.mod_lt _ (by decide)⟩
  have hflush : (cfg0.win 7).flush t = true := (by decide +kernel : ∀ t : Fin cfg0.N, (cfg0.win 7).flush t = true) t
  have hb := congrFun (Value.blocks7 m c t hflush) (ix2 r j)
  rw [Value.flushed7_A] at hb
  have hr : rowOf t r = R := Fin.ext (by show 512 * (R.val / 512) + R.val % 512 = R.val; omega)
  have hi : (win0_7.rect t).emb (ix2 r j) = ix2 R j := by
    obtain ⟨-, -, -, -, -, -, e0, e1⟩ := maps t
    have ht : t.val = R.val / 512 := rfl
    have hrv : r.val = R.val % 512 := rfl
    funext a; apply Fin.ext
    match a with
    | ⟨0, _⟩ => show win0_7.index t (0 : Fin 2) * 512 + 1 * r.val = R.val; omega
    | ⟨1, _⟩ => show win0_7.index t (1 : Fin 2) * 2048 + 1 * j.val = j.val; omega
  have hv := point_value m c t y p kv w x hy hp hk hw hx r j
  rw [hr] at hv
  rw [← hi]
  refine Eq.trans (b := _) (show _ = _ from hb) ?_
  refine Eq.trans (show _ = _ from hv) ?_
  rw [hi]
  rfl

end Cert.Kernel3Ideal.Out

end
-- ==== Proof.SoftmaxMath.lean ====
/-
  Facts of the extended reals that the attention proofs share: sums and maxima of real scores are real, a quotient by a
  positive real goes through a weighted sum, and the weights of a softmax do not depend on what is taken off the scores.
-/
module

public import Idealize.ShloMosaic.PureOps.Ideal.Laws
public import Idealize.ShloMosaic.Lib.ValueIdx
public import proofs.«01_k».proof.Proof.FfnSpec

@[expose] public section

noncomputable section

open Idealize.ShloMosaic

namespace Cert.SoftmaxMath

/-- A finite sum of reals is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A value strictly between the infinities is a real. -/
theorem real_of_abs_lt (x : EReal) (hb : x ≠ ⊥) (ht : x ≠ ⊤) : ∃ r : ℝ, x = r := ⟨x.toReal, (EReal.coe_toReal ht hb).symm⟩

/-- A product sum of reals is a real. -/
theorem dot_real {ι : Type*} [Fintype ι] (f g : ι → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [← sum_coe]
  exact Finset.sum_congr rfl fun i _ => by rw [ha, hb, EReal.coe_mul]

/-- The largest of finitely many reals, at least one, is a real. -/
theorem max_real {ι : Type*} (s : Finset ι) (hs : s.Nonempty) (f : ι → ℝ) : ∃ r : ℝ, s.fold max (⊥ : EReal) (fun i => (f i : EReal)) = r := by
  classical
  induction s using Finset.induction_on with
  | empty => exact absurd hs Finset.not_nonempty_empty
  | insert a s ha ih =>
    rw [Finset.fold_insert ha]
    rcases s.eq_empty_or_nonempty with rfl | h
    · exact ⟨f a, by simp⟩
    · obtain ⟨r, hr⟩ := ih h
      exact ⟨max (f a) r, by rw [hr]; exact (EReal.coe_strictMono.monotone.map_max).symm⟩

/-- Division by a positive real is multiplication by its inverse. -/
theorem div_pos_real (x : EReal) (l : ℝ) (hl : 0 < l) : Ideal.div x (l : EReal) = x * ((l⁻¹ : ℝ) : EReal) := by
  unfold Ideal.div
  rw [if_neg (by exact_mod_cast hl.ne'), EReal.coe_inv]

/-- A weighted sum with nonnegative real weights, over a positive real, is the sum with the weights over it. -/
theorem weighted_div {ι : Type*} [Fintype ι] (w : ι → ℝ) (v : ι → EReal) (l : ℝ) (hl : 0 < l) :
    Ideal.div (∑ i, (w i : EReal) * v i) (l : EReal) = ∑ i, v i * ((w i / l : ℝ) : EReal) := by
  rw [div_pos_real _ _ hl, mul_comm, ← FfnSpec.sum_factor _ _ (by exact_mod_cast (inv_pos.mpr hl).le) (EReal.coe_ne_top _)]
  refine Finset.sum_congr rfl fun i _ => ?_
  rw [← mul_assoc, ← EReal.coe_mul, mul_comm]
  congr 2
  field_simp

/-- Weights scaled by a common positive real: the same quotients. -/
theorem scaled_weight {ι : Type*} [Fintype ι] (w : ι → ℝ) (c : ℝ) (hc : 0 < c) (i : ι) :
    (c * w i) / (∑ j, c * w j) = w i / ∑ j, w j := by
  rw [← Finset.mul_sum, mul_div_mul_left _ _ hc.ne']

/-- The exponential of a real less a real. -/
theorem exp_sub (s a : ℝ) : Ideal.exp ((s : EReal) - (a : EReal)) = ((Real.exp (-a) * Real.exp s : ℝ) : EReal) := by
  rw [← EReal.coe_sub]
  show ((Real.exp (s - a) : ℝ) : EReal) = _
  rw [← Real.exp_add, show -a + s = s - a by ring]

/-- The power of two of a real less a real. -/
theorem exp2_sub (s a : ℝ) : Ideal.exp2 ((s : EReal) - (a : EReal))
    = ((Real.exp (-(a * Real.log 2)) * Real.exp (s * Real.log 2) : ℝ) : EReal) := by
  rw [← EReal.coe_sub]
  show ((Real.rpow 2 (s - a) : ℝ) : EReal) = _
  rw [← Real.exp_add, show Real.rpow 2 (s - a) = (2 : ℝ) ^ (s - a) from rfl, Real.rpow_def_of_pos two_pos]
  congr 2
  ring

/-- The printed minus infinity is `⊥`. -/
theorem minus_inf : Ideal.ofBits FTy.f32 4286578688#32 = (⊥ : EReal) := by
  simp [Ideal.ofBits, Ideal.ieee]

/-- The printed infinity is `⊤`. -/
theorem plus_inf : Ideal.ofBits FTy.f32 2139095040#32 = (⊤ : EReal) := by
  simp [Ideal.ofBits, Ideal.ieee]

/-- The logarithm of the printed two. -/
theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee]
    norm_num [← EReal.coe_mul]
  rw [h]
  show (if (2 : ℝ) ≤ 0 then (⊥ : EReal) else ((Real.log 2 : ℝ) : EReal)) = _
  rw [if_neg (by norm_num)]

/-- The attention of one query over real scores in base two, its quotient taken last, is the softmax attention of the
    scores times `log 2`, its quotient taken on the weights. -/
theorem softmax_base2 {n : ℕ} (hn : 0 < n) (s v : Fin n → EReal) (hs : ∀ x, ∃ r : ℝ, s x = r) :
    Ideal.div (∑ x, Ideal.exp2 (s x - Finset.univ.fold max (Ideal.ofBits FTy.f32 4286578688#32) s) * v x)
        (∑ x, Ideal.exp2 (s x - Finset.univ.fold max (Ideal.ofBits FTy.f32 4286578688#32) s))
      = ∑ x, v x * Ideal.div
          (Ideal.exp (s x * Ideal.log (Ideal.ofBits FTy.f32 1073741824#32) - max (Ideal.ofBits FTy.f32 4286578688#32)
            (Finset.univ.fold max (Ideal.ofBits FTy.f32 4286578688#32) fun y => s y * Ideal.log (Ideal.ofBits FTy.f32 1073741824#32))))
          (∑ z, Ideal.exp (s z * Ideal.log (Ideal.ofBits FTy.f32 1073741824#32) - max (Ideal.ofBits FTy.f32 4286578688#32)
            (Finset.univ.fold max (Ideal.ofBits FTy.f32 4286578688#32) fun y => s y * Ideal.log (Ideal.ofBits FTy.f32 1073741824#32)))) := by
  haveI : Nonempty (Fin n) := ⟨⟨0, hn⟩⟩
  choose a ha using hs
  obtain rfl : s = fun x => ((a x : ℝ) : EReal) := funext ha
  rw [minus_inf, log_two]
  simp only [← EReal.coe_mul, max_eq_right (bot_le : (⊥ : EReal) ≤ _)]
  obtain ⟨M, hM⟩ := max_real Finset.univ Finset.univ_nonempty a
  obtain ⟨M', hM'⟩ := max_real Finset.univ Finset.univ_nonempty fun x => a x * Real.log 2
  rw [hM, hM']
  simp only [exp_sub, exp2_sub, sum_coe]
  have hpos : ∀ c : ℝ, 0 < c → 0 < ∑ x, c * Real.exp (a x * Real.log 2) := fun c hc =>
    Finset.sum_pos (fun x _ => mul_pos hc (Real.exp_pos _)) Finset.univ_nonempty
  rw [weighted_div _ _ _ (hpos _ (Real.exp_pos _))]
  refine Finset.sum_congr rfl fun x _ => ?_
  rw [div_pos_real _ _ (hpos _ (Real.exp_pos _)), ← EReal.coe_mul, ← div_eq_mul_inv,
    scaled_weight (fun x => Real.exp (a x * Real.log 2)) _ (Real.exp_pos _), scaled_weight (fun x => Real.exp (a x * Real.log 2)) _ (Real.exp_pos _)]

end Cert.SoftmaxMath

end
-- ==== Proof.OutRef.lean ====
/-
  The output projection's reference, read index by index: the same array, given that the memory queries and keys are finite.
-/
module

public import proofs.«01_k».proof.Proof.OutValue
public import proofs.«01_k».proof.Proof.SoftmaxMath
public import proofs.«01_k».proof.Proof.Gen.Reference3Ideal.Run
public import Idealize.ShloMosaic.Lib.Tactic

@[expose] public section

set_option maxRecDepth 16384

noncomputable section

open Idealize.ShloMosaic Idealize.ShloMosaic.TcCoe Idealize.SL.Sem

namespace Cert.Reference3Ideal.Out

open Cert.Reference3Ideal Cert.Reference3Ideal.Gen

/-- The scores of every batch, head, query and memory row, -/
def scores (q4 : FVec Ideal S4x4096x4x128 .f32) (k4 : FVec Ideal S4x256x4x128 .f32) : FVec Ideal S4x4x4096x256 .f32 :=
  (mulf (Host.dotGeneral dot_S4x4096x4x128_S4x256x4x128_S4x4x4096x256_3_3_1_1_02_02 none q4 k4) (broadcastInDim S4x4x4096x256 ![] bcast_S_S4x4x4096x256 (Host.log (constant S_ .f32 0x40000000#32))))
/-- the largest score of every query, -/
def largest (s : FVec Ideal S4x4x4096x256 .f32) : FVec Ideal S4x4x4096 .f32 :=
  Host.reduce FloatOps.maximumf s (constant S_ .f32 0xFF800000#32) reducesTo_S4x4x4096x256_S4x4x4096_d3 h_S_
/-- their exponentials less the row's maximum, -/
def weights (s : FVec Ideal S4x4x4096x256 .f32) (mx : FVec Ideal S4x4x4096 .f32) : FVec Ideal S4x4x4096x256 .f32 :=
  (Host.exp (subf s (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) (mx))))))
/-- and the attention: the values under the normalised weights. -/
def attention (v4 : FVec Ideal S4x256x4x128 .f32) (e : FVec Ideal S4x4x4096x256 .f32) : FVec Ideal S4x4x128x4096 .f32 :=
  (Host.dotGeneral dot_S4x256x4x128_S4x4x4096x256_S4x4x128x4096_1_3_3_2_02_01 none v4 (Host.divf e (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd e (constant S_ .f32 0x00000000#32) reducesTo_S4x4x4096x256_S4x4x4096_d3 h_S_)))))
/-- The projection of the joined heads, with the residual. -/
def projected (y : FVec Ideal S4x4096x1536 .bf16) (z : FVec Ideal S4x4096x512 .f32) (w : FVec Ideal S2x2048x2048 .f32) (x : FVec Ideal S4x4096x2048 .f32) : FVec Ideal S4x4096x2048 .f32 :=
  (addf x (Host.dotGeneral dot_S4x4096x2048_S2048x2048_S4x4096x2048_2_0_01_1_n_n none (concatenate S4x4096x2048 2 [⟨S4x4096x1536, (extf .f32 y bitsLt_bf16_f32)⟩, ⟨S4x4096x512, z⟩] concatenates_S4x4096x1536_S4x4096x512_S4x4096x2048_d2) (shapeCast _ (extractStridedSlice S1x2048x2048 ![0, 0, 0] w slices_S2x2048x2048_S1x2048x2048_0_0_0) shapeCasts_S1x2048x2048_S2048x2048)))

theorem scores_apply (q4 : FVec Ideal S4x4096x4x128 .f32) (k4 : FVec Ideal S4x256x4x128 .f32) (b : Fin 4) (h : Fin 4) (t : Fin 4096) (n : Fin 256) :
    scores q4 k4 (ix4 b h t n) = (∑ e : Fin 128, q4 (ix4 b t h e) * k4 (ix4 b n h e)) * Ideal.log (Ideal.ofBits FTy.f32 1073741824#32) := by
  pointwise [scores]

theorem largest_apply (s : FVec Ideal S4x4x4096x256 .f32) (b : Fin 4) (h : Fin 4) (t : Fin 4096) :
    largest s (ix3 b h t) = Finset.univ.fold max (Ideal.ofBits FTy.f32 4286578688#32) fun n : Fin 256 => s (ix4 b h t n) := by
  unfold largest
  rw [Reshapes.max_last]
  rfl

theorem weights_apply (s : FVec Ideal S4x4x4096x256 .f32) (mx : FVec Ideal S4x4x4096 .f32) (b : Fin 4) (h : Fin 4) (t : Fin 4096) (n : Fin 256) :
    weights s mx (ix4 b h t n) = Ideal.exp (s (ix4 b h t n) - max (Ideal.ofBits FTy.f32 4286578688#32) (mx (ix3 b h t))) := by
  pointwise [weights]
  try rfl

theorem attention_apply (v4 : FVec Ideal S4x256x4x128 .f32) (e : FVec Ideal S4x4x4096x256 .f32) (b : Fin 4) (h : Fin 4) (d : Fin 128) (t : Fin 4096) :
    attention v4 e (ix4 b h d t) = ∑ n : Fin 256, v4 (ix4 b n h d) * Ideal.div (e (ix4 b h t n)) (∑ n' : Fin 256, e (ix4 b h t n')) := by
  pointwise [attention]

theorem projected_apply (y : FVec Ideal S4x4096x1536 .bf16) (z : FVec Ideal S4x4096x512 .f32) (w : FVec Ideal S2x2048x2048 .f32) (x : FVec Ideal S4x4096x2048 .f32) (b : Fin 4) (t : Fin 4096) (j : Fin 2048) :
    projected y z w x (ix3 b t j) = x (ix3 b t j) + ∑ k : Fin 2048, (if h : k.val < 1536 then y (ix3 b t ⟨k.val, h⟩) else z (ix3 b t ⟨k.val - 1536, by omega⟩)) * w (ix3 0 k j) := by
  pointwise [projected]

/-- A sum over the joined columns is the sum over the first 1536 and the sum over the last 512. -/
theorem sum_joined (f : Fin 2048 → EReal) : ∑ k, f k = (∑ k : Fin 1536, f ⟨k.val, by omega⟩) + ∑ u : Fin 512, f ⟨1536 + u.val, by omega⟩ :=
  Fin.sum_univ_add (a := 1536) (b := 512) f

/-- The reference's result is the kernel's, the memory queries and keys being finite. -/
theorem result_eq (m : (ℓ : Loc nD τ sig) → Buf (Elt Ideal) ℓ) (c : Dev nD)
    (y : FVec Ideal S4x4096x1536 .bf16) (p : FVec Ideal S4x4096x5120 .bf16) (kv : FVec Ideal S4x256x1024 .bf16) (w : FVec Ideal S2x2048x2048 .f32) (x : FVec Ideal S4x4096x2048 .f32)
    (hy : m ((c.tc : Thread nD τ).loc main_arg0) = y) (hp : m ((c.tc : Thread nD τ).loc main_arg1) = p) (hk : m ((c.tc : Thread nD τ).loc main_arg2) = kv)
    (hw : m ((c.tc : Thread nD τ).loc main_arg3) = w) (hx : m ((c.tc : Thread nD τ).loc main_arg4) = x)
    (fp : ∀ (b : Fin 4) (t : Fin 4096) (u : Fin 512), ∃ r : ℝ, p (ix3 b t ⟨4608 + u.val, by omega⟩) = r)
    (fk : ∀ (b : Fin 4) (n : Fin 256) (u : Fin 512), ∃ r : ℝ, kv (ix3 b n ⟨u.val, by omega⟩) = r) :
    Value.res_out0 (F := Ideal) m c = Cert.Kernel3Ideal.Out.result y p kv w x := by
  have hres : @Eq (FVec Ideal S16384x2048 .f32) (Value.res_out0 (F := Ideal) m c) (shapeCast S16384x2048 (projected y (shapeCast S4x4096x512 (transpose S4x4096x4x128 [0, 3, 1, 2] (attention (shapeCast _ (extractStridedSlice S4x256x512 ![0, 0, 512] (extf .f32 kv bitsLt_bf16_f32) slices_S4x256x1024_S4x256x512_0_0_512) shapeCasts_S4x256x512_S4x256x4x128) (weights (scores (shapeCast _ (extractStridedSlice S4x4096x512 ![0, 0, 4608] (extf .f32 p bitsLt_bf16_f32) slices_S4x4096x5120_S4x4096x512_0_0_4608) shapeCasts_S4x4096x512_S4x4096x4x128) (shapeCast _ (extractStridedSlice S4x256x512 ![0, 0, 0] (extf .f32 kv bitsLt_bf16_f32) slices_S4x256x1024_S4x256x512_0_0_0) shapeCasts_S4x256x512_S4x256x4x128)) (largest (scores (shapeCast _ (extractStridedSlice S4x4096x512 ![0, 0, 4608] (extf .f32 p bitsLt_bf16_f32) slices_S4x4096x5120_S4x4096x512_0_0_4608) shapeCasts_S4x4096x512_S4x4096x4x128) (shapeCast _ (extractStridedSlice S4x256x512 ![0, 0, 0] (extf .f32 kv bitsLt_bf16_f32) slices_S4x256x1024_S4x256x512_0_0_0) shapeCasts_S4x256x512_S4x256x4x128))))) transposes_S4x4x128x4096_S4x4096x4x128_0_3_1_2) shapeCasts_S4x4096x4x128_S4x4096x512) w x) shapeCasts_S4x4096x2048_S16384x2048) := by
    unfold Value.res_out0 Value.res_main_v32 projected attention weights largest scores
    rw [hy, hp, hk, hw, hx]
    rfl
  show @Eq (FVec Ideal S16384x2048 .f32) _ _
  rw [hres]
  funext i
  obtain ⟨R, j, rfl⟩ : ∃ (R : Fin 16384) (j : Fin 2048), i = ix2 R j := ⟨i 0, i 1, eq_ix2 i⟩
  rw [Reshapes.rows_apply _ _ (Cert.Kernel3Ideal.Out.batchOf R) (Cert.Kernel3Ideal.Out.seqOf R) j R (by show R.val = R.val / 4096 * 4096 + R.val % 4096; omega)]
  show _ = Cert.Kernel3Ideal.Out.value y p kv w x R j
  unfold Cert.Kernel3Ideal.Out.value
  generalize Cert.Kernel3Ideal.Out.batchOf R = b
  generalize Cert.Kernel3Ideal.Out.seqOf R = t
  rw [projected_apply, sum_joined, ← add_assoc]
  refine congrArg₂ (· + ·) (congrArg₂ (· + ·) rfl (Finset.sum_congr rfl fun k _ => ?_)) (Finset.sum_congr rfl fun u _ => ?_)
  · have hk := k.isLt
    rw [dif_pos (show (⟨k.val, by omega⟩ : Fin 2048).val < 1536 from k.isLt)]
  · have hu := u.isLt
    rw [dif_neg (show ¬ (⟨1536 + u.val, by omega⟩ : Fin 2048).val < 1536 from by show ¬ 1536 + u.val < 1536; omega)]
    refine congrArg₂ (· * ·) ?_ rfl
    let h : Fin 4 := ⟨u.val / 128, by omega⟩
    let d : Fin 128 := ⟨u.val % 128, Nat.mod_lt _ (by decide)⟩
    rw [Reshapes.unheads_apply (H := 4) (D := 128) _ _ rfl b t h d _ (by show 1536 + u.val - 1536 = u.val / 128 * 128 + u.val % 128; omega)]
    have hq : ∀ e : Fin 128, ((shapeCast S4x4096x4x128 (extractStridedSlice S4x4096x512 ![0, 0, 4608] (extf .f32 p bitsLt_bf16_f32) slices_S4x4096x5120_S4x4096x512_0_0_4608) shapeCasts_S4x4096x512_S4x4096x4x128) : FVec Ideal S4x4096x4x128 .f32) (ix4 b t h e) = p (ix3 b t ⟨4608 + (Cert.Kernel3Ideal.Out.headCol u e).val, by omega⟩) := by
      intro e
      rw [Reshapes.heads_apply (H := 4) (D := 128) _ _ rfl b t h e (Cert.Kernel3Ideal.Out.headCol u e) (by show 128 * (u.val / 128) + e.val = u.val / 128 * 128 + e.val; omega)]
      pointwise []
    have hkk : ∀ (n : Fin 256) (e : Fin 128), ((shapeCast S4x256x4x128 (extractStridedSlice S4x256x512 ![0, 0, 0] (extf .f32 kv bitsLt_bf16_f32) slices_S4x256x1024_S4x256x512_0_0_0) shapeCasts_S4x256x512_S4x256x4x128) : FVec Ideal S4x256x4x128 .f32) (ix4 b n h e) = kv (ix3 b n ⟨(Cert.Kernel3Ideal.Out.headCol u e).val, by omega⟩) := by
      intro n e
      rw [Reshapes.heads_apply (H := 4) (D := 128) _ _ rfl b n h e (Cert.Kernel3Ideal.Out.headCol u e) (by show 128 * (u.val / 128) + e.val = u.val / 128 * 128 + e.val; omega)]
      pointwise []
    have hv : ∀ (n : Fin 256), ((shapeCast S4x256x4x128 (extractStridedSlice S4x256x512 ![0, 0, 512] (extf .f32 kv bitsLt_bf16_f32) slices_S4x256x1024_S4x256x512_0_0_512) shapeCasts_S4x256x512_S4x256x4x128) : FVec Ideal S4x256x4x128 .f32) (ix4 b n h d) = kv (ix3 b n ⟨512 + u.val, by omega⟩) := by
      intro n
      rw [Reshapes.heads_apply (H := 4) (D := 128) _ _ rfl b n h d u (by show u.val = u.val / 128 * 128 + u.val % 128; omega)]
      pointwise []
    generalize (shapeCast S4x4096x4x128 (extractStridedSlice S4x4096x512 ![0, 0, 4608] (extf .f32 p bitsLt_bf16_f32) slices_S4x4096x5120_S4x4096x512_0_0_4608) shapeCasts_S4x4096x512_S4x4096x4x128) = q4 at hq ⊢
    generalize (shapeCast S4x256x4x128 (extractStridedSlice S4x256x512 ![0, 0, 0] (extf .f32 kv bitsLt_bf16_f32) slices_S4x256x1024_S4x256x512_0_0_0) shapeCasts_S4x256x512_S4x256x4x128) = k4 at hkk ⊢
    generalize (shapeCast S4x256x4x128 (extractStridedSlice S4x256x512 ![0, 0, 512] (extf .f32 kv bitsLt_bf16_f32) slices_S4x256x1024_S4x256x512_0_0_512) shapeCasts_S4x256x512_S4x256x4x128) = v4 at hv ⊢
    have ht : ∀ z : FVec Ideal S4x4x128x4096 .f32, transpose S4x4096x4x128 [0, 3, 1, 2] z transposes_S4x4x128x4096_S4x4096x4x128_0_3_1_2 (ix4 b t h d) = z (ix4 b h d t) := by
      intro z
      pointwise []
    rw [ht, attention_apply]
    simp only [weights_apply, largest_apply, scores_apply, hq, hkk, hv]
    exact (SoftmaxMath.softmax_base2 (by decide) _ _ fun n => SoftmaxMath.dot_real _ _ (fun e => fp b t _) (fun e => fk b n _)).symm

end Cert.Reference3Ideal.Out

end
-- ==== Proof.OutPre.lean ====
/-
  What the precondition says: every memory query and every memory key is a real number.
-/
module

public import proofs.«01_k».proof.Pre_finite3
public import proofs.«01_k».proof.Proof.SoftmaxMath
public import Idealize.ShloMosaic.Lib.Pointwise
public import Idealize.ShloMosaic.Lib.ValueIdx

@[expose] public section

noncomputable section

open Idealize.ShloMosaic

namespace Cert.Pre_finite3.Out

open Cert.Pre_finite3

/-- The side conditions of the precondition's operations. -/
theorem facts : Cert.Pre_finite3.Facts where
  slices_S4x4096x5120_S4x4096x512_0_0_4608 := by decide
  bitsLt_bf16_f32 := by decide
  bcast_S_S4x4096x512 := by decide
  slices_S4x256x1024_S4x256x512_0_0_0 := by decide
  bcast_S_S4x256x512 := by decide

/-- A value whose absolute value compares less than infinity is a real. -/
theorem real_of_cmp (x : EReal) (h : Ideal.cmp .olt (max x (-x)) (Ideal.ofBits FTy.f32 2139095040#32) = 1#1) : ∃ r : ℝ, x = r := by
  rw [SoftmaxMath.plus_inf] at h
  have hlt : max x (-x) < ⊤ := by
    by_contra hn
    rw [show Ideal.cmp .olt (max x (-x)) ⊤ = 0#1 by simp [Ideal.cmp, hn]] at h
    exact absurd h (by decide)
  refine SoftmaxMath.real_of_abs_lt x ?_ ?_
  · rintro rfl
    simp at hlt
  · rintro rfl
    simp at hlt

variable [Facts]

/-- The memory queries are reals, -/
theorem queries_real (y : FVec Ideal S4x4096x1536 .bf16) (p : FVec Ideal S4x4096x5120 .bf16) (kv : FVec Ideal S4x256x1024 .bf16) (w : FVec Ideal S2x2048x2048 .f32) (x : FVec Ideal S4x4096x2048 .f32)
    (h : (fn (F := Ideal) y p kv w x).1 = fun _ => 1#1) (b : Fin 4) (t : Fin 4096) (u : Fin 512) : ∃ r : ℝ, p (ix3 b t ⟨4608 + u.val, by omega⟩) = r := by
  have h' := congrFun h (ix3 b t u)
  refine real_of_cmp _ ?_
  rw [← h']
  unfold fn
  pointwise []
  rfl

/-- and so are the memory keys. -/
theorem keys_real (y : FVec Ideal S4x4096x1536 .bf16) (p : FVec Ideal S4x4096x5120 .bf16) (kv : FVec Ideal S4x256x1024 .bf16) (w : FVec Ideal S2x2048x2048 .f32) (x : FVec Ideal S4x4096x2048 .f32)
    (h : (fn (F := Ideal) y p kv w x).2 = fun _ => 1#1) (b : Fin 4) (n : Fin 256) (u : Fin 512) : ∃ r : ℝ, kv (ix3 b n ⟨u.val, by omega⟩) = r := by
  have h' := congrFun h (ix3 b n u)
  refine real_of_cmp _ ?_
  rw [← h']
  unfold fn
  pointwise []
  rfl

end Cert.Pre_finite3.Out

end
-- ==== Proof.ProjBIdealBase.lean ====
module

public import proofs.«01_k».proof.Proof.Gen.Kernel4Ideal.Launch
public import proofs.«01_k».proof.Proof.Gen.Kernel4Ideal.Skeleton
public import proofs.«01_k».proof.Proof.Gen.Kernel4Ideal
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384
set_option maxHeartbeats 1600000

noncomputable section

namespace Cert.Kernel4Ideal.ProjB

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- When the pipeline fetches this window. -/
theorem fetch0_0 (a : (pcfg0 (F := F)).Adm) : ∀ t : Fin (cfg0 a).N, ((cfg0 a).win 0).fetch t = true ↔ t.val % 4 = 0 :=
  (fun t => Pipeline.Window.fetchOf_reads cc0_transform_0 reads0_0 hreads0_0 0 (by decide) (by decide) (Pipeline.Window.sep_of_coord cc0_transform_0 0 0 (fun _ => rfl) (by decide)) (P := 4) (by decide) t : ∀ t : Fin grid0.N, Pipeline.Window.fetchOf grid0 false cc0_transform_0 t = true ↔ t.val % 4 = 0)

/-- When the pipeline fetches this window. -/
theorem fetch0_1 (a : (pcfg0 (F := F)).Adm) : ∀ t : Fin (cfg0 a).N, ((cfg0 a).win 1).fetch t = true ↔ t.val % 64 = 0 :=
  (fun t => Pipeline.Window.fetchOf_const cc0_transform_1 (fun _ _ => rfl) (n := 64) (by decide) t : ∀ t : Fin grid0.N, Pipeline.Window.fetchOf grid0 false cc0_transform_1 t = true ↔ t.val % 64 = 0)

/-- When the pipeline fetches this window. -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 2 (fun _ => rfl) (by decide)) (P := 1) (by decide) t).mpr (Nat.mod_one _) : ∀ t : Fin grid0.N, Pipeline.Window.fetchOf grid0 false cc0_transform_2 t = true)

/-- When the pipeline fetches this window. -/
theorem fetch0_3 (a : (pcfg0 (F := F)).Adm) : ∀ t : Fin (cfg0 a).N, ((cfg0 a).win 3).fetch t = true ↔ t.val % 64 = 0 :=
  (fun t => Pipeline.Window.fetchOf_const cc0_transform_3 (fun _ _ => rfl) (n := 64) (by decide) t : ∀ t : Fin grid0.N, Pipeline.Window.fetchOf grid0 false cc0_transform_3 t = true ↔ t.val % 64 = 0)

/-- When the pipeline fetches this window. -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)

/-- When the pipeline fetches this window. -/
theorem fetch0_5 (a : (pcfg0 (F := F)).Adm) : ∀ t : Fin (cfg0 a).N, ((cfg0 a).win 5).fetch t = true ↔ t.val % 64 = 0 :=
  (fun t => Pipeline.Window.fetchOf_const cc0_transform_5 (fun _ _ => rfl) (n := 64) (by decide) t : ∀ t : Fin grid0.N, Pipeline.Window.fetchOf grid0 false cc0_transform_5 t = true ↔ t.val % 64 = 0)

/-- When the pipeline fetches this window. -/
theorem fetch0_6 (a : (pcfg0 (F := F)).Adm) : ∀ t : Fin (cfg0 a).N, ((cfg0 a).win 6).fetch t = true ↔ t.val % 64 = 0 :=
  (fun t => Pipeline.Window.fetchOf_const cc0_transform_6 (fun _ _ => rfl) (n := 64) (by decide) t : ∀ t : Fin grid0.N, Pipeline.Window.fetchOf grid0 false cc0_transform_6 t = true ↔ t.val % 64 = 0)

/-- When the pipeline writes this window back. -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)

/-- When the pipeline writes this window back. -/
theorem flush0_8 (a : (pcfg0 (F := F)).Adm) : ∀ t : Fin (cfg0 a).N, ((cfg0 a).win 8).flush t = true ↔ t.val % 4 = 3 :=
  (fun t => Pipeline.Window.flushOf_reads cc0_transform_8 reads0_8 hreads0_8 0 (by decide) (by decide) (Pipeline.Window.sep_of_coord cc0_transform_8 0 0 (fun _ => rfl) (by decide)) (P := 4) (m := 3) (by decide) rfl t : ∀ t : Fin grid0.N, Pipeline.Window.flushOf grid0 true cc0_transform_8 t = true ↔ t.val % 4 = 3)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The body as the pipeline calls it at point `t`. -/
abbrev bodyAt0 (a : (pcfg0 (F := F)).Adm) (t : Fin (cfg0 a).N) : Prog (TpuEff nD τ sig (Elt F) Λ₀ .tc) PUnit :=
  cc0_proj (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _)

/-- What the host lines before the call leave in the buffer `b`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in

/-- The host lines run to the call, leaving `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The host lines leave this argument as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host lines leave this argument as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The prefetched table as the call finds it. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S8 .i32 := Memref.whole main_c
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window holds its block when the body starts. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- An input window holds its block when the body starts. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The frame from what the pipeline guarantees of the arrays. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

abbrev cond0_0 (i : grid0.Coords) : Prop := (Scalar.cmpi .ne (Scalar.extui (Scalar.cmpi .eq (BitVec.ofNat 32 (i 1).val) 0#32)) 0#32) = 1#1

/-- The first condition holds at the first column block of each row block. -/
theorem hcond0_0 : ∀ t : Fin grid0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The last condition of the body: the side product is taken. -/
abbrev cond0_5 (i : grid0.Coords) : Prop := k0_cond6 i = 1#1

/-- The last condition holds at the last column block of each row block. -/
theorem hcond0_5 : ∀ t : Fin grid0.N, cond0_5 (grid0.coords t) ↔ t.val % 4 = 3 :=
  (by decide +kernel : ∀ t : Fin grid0.N, cond0_5 (grid0.coords t) ↔ t.val % 4 = 3)

theorem liveAt0_0 (hO : Ok m) : ∀ t : Fin (cfgM m hO).N, (cfgM m hO).idle 0 (grid0.coords t) = false :=
  (fun _ => rfl : ∀ t : Fin grid0.N, idle0 (tbl m) 0 (grid0.coords t) = false)

theorem liveAt0_1 (hO : Ok m) : ∀ t : Fin (cfgM m hO).N, (cfgM m hO).idle 1 (grid0.coords t) = false :=
  (fun _ => rfl : ∀ t : Fin grid0.N, idle0 (tbl m) 1 (grid0.coords t) = false)

theorem liveAt0_2 (hO : Ok m) : ∀ t : Fin (cfgM m hO).N, (cfgM m hO).idle 2 (grid0.coords t) = false :=
  (fun _ => rfl : ∀ t : Fin grid0.N, idle0 (tbl m) 2 (grid0.coords t) = false)

theorem liveAt0_3 (hO : Ok m) : ∀ t : Fin (cfgM m hO).N, (cfgM m hO).idle 3 (grid0.coords t) = false :=
  (fun _ => rfl : ∀ t : Fin grid0.N, idle0 (tbl m) 3 (grid0.coords t) = false)

theorem liveAt0_4 (hO : Ok m) : ∀ t : Fin (cfgM m hO).N, (cfgM m hO).idle 4 (grid0.coords t) = false :=
  (fun _ => rfl : ∀ t : Fin grid0.N, idle0 (tbl m) 4 (grid0.coords t) = false)

theorem liveAt0_5 (hO : Ok m) : ∀ t : Fin (cfgM m hO).N, (cfgM m hO).idle 5 (grid0.coords t) = false :=
  (fun _ => rfl : ∀ t : Fin grid0.N, idle0 (tbl m) 5 (grid0.coords t) = false)

theorem liveAt0_6 (hO : Ok m) : ∀ t : Fin (cfgM m hO).N, (cfgM m hO).idle 6 (grid0.coords t) = false :=
  (fun _ => rfl : ∀ t : Fin grid0.N, idle0 (tbl m) 6 (grid0.coords t) = false)

abbrev VO0_7 : View sig .tc .vmem S1024x1024 .bf16 := (Memref.whole cc0_stg7_0 : Memref sig .tc .vmem S1024x1024 .bf16).view

abbrev VO0_8 : View sig .tc .vmem S1024x128 .f32 := (Memref.whole cc0_stg8_0 : Memref sig .tc .vmem S1024x128 .f32).view

abbrev ms0_0 (hO : Ok m) (t : Fin (cfgM m hO).N) : Memref sig .tc .vmem S1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x128x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S2048x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x1024 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1024x128 .f32 := spec0_8.stage ((cfgM m hO).slots t 8)
abbrev hs0_8 (hO : Ok m) (t : Fin (cfgM m hO).N) : (ms0_8 m hO t).IsWhole := hstage0_8 (((cfgM m hO).slots t 8).cast nbuf0_8)

/-- The group-matrix index the table gives lies inside the window at every point. -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S8) (k0_off1 (grid0.coords t)) S1.size (k0_off1_inb (grid0.coords t))).toLoadRect (tbl m 0) (Shape.Idx.first (numel1_S1.symm ▸ Nat.one_pos)))
    ∧ k0_chk2 (tbM0_0.view.readAt (Elt F) (Rect.unit (s := S8) (k0_off3 (grid0.coords t)) S1.size (k0_off3_inb (grid0.coords t))).toLoadRect (tbl m 0) (Shape.Idx.first (numel1_S1.symm ▸ Nat.one_pos)))

abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S8) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S8) (k0_off1 (grid0.coords t)) S1.size (k0_off1_inb (grid0.coords t))).toLoadRect (tbl m 0) (Shape.Idx.first (numel1_S1.symm ▸ Nat.one_pos))) := (hH c t).1

abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S8) (k0_off3 (grid0.coords t)) S1.size (k0_off3_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S8) (k0_off3 (grid0.coords t)) S1.size (k0_off3_inb (grid0.coords t))).toLoadRect (tbl m 0) (Shape.Idx.first (numel1_S1.symm ▸ Nat.one_pos))) := (hH c t).2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t) :
    Hyps m hO := fun c t =>
  And.intro (p0 c t) (p1 c t)

abbrev scM0_0 : Memref sig .tc .vmem S1024x2048 .bf16 := Memref.whole cc0_scratch0

abbrev VS0_0 : View sig .tc .vmem S1024x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The table of section kinds: eight words, two for each column block. -/
theorem tbl_eq : tbl m 0 = (fun i : S8.Idx => lit0 (S8.rowMajor i)) := by
  show V m 0 main_c = _
  unfold V
  simp only [hostOps0, hostOps0_1, hostOps0_2, hostOps0_3, hostOps0_4, hostOps0_5, hostOps0_6, List.flatten_cons, List.flatten_nil, List.append_nil, List.cons_append, List.nil_append]
  rw [StableHlo.after_cons]
  refine (StableHlo.after_of_forall_not_mem (b := Proc.devRef .tc main_c) _ _ (List.forall_iff_forall_mem.mp ?_)).trans (StableHlo.nullary_result' _ _ _)
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- The word the body reads for the first section at a point. -/
abbrev word0 (c : Dev nD) (xt0 : TbBuf0 (F := F) c tbM0_0) (i : grid0.Coords) : BitVec 32 :=
  tbM0_0.view.readAt (Elt F) (Rect.unit (s := S8) (k0_off1 i) S1.size (k0_off1_inb i)).toLoadRect xt0 (Shape.Idx.first (numel1_S1.symm ▸ Nat.one_pos))

/-- The word the body reads for the second section at a point. -/
abbrev word1 (c : Dev nD) (xt0 : TbBuf0 (F := F) c tbM0_0) (i : grid0.Coords) : BitVec 32 :=
  tbM0_0.view.readAt (Elt F) (Rect.unit (s := S8) (k0_off3 i) S1.size (k0_off3_inb i)).toLoadRect xt0 (Shape.Idx.first (numel1_S1.symm ▸ Nat.one_pos))

/-- The first section's kind as a number of the column block. -/
theorem word0_eq (c : Dev nD) (t : Fin grid0.N) :
    word0 c (tbl m 0) (grid0.coords t) = lit0 ⟨2 * (t.val % 4), by omega⟩ := by
  rw [tbl_eq]
  exact (by decide +kernel : ∀ t : Fin grid0.N, lit0 (S8.rowMajor ((Rect.unit (s := S8) (k0_off1 (grid0.coords t)) S1.size (k0_off1_inb (grid0.coords t))).toLoadRect.idx (Shape.Idx.first (numel1_S1.symm ▸ Nat.one_pos)))) = lit0 ⟨2 * (t.val % 4), by omega⟩) t

/-- The second section's kind as a number of the column block. -/
theorem word1_eq (c : Dev nD) (t : Fin grid0.N) :
    word1 c (tbl m 0) (grid0.coords t) = lit0 ⟨2 * (t.val % 4) + 1, by omega⟩ := by
  rw [tbl_eq]
  exact (by decide +kernel : ∀ t : Fin grid0.N, lit0 (S8.rowMajor ((Rect.unit (s := S8) (k0_off3 (grid0.coords t)) S1.size (k0_off3_inb (grid0.coords t))).toLoadRect.idx (Shape.Idx.first (numel1_S1.symm ▸ Nat.one_pos)))) = lit0 ⟨2 * (t.val % 4) + 1, by omega⟩) t

/-- The second condition of the body: the first section's kind is 0. -/
abbrev cond0_1 (c : Dev nD) (xt0 : TbBuf0 (F := F) c tbM0_0) (i : grid0.Coords) : Prop := k0_cond2 (word0 c xt0 i) = 1#1
/-- The third condition of the body: the first section's kind is not 0. -/
abbrev cond0_2 (c : Dev nD) (xt0 : TbBuf0 (F := F) c tbM0_0) (i : grid0.Coords) : Prop := k0_cond3 (word0 c xt0 i) = 1#1
/-- The fourth condition of the body: the second section's kind is 0. -/
abbrev cond0_3 (c : Dev nD) (xt0 : TbBuf0 (F := F) c tbM0_0) (i : grid0.Coords) : Prop := k0_cond4 (word1 c xt0 i) = 1#1
/-- The fifth condition of the body: the second section's kind is not 0. -/
abbrev cond0_4 (c : Dev nD) (xt0 : TbBuf0 (F := F) c tbM0_0) (i : grid0.Coords) : Prop := k0_cond5 (word1 c xt0 i) = 1#1

/-- The second condition holds at the last two column blocks. -/
theorem hcond0_1 (c : Dev nD) (t : Fin grid0.N) : cond0_1 c (tbl m 0) (grid0.coords t) ↔ 2 ≤ t.val % 4 := by
  unfold cond0_1; rw [word0_eq]
  exact (by decide +kernel : ∀ t : Fin grid0.N, k0_cond2 (lit0 ⟨2 * (t.val % 4), by omega⟩) = 1#1 ↔ 2 ≤ t.val % 4) t
/-- The third condition holds at the first two column blocks. -/
theorem hcond0_2 (c : Dev nD) (t : Fin grid0.N) : cond0_2 c (tbl m 0) (grid0.coords t) ↔ t.val % 4 ≤ 1 := by
  unfold cond0_2; rw [word0_eq]
  exact (by decide +kernel : ∀ t : Fin grid0.N, k0_cond3 (lit0 ⟨2 * (t.val % 4), by omega⟩) = 1#1 ↔ t.val % 4 ≤ 1) t
/-- The fourth condition holds at the third column block. -/
theorem hcond0_3 (c : Dev nD) (t : Fin grid0.N) : cond0_3 c (tbl m 0) (grid0.coords t) ↔ t.val % 4 = 2 := by
  unfold cond0_3; rw [word1_eq]
  exact (by decide +kernel : ∀ t : Fin grid0.N, k0_cond4 (lit0 ⟨2 * (t.val % 4) + 1, by omega⟩) = 1#1 ↔ t.val % 4 = 2) t
/-- The fifth condition holds at every other column block. -/
theorem hcond0_4 (c : Dev nD) (t : Fin grid0.N) : cond0_4 c (tbl m 0) (grid0.coords t) ↔ t.val % 4 ≠ 2 := by
  unfold cond0_4; rw [word1_eq]
  exact (by decide +kernel : ∀ t : Fin grid0.N, k0_cond5 (lit0 ⟨2 * (t.val % 4) + 1, by omega⟩) = 1#1 ↔ t.val % 4 ≠ 2) t

/-- The side result's window is stored into at the last column blocks. -/
theorem liveAt0_8 (hO : Ok m) (t : Fin (cfgM m hO).N) (h : t.val % 4 = 3) : (cfgM m hO).idle 8 (grid0.coords t) = false :=
  (by decide +kernel : ∀ t : Fin grid0.N, t.val % 4 = 3 → (!(k0_cond6 (grid0.coords t) == 1#1)) = false) t h
/-- The side result's window is idle elsewhere. -/
theorem idleAt0_8 (hO : Ok m) (t : Fin (cfgM m hO).N) (h : ¬t.val % 4 = 3) : (cfgM m hO).idle 8 (grid0.coords t) = true :=
  (by decide +kernel : ∀ t : Fin grid0.N, ¬t.val % 4 = 3 → (!(k0_cond6 (grid0.coords t) == 1#1)) = true) t h
/-- The side result's window is not written back elsewhere. -/
theorem noFlush0_8 (hO : Ok m) (t : Fin (cfgM m hO).N) (h : ¬t.val % 4 = 3) : ((cfgM m hO).win 8).flush t = false :=
  (by decide +kernel : ∀ t : Fin grid0.N, ¬t.val % 4 = 3 → Pipeline.Window.flushOf grid0 true cc0_transform_8 t = false) t h

/-- The first result's window is stored into at every point. -/
theorem liveAt0_7 (hO : Ok m) (t : Fin (cfgM m hO).N) : (cfgM m hO).idle 7 (grid0.coords t) = false := by
  have a0 : ∀ t : Fin grid0.N, (tbl m).atD 0 (k0_off1 (grid0.coords t)) = lit0 ⟨2 * (t.val % 4), by omega⟩ := fun t => by
    refine (dif_pos (by exact (by decide +kernel : ∀ t : Fin grid0.N, ∀ a : Fin 1, k0_off1 (grid0.coords t) a + 1 ≤ S8.size a) t)).trans ?_
    refine (congrFun (tbl_eq m) _).trans ?_
    exact (by decide +kernel : ∀ t : Fin grid0.N, lit0 (S8.rowMajor (fun a => ⟨k0_off1 (grid0.coords t) a, (by decide +kernel : ∀ t : Fin grid0.N, ∀ a : Fin 1, k0_off1 (grid0.coords t) a + 1 ≤ S8.size a) t a⟩)) = lit0 ⟨2 * (t.val % 4), by omega⟩) t
  have a1 : ∀ t : Fin grid0.N, (tbl m).atD 0 (k0_off3 (grid0.coords t)) = lit0 ⟨2 * (t.val % 4) + 1, by omega⟩ := fun t => by
    refine (dif_pos (by exact (by decide +kernel : ∀ t : Fin grid0.N, ∀ a : Fin 1, k0_off3 (grid0.coords t) a + 1 ≤ S8.size a) t)).trans ?_
    refine (congrFun (tbl_eq m) _).trans ?_
    exact (by decide +kernel : ∀ t : Fin grid0.N, lit0 (S8.rowMajor (fun a => ⟨k0_off3 (grid0.coords t) a, (by decide +kernel : ∀ t : Fin grid0.N, ∀ a : Fin 1, k0_off3 (grid0.coords t) a + 1 ≤ S8.size a) t a⟩)) = lit0 ⟨2 * (t.val % 4) + 1, by omega⟩) t
  have h : ∀ t : Fin grid0.N, idle0 (tbl m) 7 (grid0.coords t) = false := fun t => by
    show (!(k0_cond2 ((tbl m).atD 0 (k0_off1 (grid0.coords t))) == 1#1) && !(k0_cond3 ((tbl m).atD 0 (k0_off1 (grid0.coords t))) == 1#1) && !(k0_cond4 ((tbl m).atD 0 (k0_off3 (grid0.coords t))) == 1#1) && !(k0_cond5 ((tbl m).atD 0 (k0_off3 (grid0.coords t))) == 1#1)) = false
    rw [a0, a1]
    exact (by decide +kernel : ∀ t : Fin grid0.N, (!(k0_cond2 (lit0 ⟨2 * (t.val % 4), by omega⟩) == 1#1) && !(k0_cond3 (lit0 ⟨2 * (t.val % 4), by omega⟩) == 1#1) && !(k0_cond4 (lit0 ⟨2 * (t.val % 4) + 1, by omega⟩) == 1#1) && !(k0_cond5 (lit0 ⟨2 * (t.val % 4) + 1, by omega⟩) == 1#1)) = false) t
  exact h t

/-- The group-matrix index is inside its window at every point, whatever the memory. -/
theorem hyps (hO : Ok m) : Hyps m hO := fun c t => by
  constructor
  · have h := word0_eq m c t
    unfold word0 at h; rw [h]
    exact (by decide +kernel : ∀ t : Fin grid0.N, k0_chk1 (lit0 ⟨2 * (t.val % 4), by omega⟩)) t
  · have h := word1_eq m c t
    unfold word1 at h; rw [h]
    exact (by decide +kernel : ∀ t : Fin grid0.N, k0_chk2 (lit0 ⟨2 * (t.val % 4) + 1, by omega⟩)) t

end Cert.Kernel4Ideal.ProjB

end
-- ==== Proof.ProjBIdealRunA.lean ====
module

public import proofs.«01_k».proof.Proof.ProjBIdealBase

@[expose] public section

set_option maxRecDepth 16384
set_option maxHeartbeats 1600000

noncomputable section

namespace Cert.Kernel4Ideal.ProjB

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

/-- The body runs in this case from the windows' contents to its stores. -/
noncomputable def kernelRun0_A (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) :
    Σ' (L7 : List (View.Piece (Elt F) S1024x1024 .bf16)), Σ' (L8 : List (View.Piece (Elt F) S1024x128 .f32)), { LS0 : List (View.Piece (Elt F) S1024x2048 .bf16) //
      ∀ (xi8 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xi8 ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xi8 ∗ (∃ f, arg12.view.loc (c : Thread nD τ) ↦[arg12.view.set]{fullShare} arg12.view.writes (Elt F) f LS0) ∗ tbPt0 c tbM0_0 xt0) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12) K } := by
  refine ⟨?_, [], ?_, fun xi8 E K => ?run⟩
  case run =>
    simp only [cc0_proj_eq_skeleton]; unfold cc0_proj_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8
    sl_exec (disch := first | sl_exact hc0 | sl_exact hc1 | sl_exact hc2 | sl_exact hc3 | sl_exact hc4 | sl_exact hc5 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [HS0]; · iexists _; iexact HS0
    iexact HT0

end Cert.Kernel4Ideal.ProjB

end
-- ==== Proof.ProjBIdealRunB.lean ====
module

public import proofs.«01_k».proof.Proof.ProjBIdealBase

@[expose] public section

set_option maxRecDepth 16384
set_option maxHeartbeats 1600000

noncomputable section

namespace Cert.Kernel4Ideal.ProjB

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

/-- The body runs in this case from the windows' contents to its stores. -/
noncomputable def kernelRun0_B (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) :
    Σ' (L7 : List (View.Piece (Elt F) S1024x1024 .bf16)), Σ' (L8 : List (View.Piece (Elt F) S1024x128 .f32)), { LS0 : List (View.Piece (Elt F) S1024x2048 .bf16) //
      ∀ (xi8 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xi8 ∗ owns (c : Thread nD τ) arg12 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xi8 ∗ owns (c : Thread nD τ) arg12 fullShare xs0 ∗ tbPt0 c tbM0_0 xt0) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12) K } := by
  refine ⟨?_, [], [], fun xi8 E K => ?run⟩
  case run =>
    simp only [cc0_proj_eq_skeleton]; unfold cc0_proj_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hfs0
    sl_exec (disch := first | sl_exact hc0 | sl_exact hc1 | sl_exact hc2 | sl_exact hc3 | sl_exact hc4 | sl_exact hc5 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [HS0]
    · iexists _; isplitr; · ipureintro; exact harg12.read_unread _
      iexact HS0
    iexact HT0

end Cert.Kernel4Ideal.ProjB

end
-- ==== Proof.ProjBIdealRunC.lean ====
module

public import proofs.«01_k».proof.Proof.ProjBIdealBase

@[expose] public section

set_option maxRecDepth 16384
set_option maxHeartbeats 1600000

noncomputable section

namespace Cert.Kernel4Ideal.ProjB

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

/-- The body runs in this case from the windows' contents to its stores. -/
noncomputable def kernelRun0_C (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : cond0_3 c xt0 i) (hc4 : ¬cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) :
    Σ' (L7 : List (View.Piece (Elt F) S1024x1024 .bf16)), Σ' (L8 : List (View.Piece (Elt F) S1024x128 .f32)), { LS0 : List (View.Piece (Elt F) S1024x2048 .bf16) //
      ∀ (xi8 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xi8 ∗ owns (c : Thread nD τ) arg12 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xi8 ∗ owns (c : Thread nD τ) arg12 fullShare xs0 ∗ tbPt0 c tbM0_0 xt0) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12) K } := by
  refine ⟨?_, [], [], fun xi8 E K => ?run⟩
  case run =>
    simp only [cc0_proj_eq_skeleton]; unfold cc0_proj_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hfs0
    sl_exec (disch := first | sl_exact hc0 | sl_exact hc1 | sl_exact hc2 | sl_exact hc3 | sl_exact hc4 | sl_exact hc5 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [HS0]
    · iexists _; isplitr; · ipureintro; exact harg12.read_unread _
      iexact HS0
    iexact HT0

end Cert.Kernel4Ideal.ProjB

end
-- ==== Proof.ProjBIdealRunD.lean ====
module

public import proofs.«01_k».proof.Proof.ProjBIdealBase

@[expose] public section

set_option maxRecDepth 16384
set_option maxHeartbeats 1600000

noncomputable section

namespace Cert.Kernel4Ideal.ProjB

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

/-- The body runs in this case from the windows' contents to its stores. -/
noncomputable def kernelRun0_D (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i) (hc5 : cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) :
    Σ' (L7 : List (View.Piece (Elt F) S1024x1024 .bf16)), Σ' (L8 : List (View.Piece (Elt F) S1024x128 .f32)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ owns (c : Thread nD τ) arg12 fullShare xs0 ∗ tbPt0 c tbM0_0 xt0) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12) K } := by
  refine ⟨?_, ?_, [], fun E K => ?run⟩
  case run =>
    simp only [cc0_proj_eq_skeleton]; unfold cc0_proj_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfs0
    sl_exec (disch := first | sl_exact hc0 | sl_exact hc1 | sl_exact hc2 | sl_exact hc3 | sl_exact hc4 | sl_exact hc5 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [HS0]
    · iexists _; isplitr; · ipureintro; exact harg12.read_unread _
      iexact HS0
    iexact HT0

end Cert.Kernel4Ideal.ProjB

end
-- ==== Proof.ProjBIdealFrame.lean ====
module

public import proofs.«01_k».proof.Proof.ProjBIdealRunA
public import proofs.«01_k».proof.Proof.ProjBIdealRunB
public import proofs.«01_k».proof.Proof.ProjBIdealRunC
public import proofs.«01_k».proof.Proof.ProjBIdealRunD
public import Idealize.ShloMosaic.Lib.Claim

@[expose] public section

set_option maxRecDepth 16384
set_option maxHeartbeats 1600000

noncomputable section

namespace Cert.Kernel4Ideal.ProjB

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of this case fill the buffer. -/
theorem cover0_A_7 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) (y : S1024x1024.Idx) :
    ∃ pc ∈ (kernelRun0_A c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2).1, y ∈ pc.1.set :=
  View.cover_of_tiledL (kernelRun0_A c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2).1 S1024x128.size (by sl_kernel_rfl) y

/-- What this case leaves in the buffer. -/
def out0_A_7 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x1024 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2).1)

/-- What this case leaves in the buffer. -/
def out0_A_8 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x128 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2).2.1)

/-- The stores of this case fill the buffer. -/
theorem scover0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) (y : S1024x2048.Idx) :
    ∃ pc ∈ (kernelRun0_A c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2).2.2.1, y ∈ pc.1.set :=
  View.cover_of_tiledL (kernelRun0_A c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2).2.2.1 S1024x2048.size (by sl_kernel_rfl) y

/-- What this case leaves in the buffer. -/
def sout0_A_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x2048 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2).2.2.1)

/-- The stores of this case fill the buffer. -/
theorem cover0_B_7 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) (y : S1024x1024.Idx) :
    ∃ pc ∈ (kernelRun0_B c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).1, y ∈ pc.1.set :=
  View.cover_of_tiledL (kernelRun0_B c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).1 S1024x128.size (by sl_kernel_rfl) y

/-- What this case leaves in the buffer. -/
def out0_B_7 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x1024 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).1)

/-- What this case leaves in the buffer. -/
def out0_B_8 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x128 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).2.1)

/-- What this case leaves in the buffer. -/
def sout0_B_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : ¬cond0_1 c xt0 i) (hc2 : cond0_2 c xt0 i) (hc3 : ¬cond0_3 c xt0 i) (hc4 : cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x2048 .bf16 := xs0

/-- The stores of this case fill the buffer. -/
theorem cover0_C_7 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : cond0_3 c xt0 i) (hc4 : ¬cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) (y : S1024x1024.Idx) :
    ∃ pc ∈ (kernelRun0_C c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).1, y ∈ pc.1.set :=
  View.cover_of_tiledL (kernelRun0_C c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).1 S1024x512.size (by sl_kernel_rfl) y

/-- What this case leaves in the buffer. -/
def out0_C_7 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : cond0_3 c xt0 i) (hc4 : ¬cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x1024 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).1)

/-- What this case leaves in the buffer. -/
def out0_C_8 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : cond0_3 c xt0 i) (hc4 : ¬cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x128 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).2.1)

/-- What this case leaves in the buffer. -/
def sout0_C_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : cond0_3 c xt0 i) (hc4 : ¬cond0_4 c xt0 i) (hc5 : ¬cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x2048 .bf16 := xs0

/-- The stores of this case fill the buffer. -/
theorem cover0_D_7 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i) (hc5 : cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) (y : S1024x1024.Idx) :
    ∃ pc ∈ (kernelRun0_D c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).1, y ∈ pc.1.set :=
  View.cover_of_tiledBy (kernelRun0_D c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).1 ![1024, 128] (by sl_kernel_rfl) y

/-- What this case leaves in the buffer. -/
def out0_D_7 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i) (hc5 : cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x1024 .bf16 :=
  VO0_7.read (Elt F) (VO0_7.writes (Elt F) VO0_7.junk (kernelRun0_D c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).1)

/-- The stores of this case fill the buffer. -/
theorem cover0_D_8 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i) (hc5 : cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) (y : S1024x128.Idx) :
    ∃ pc ∈ (kernelRun0_D c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).2.1, y ∈ pc.1.set :=
  View.cover_of_tiledL (kernelRun0_D c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).2.1 S1024x128.size (by sl_kernel_rfl) y

/-- What this case leaves in the buffer. -/
def out0_D_8 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i) (hc5 : cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x128 .f32 :=
  VO0_8.read (Elt F) (VO0_8.writes (Elt F) VO0_8.junk (kernelRun0_D c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2).2.1)

/-- What this case leaves in the buffer. -/
def sout0_D_0 (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := F) c tbM0_0) (hc0 : ¬cond0_0 i) (hc1 : cond0_1 c xt0 i) (hc2 : ¬cond0_2 c xt0 i) (hc3 : ¬cond0_3 c xt0 i) (hc4 : cond0_4 c xt0 i) (hc5 : cond0_5 i)
    (x0 : Vec F S1024x2048 .f32) (x1 : Vec F S1x2048 .f32) (x2 : Vec F S1x2048x1024 .bf16) (x3 : Vec F S3x128x128 .bf16) (x4 : Vec F S1x1024 .f32) (x5 : Vec F S2048x128 .bf16) (x6 : Vec F S1x128 .f32) (xs0 : Vec F S1024x2048 .bf16) (k0_hw1 : k0_chk1 (tbM0_0.view.readAt (Elt F) (Rect.unit (s := S8) (k0_off1 i) S1.size (k0_off1_inb i)).toLoadRect xt0 (Shape.Idx.first (numel1_S1.symm ▸ Nat.one_pos)))) (k0_hw2 : k0_chk2 (tbM0_0.view.readAt (Elt F) (Rect.unit (s := S8) (k0_off3 i) S1.size (k0_off3_inb i)).toLoadRect xt0 (Shape.Idx.first (numel1_S1.symm ▸ Nat.one_pos)))) : Vec F S1024x2048 .bf16 := xs0

/-- The output blocks and the kept normalised rows after each point. -/
def outsAt0 (hO : Ok m) (hH : Hyps m hO) (c : Dev nD) : (n : ℕ) → n < (cfgM m hO).N → Vec F S1024x1024 .bf16 × Vec F S1024x128 .f32 × Vec F S1024x2048 .bf16
  | 0, hn => (out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) (tbl m 0) ((hcond0_0 ⟨0, hn⟩).mpr (Nat.zero_mod _)) (fun h => (fun h => by (try dsimp only at h); omega) ((hcond0_1 m c ⟨0, hn⟩).mp h)) ((hcond0_2 m c ⟨0, hn⟩).mpr (by (try dsimp only) <;> omega)) (fun h => (fun h => by (try dsimp only at h); omega) ((hcond0_3 m c ⟨0, hn⟩).mp h)) ((hcond0_4 m c ⟨0, hn⟩).mpr (by (try dsimp only) <;> omega)) (fun h => (fun h => by (try dsimp only at h); omega) ((hcond0_5 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (Hyps.c0 hH c ⟨0, hn⟩) (Hyps.c1 hH c ⟨0, hn⟩), out0_A_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) (tbl m 0) ((hcond0_0 ⟨0, hn⟩).mpr (Nat.zero_mod _)) (fun h => (fun h => by (try dsimp only at h); omega) ((hcond0_1 m c ⟨0, hn⟩).mp h)) ((hcond0_2 m c ⟨0, hn⟩).mpr (by (try dsimp only) <;> omega)) (fun h => (fun h => by (try dsimp only at h); omega) ((hcond0_3 m c ⟨0, hn⟩).mp h)) ((hcond0_4 m c ⟨0, hn⟩).mpr (by (try dsimp only) <;> omega)) (fun h => (fun h => by (try dsimp only at h); omega) ((hcond0_5 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (Hyps.c0 hH c ⟨0, hn⟩) (Hyps.c1 hH c ⟨0, hn⟩), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) (tbl m 0) ((hcond0_0 ⟨0, hn⟩).mpr (Nat.zero_mod _)) (fun h => (fun h => by (try dsimp only at h); omega) ((hcond0_1 m c ⟨0, hn⟩).mp h)) ((hcond0_2 m c ⟨0, hn⟩).mpr (by (try dsimp only) <;> omega)) (fun h => (fun h => by (try dsimp only at h); omega) ((hcond0_3 m c ⟨0, hn⟩).mp h)) ((hcond0_4 m c ⟨0, hn⟩).mpr (by (try dsimp only) <;> omega)) (fun h => (fun h => by (try dsimp only at h); omega) ((hcond0_5 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (Hyps.c0 hH c ⟨0, hn⟩) (Hyps.c1 hH c ⟨0, hn⟩))
  | n + 1, hn =>
    if h0 : (n + 1) % 4 = 0 then
      if h1 : 2 ≤ (n + 1) % 4 then
        False.elim (by have hN : n + 1 < 64 := lt_of_lt_of_eq hn (show (cfgM m hO).N = 64 from N_0); omega)
      else
        if h2 : (n + 1) % 4 ≤ 1 then
          if h3 : (n + 1) % 4 = 2 then
            False.elim (by have hN : n + 1 < 64 := lt_of_lt_of_eq hn (show (cfgM m hO).N = 64 from N_0); omega)
          else
            if h4 : (n + 1) % 4 ≠ 2 then
              if h5 : (n + 1) % 4 = 3 then
                False.elim (by have hN : n + 1 < 64 := lt_of_lt_of_eq hn (show (cfgM m hO).N = 64 from N_0); omega)
              else
                (out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) ((hcond0_0 ⟨n + 1, hn⟩).mpr h0) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (fun h => h5 ((hcond0_5 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (Hyps.c0 hH c ⟨n + 1, hn⟩) (Hyps.c1 hH c ⟨n + 1, hn⟩), out0_A_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) ((hcond0_0 ⟨n + 1, hn⟩).mpr h0) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (fun h => h5 ((hcond0_5 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (Hyps.c0 hH c ⟨n + 1, hn⟩) (Hyps.c1 hH c ⟨n + 1, hn⟩), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) ((hcond0_0 ⟨n + 1, hn⟩).mpr h0) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (fun h => h5 ((hcond0_5 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (Hyps.c0 hH c ⟨n + 1, hn⟩) (Hyps.c1 hH c ⟨n + 1, hn⟩))
            else
              False.elim (by have hN : n + 1 < 64 := lt_of_lt_of_eq hn (show (cfgM m hO).N = 64 from N_0); omega)
        else
          False.elim (by have hN : n + 1 < 64 := lt_of_lt_of_eq hn (show (cfgM m hO).N = 64 from N_0); omega)
    else
      if h1 : 2 ≤ (n + 1) % 4 then
        if h2 : (n + 1) % 4 ≤ 1 then
          False.elim (by have hN : n + 1 < 64 := lt_of_lt_of_eq hn (show (cfgM m hO).N = 64 from N_0); omega)
        else
          if h3 : (n + 1) % 4 = 2 then
            if h4 : (n + 1) % 4 ≠ 2 then
              False.elim (by have hN : n + 1 < 64 := lt_of_lt_of_eq hn (show (cfgM m hO).N = 64 from N_0); omega)
            else
              if h5 : (n + 1) % 4 = 3 then
                False.elim (by have hN : n + 1 < 64 := lt_of_lt_of_eq hn (show (cfgM m hO).N = 64 from N_0); omega)
              else
                (out0_C_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) ((hcond0_3 m c ⟨n + 1, hn⟩).mpr h3) (fun h => h4 ((hcond0_4 m c ⟨n + 1, hn⟩).mp h)) (fun h => h5 ((hcond0_5 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (outsAt0 hO hH c n (Nat.lt_of_succ_lt hn)).2.2 (Hyps.c0 hH c ⟨n + 1, hn⟩) (Hyps.c1 hH c ⟨n + 1, hn⟩), out0_C_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) ((hcond0_3 m c ⟨n + 1, hn⟩).mpr h3) (fun h => h4 ((hcond0_4 m c ⟨n + 1, hn⟩).mp h)) (fun h => h5 ((hcond0_5 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (outsAt0 hO hH c n (Nat.lt_of_succ_lt hn)).2.2 (Hyps.c0 hH c ⟨n + 1, hn⟩) (Hyps.c1 hH c ⟨n + 1, hn⟩), sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) ((hcond0_3 m c ⟨n + 1, hn⟩).mpr h3) (fun h => h4 ((hcond0_4 m c ⟨n + 1, hn⟩).mp h)) (fun h => h5 ((hcond0_5 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (outsAt0 hO hH c n (Nat.lt_of_succ_lt hn)).2.2 (Hyps.c0 hH c ⟨n + 1, hn⟩) (Hyps.c1 hH c ⟨n + 1, hn⟩))
          else
            if h4 : (n + 1) % 4 ≠ 2 then
              if h5 : (n + 1) % 4 = 3 then
                (out0_D_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) (fun h => h3 ((hcond0_3 m c ⟨n + 1, hn⟩).mp h)) ((hcond0_4 m c ⟨n + 1, hn⟩).mpr h4) ((hcond0_5 ⟨n + 1, hn⟩).mpr h5) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (outsAt0 hO hH c n (Nat.lt_of_succ_lt hn)).2.2 (Hyps.c0 hH c ⟨n + 1, hn⟩) (Hyps.c1 hH c ⟨n + 1, hn⟩), out0_D_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) (fun h => h3 ((hcond0_3 m c ⟨n + 1, hn⟩).mp h)) ((hcond0_4 m c ⟨n + 1, hn⟩).mpr h4) ((hcond0_5 ⟨n + 1, hn⟩).mpr h5) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (outsAt0 hO hH c n (Nat.lt_of_succ_lt hn)).2.2 (Hyps.c0 hH c ⟨n + 1, hn⟩) (Hyps.c1 hH c ⟨n + 1, hn⟩), sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) (fun h => h0 ((hcond0_0 ⟨n + 1, hn⟩).mp h)) ((hcond0_1 m c ⟨n + 1, hn⟩).mpr h1) (fun h => h2 ((hcond0_2 m c ⟨n + 1, hn⟩).mp h)) (fun h => h3 ((hcond0_3 m c ⟨n + 1, hn⟩).mp h)) ((hcond0_4 m c ⟨n + 1, hn⟩).mpr h4) ((hcond0_5 ⟨n + 1, hn⟩).mpr h5) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (outsAt0 hO hH c n (Nat.lt_of_succ_lt hn)).2.2 (Hyps.c0 hH c ⟨n + 1, hn⟩) (Hyps.c1 hH c ⟨n + 1, hn⟩))
              else
                False.elim (by have hN : n + 1 < 64 := lt_of_lt_of_eq hn (show (cfgM m hO).N = 64 from N_0); omega)
            else
              False.elim (by have hN : n + 1 < 64 := lt_of_lt_of_eq hn (show (cfgM m hO).N = 64 from N_0); omega)
      else
        if h2 : (n + 1) % 4 ≤ 1 then
          if h3 : (n + 1) % 4 = 2 then
            False.elim (by have hN : n + 1 < 64 := lt_of_lt_of_eq hn (show (cfgM m hO).N = 64 from N_0); omega)
          else
            if h4 : (n + 1) % 4 ≠ 2 then
              if h5 : (n + 1) % 4 = 3 then
                False.elim (by have hN : n + 1 < 64 := lt_of_lt_of_eq hn (show (cfgM m hO).N = 64 from N_0); omega)
              else
                (out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) (fun h => h0 ((hcond0_0 ⟨n + 1, hn⟩).mp h)) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (fun h => h5 ((hcond0_5 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (outsAt0 hO hH c n (Nat.lt_of_succ_lt hn)).2.2 (Hyps.c0 hH c ⟨n + 1, hn⟩) (Hyps.c1 hH c ⟨n + 1, hn⟩), out0_B_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) (fun h => h0 ((hcond0_0 ⟨n + 1, hn⟩).mp h)) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (fun h => h5 ((hcond0_5 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (outsAt0 hO hH c n (Nat.lt_of_succ_lt hn)).2.2 (Hyps.c0 hH c ⟨n + 1, hn⟩) (Hyps.c1 hH c ⟨n + 1, hn⟩), sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (tbl m 0) (fun h => h0 ((hcond0_0 ⟨n + 1, hn⟩).mp h)) (fun h => h1 ((hcond0_1 m c ⟨n + 1, hn⟩).mp h)) ((hcond0_2 m c ⟨n + 1, hn⟩).mpr h2) (fun h => h3 ((hcond0_3 m c ⟨n + 1, hn⟩).mp h)) ((hcond0_4 m c ⟨n + 1, hn⟩).mpr h4) (fun h => h5 ((hcond0_5 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (outsAt0 hO hH c n (Nat.lt_of_succ_lt hn)).2.2 (Hyps.c0 hH c ⟨n + 1, hn⟩) (Hyps.c1 hH c ⟨n + 1, hn⟩))
            else
              False.elim (by have hN : n + 1 < 64 := lt_of_lt_of_eq hn (show (cfgM m hO).N = 64 from N_0); omega)
        else
          False.elim (by have hN : n + 1 < 64 := lt_of_lt_of_eq hn (show (cfgM m hO).N = 64 from N_0); omega)

/-- That value in this case. -/
theorem outsAt0_A (hO : Ok m) (hH : Hyps m hO) (c : Dev nD) (t : Fin (cfgM m hO).N) (h0 : t.val % 4 = 0) (h1 : ¬2 ≤ t.val % 4) (h2 : t.val % 4 ≤ 1) (h3 : ¬t.val % 4 = 2) (h4 : t.val % 4 ≠ 2) (h5 : ¬t.val % 4 = 3) :
    outsAt0 m hO hH c t.val t.isLt = (out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) ((hcond0_0 t).mpr h0) (fun h => h1 ((hcond0_1 m c t).mp h)) ((hcond0_2 m c t).mpr h2) (fun h => h3 ((hcond0_3 m c t).mp h)) ((hcond0_4 m c t).mpr h4) (fun h => h5 ((hcond0_5 t).mp h)) (iblk m hO c 0 t) (iblk m hO c 1 t) (iblk m hO c 2 t) (iblk m hO c 3 t) (iblk m hO c 4 t) (iblk m hO c 5 t) (iblk m hO c 6 t) (Hyps.c0 hH c t) (Hyps.c1 hH c t), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) ((hcond0_0 t).mpr h0) (fun h => h1 ((hcond0_1 m c t).mp h)) ((hcond0_2 m c t).mpr h2) (fun h => h3 ((hcond0_3 m c t).mp h)) ((hcond0_4 m c t).mpr h4) (fun h => h5 ((hcond0_5 t).mp h)) (iblk m hO c 0 t) (iblk m hO c 1 t) (iblk m hO c 2 t) (iblk m hO c 3 t) (iblk m hO c 4 t) (iblk m hO c 5 t) (iblk m hO c 6 t) (Hyps.c0 hH c t) (Hyps.c1 hH c t), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) ((hcond0_0 t).mpr h0) (fun h => h1 ((hcond0_1 m c t).mp h)) ((hcond0_2 m c t).mpr h2) (fun h => h3 ((hcond0_3 m c t).mp h)) ((hcond0_4 m c t).mpr h4) (fun h => h5 ((hcond0_5 t).mp h)) (iblk m hO c 0 t) (iblk m hO c 1 t) (iblk m hO c 2 t) (iblk m hO c 3 t) (iblk m hO c 4 t) (iblk m hO c 5 t) (iblk m hO c 6 t) (Hyps.c0 hH c t) (Hyps.c1 hH c t)) := by
  obtain ⟨n, hn⟩ := t
  cases n with
  | zero => exact rfl
  | succ n => exact (dif_pos h0).trans ((dif_neg h1).trans ((dif_pos h2).trans ((dif_neg h3).trans ((dif_pos h4).trans ((dif_neg h5).trans rfl)))))

/-- That value in this case. -/
theorem outsAt0_B (hO : Ok m) (hH : Hyps m hO) (c : Dev nD) (t : Fin (cfgM m hO).N) (h0 : ¬t.val % 4 = 0) (h1 : ¬2 ≤ t.val % 4) (h2 : t.val % 4 ≤ 1) (h3 : ¬t.val % 4 = 2) (h4 : t.val % 4 ≠ 2) (h5 : ¬t.val % 4 = 3) :
    outsAt0 m hO hH c t.val t.isLt = (out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) (fun h => h0 ((hcond0_0 t).mp h)) (fun h => h1 ((hcond0_1 m c t).mp h)) ((hcond0_2 m c t).mpr h2) (fun h => h3 ((hcond0_3 m c t).mp h)) ((hcond0_4 m c t).mpr h4) (fun h => h5 ((hcond0_5 t).mp h)) (iblk m hO c 0 t) (iblk m hO c 1 t) (iblk m hO c 2 t) (iblk m hO c 3 t) (iblk m hO c 4 t) (iblk m hO c 5 t) (iblk m hO c 6 t) (outsAt0 m hO hH c (t.val - 1) (Nat.lt_of_le_of_lt (Nat.sub_le _ _) t.isLt)).2.2 (Hyps.c0 hH c t) (Hyps.c1 hH c t), out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) (fun h => h0 ((hcond0_0 t).mp h)) (fun h => h1 ((hcond0_1 m c t).mp h)) ((hcond0_2 m c t).mpr h2) (fun h => h3 ((hcond0_3 m c t).mp h)) ((hcond0_4 m c t).mpr h4) (fun h => h5 ((hcond0_5 t).mp h)) (iblk m hO c 0 t) (iblk m hO c 1 t) (iblk m hO c 2 t) (iblk m hO c 3 t) (iblk m hO c 4 t) (iblk m hO c 5 t) (iblk m hO c 6 t) (outsAt0 m hO hH c (t.val - 1) (Nat.lt_of_le_of_lt (Nat.sub_le _ _) t.isLt)).2.2 (Hyps.c0 hH c t) (Hyps.c1 hH c t), sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) (fun h => h0 ((hcond0_0 t).mp h)) (fun h => h1 ((hcond0_1 m c t).mp h)) ((hcond0_2 m c t).mpr h2) (fun h => h3 ((hcond0_3 m c t).mp h)) ((hcond0_4 m c t).mpr h4) (fun h => h5 ((hcond0_5 t).mp h)) (iblk m hO c 0 t) (iblk m hO c 1 t) (iblk m hO c 2 t) (iblk m hO c 3 t) (iblk m hO c 4 t) (iblk m hO c 5 t) (iblk m hO c 6 t) (outsAt0 m hO hH c (t.val - 1) (Nat.lt_of_le_of_lt (Nat.sub_le _ _) t.isLt)).2.2 (Hyps.c0 hH c t) (Hyps.c1 hH c t)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans ((dif_neg h5).trans rfl)))))

/-- That value in this case. -/
theorem outsAt0_C (hO : Ok m) (hH : Hyps m hO) (c : Dev nD) (t : Fin (cfgM m hO).N) (h0 : ¬t.val % 4 = 0) (h1 : 2 ≤ t.val % 4) (h2 : ¬t.val % 4 ≤ 1) (h3 : t.val % 4 = 2) (h4 : ¬t.val % 4 ≠ 2) (h5 : ¬t.val % 4 = 3) :
    outsAt0 m hO hH c t.val t.isLt = (out0_C_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) (fun h => h0 ((hcond0_0 t).mp h)) ((hcond0_1 m c t).mpr h1) (fun h => h2 ((hcond0_2 m c t).mp h)) ((hcond0_3 m c t).mpr h3) (fun h => h4 ((hcond0_4 m c t).mp h)) (fun h => h5 ((hcond0_5 t).mp h)) (iblk m hO c 0 t) (iblk m hO c 1 t) (iblk m hO c 2 t) (iblk m hO c 3 t) (iblk m hO c 4 t) (iblk m hO c 5 t) (iblk m hO c 6 t) (outsAt0 m hO hH c (t.val - 1) (Nat.lt_of_le_of_lt (Nat.sub_le _ _) t.isLt)).2.2 (Hyps.c0 hH c t) (Hyps.c1 hH c t), out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) (fun h => h0 ((hcond0_0 t).mp h)) ((hcond0_1 m c t).mpr h1) (fun h => h2 ((hcond0_2 m c t).mp h)) ((hcond0_3 m c t).mpr h3) (fun h => h4 ((hcond0_4 m c t).mp h)) (fun h => h5 ((hcond0_5 t).mp h)) (iblk m hO c 0 t) (iblk m hO c 1 t) (iblk m hO c 2 t) (iblk m hO c 3 t) (iblk m hO c 4 t) (iblk m hO c 5 t) (iblk m hO c 6 t) (outsAt0 m hO hH c (t.val - 1) (Nat.lt_of_le_of_lt (Nat.sub_le _ _) t.isLt)).2.2 (Hyps.c0 hH c t) (Hyps.c1 hH c t), sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) (fun h => h0 ((hcond0_0 t).mp h)) ((hcond0_1 m c t).mpr h1) (fun h => h2 ((hcond0_2 m c t).mp h)) ((hcond0_3 m c t).mpr h3) (fun h => h4 ((hcond0_4 m c t).mp h)) (fun h => h5 ((hcond0_5 t).mp h)) (iblk m hO c 0 t) (iblk m hO c 1 t) (iblk m hO c 2 t) (iblk m hO c 3 t) (iblk m hO c 4 t) (iblk m hO c 5 t) (iblk m hO c 6 t) (outsAt0 m hO hH c (t.val - 1) (Nat.lt_of_le_of_lt (Nat.sub_le _ _) t.isLt)).2.2 (Hyps.c0 hH c t) (Hyps.c1 hH c t)) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans ((dif_neg h5).trans rfl)))))

/-- That value in this case. -/
theorem outsAt0_D (hO : Ok m) (hH : Hyps m hO) (c : Dev nD) (t : Fin (cfgM m hO).N) (h0 : ¬t.val % 4 = 0) (h1 : 2 ≤ t.val % 4) (h2 : ¬t.val % 4 ≤ 1) (h3 : ¬t.val % 4 = 2) (h4 : t.val % 4 ≠ 2) (h5 : t.val % 4 = 3) :
    outsAt0 m hO hH c t.val t.isLt = (out0_D_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) (fun h => h0 ((hcond0_0 t).mp h)) ((hcond0_1 m c t).mpr h1) (fun h => h2 ((hcond0_2 m c t).mp h)) (fun h => h3 ((hcond0_3 m c t).mp h)) ((hcond0_4 m c t).mpr h4) ((hcond0_5 t).mpr h5) (iblk m hO c 0 t) (iblk m hO c 1 t) (iblk m hO c 2 t) (iblk m hO c 3 t) (iblk m hO c 4 t) (iblk m hO c 5 t) (iblk m hO c 6 t) (outsAt0 m hO hH c (t.val - 1) (Nat.lt_of_le_of_lt (Nat.sub_le _ _) t.isLt)).2.2 (Hyps.c0 hH c t) (Hyps.c1 hH c t), out0_D_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) (fun h => h0 ((hcond0_0 t).mp h)) ((hcond0_1 m c t).mpr h1) (fun h => h2 ((hcond0_2 m c t).mp h)) (fun h => h3 ((hcond0_3 m c t).mp h)) ((hcond0_4 m c t).mpr h4) ((hcond0_5 t).mpr h5) (iblk m hO c 0 t) (iblk m hO c 1 t) (iblk m hO c 2 t) (iblk m hO c 3 t) (iblk m hO c 4 t) (iblk m hO c 5 t) (iblk m hO c 6 t) (outsAt0 m hO hH c (t.val - 1) (Nat.lt_of_le_of_lt (Nat.sub_le _ _) t.isLt)).2.2 (Hyps.c0 hH c t) (Hyps.c1 hH c t), sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (tbl m 0) (fun h => h0 ((hcond0_0 t).mp h)) ((hcond0_1 m c t).mpr h1) (fun h => h2 ((hcond0_2 m c t).mp h)) (fun h => h3 ((hcond0_3 m c t).mp h)) ((hcond0_4 m c t).mpr h4) ((hcond0_5 t).mpr h5) (iblk m hO c 0 t) (iblk m hO c 1 t) (iblk m hO c 2 t) (iblk m hO c 3 t) (iblk m hO c 4 t) (iblk m hO c 5 t) (iblk m hO c 6 t) (outsAt0 m hO hH c (t.val - 1) (Nat.lt_of_le_of_lt (Nat.sub_le _ _) t.isLt)).2.2 (Hyps.c0 hH c t) (Hyps.c1 hH c t)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_pos h4).trans ((dif_pos h5).trans rfl)))))

def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).2.2)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).2.2)) ∗ (∃ r, prngReg c r)) ∗ Pipeline.ΦT pre0 (tbl m) c) := rfl

theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).2.2)) ∗ (∃ r, prngReg c r)) ∗ Pipeline.ΦT pre0 (tbl m) c) := by
  cases n with
  | zero => exact absurd rfl hz
  | succ n => rfl

/-- The data of the pipeline: what each window holds after each point. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO hH c t.val t.isLt).1
    | ⟨8, _⟩ => (outsAt0 m hO hH c t.val t.isLt).2.1
  Φ t := PhiS m hO hH c t.val (Nat.le_of_lt_succ t.isLt)
  q _ := fullShare
  owed _ := 0

/-- The arrays are those the host lines left. -/
theorem A_eq (hO : Ok m) (hH : Hyps m hO) (c : Dev nD) (w : Fin (cfgM m hO).W) : (dats m hO hH 0 c).A w = V m c (Pipeline.arrRef spec0 w) := by
  dsimp only [dats]

theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves in this window. -/
theorem after0_0 (hO : Ok m) (hH : Hyps m hO) (c : Dev nD) (t : Fin (cfgM m hO).N) : (dats m hO hH 0 c).after 0 t = iblk m hO c 0 t := by dsimp only [dats]; try rfl
/-- What the body leaves in this window. -/
theorem after0_1 (hO : Ok m) (hH : Hyps m hO) (c : Dev nD) (t : Fin (cfgM m hO).N) : (dats m hO hH 0 c).after 1 t = iblk m hO c 1 t := by dsimp only [dats]; try rfl
/-- What the body leaves in this window. -/
theorem after0_2 (hO : Ok m) (hH : Hyps m hO) (c : Dev nD) (t : Fin (cfgM m hO).N) : (dats m hO hH 0 c).after 2 t = iblk m hO c 2 t := by dsimp only [dats]; try rfl
/-- What the body leaves in this window. -/
theorem after0_3 (hO : Ok m) (hH : Hyps m hO) (c : Dev nD) (t : Fin (cfgM m hO).N) : (dats m hO hH 0 c).after 3 t = iblk m hO c 3 t := by dsimp only [dats]; try rfl
/-- What the body leaves in this window. -/
theorem after0_4 (hO : Ok m) (hH : Hyps m hO) (c : Dev nD) (t : Fin (cfgM m hO).N) : (dats m hO hH 0 c).after 4 t = iblk m hO c 4 t := by dsimp only [dats]; try rfl
/-- What the body leaves in this window. -/
theorem after0_5 (hO : Ok m) (hH : Hyps m hO) (c : Dev nD) (t : Fin (cfgM m hO).N) : (dats m hO hH 0 c).after 5 t = iblk m hO c 5 t := by dsimp only [dats]; try rfl
/-- What the body leaves in this window. -/
theorem after0_6 (hO : Ok m) (hH : Hyps m hO) (c : Dev nD) (t : Fin (cfgM m hO).N) : (dats m hO hH 0 c).after 6 t = iblk m hO c 6 t := by dsimp only [dats]; try rfl
/-- What the body leaves in this window. -/
theorem after0_7 (hO : Ok m) (hH : Hyps m hO) (c : Dev nD) (t : Fin (cfgM m hO).N) : (dats m hO hH 0 c).after 7 t = (outsAt0 m hO hH c t.val t.isLt).1 := by dsimp only [dats]; try rfl
/-- What the body leaves in this window. -/
theorem after0_8 (hO : Ok m) (hH : Hyps m hO) (c : Dev nD) (t : Fin (cfgM m hO).N) : (dats m hO hH 0 c).after 8 t = (outsAt0 m hO hH c t.val t.isLt).2.1 := by dsimp only [dats]; try rfl

/-- An input window holds its block when the body starts. -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
/-- An input window holds its block when the body starts. -/
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
/-- An input window holds its block when the body starts. -/
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
/-- An input window holds its block when the body starts. -/
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
/-- An input window holds its block when the body starts. -/
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
/-- An input window holds its block when the body starts. -/
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
/-- An input window holds its block when the body starts. -/
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d

/-- What the body starts from at point `t`. -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d)))

/-- What the body ends with at point `t`. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t
    ∗ (dats m hO hH 0 c).leavesExact 6 t
    ∗ (dats m hO hH 0 c).leavesExact 7 t
    ∗ (dats m hO hH 0 c).leavesExact 8 t)

set_option maxHeartbeats 12800000 in

/-- The body meets its obligation at every point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 64 := lt_of_lt_of_eq t.isLt (show (cfgM m hO).N = 64 from N_0)
  by_cases h0 : t.val % 4 = 0
  · by_cases h1 : 2 ≤ t.val % 4
    · exfalso; omega
    · by_cases h2 : t.val % 4 ≤ 1
      · by_cases h3 : t.val % 4 = 2
        · exfalso; omega
        · by_cases h4 : t.val % 4 ≠ 2
          · by_cases h5 : t.val % 4 = 3
            · exfalso; omega
            · rw [show (dats m hO hH 0 c).leavesExact 0 t = owns (c : Thread nD τ) (ms0_0 m hO t) fullShare ((dats m hO hH 0 c).after 0 t) from by
      unfold Dat.leavesExact; rw [liveAt0_0 m hO t]; try rfl, after0_0]
              rw [show (dats m hO hH 0 c).leavesExact 1 t = owns (c : Thread nD τ) (ms0_1 m hO t) fullShare ((dats m hO hH 0 c).after 1 t) from by
      unfold Dat.leavesExact; rw [liveAt0_1 m hO t]; try rfl, after0_1]
              rw [show (dats m hO hH 0 c).leavesExact 2 t = owns (c : Thread nD τ) (ms0_2 m hO t) fullShare ((dats m hO hH 0 c).after 2 t) from by
      unfold Dat.leavesExact; rw [liveAt0_2 m hO t]; try rfl, after0_2]
              rw [show (dats m hO hH 0 c).leavesExact 3 t = owns (c : Thread nD τ) (ms0_3 m hO t) fullShare ((dats m hO hH 0 c).after 3 t) from by
      unfold Dat.leavesExact; rw [liveAt0_3 m hO t]; try rfl, after0_3]
              rw [show (dats m hO hH 0 c).leavesExact 4 t = owns (c : Thread nD τ) (ms0_4 m hO t) fullShare ((dats m hO hH 0 c).after 4 t) from by
      unfold Dat.leavesExact; rw [liveAt0_4 m hO t]; try rfl, after0_4]
              rw [show (dats m hO hH 0 c).leavesExact 5 t = owns (c : Thread nD τ) (ms0_5 m hO t) fullShare ((dats m hO hH 0 c).after 5 t) from by
      unfold Dat.leavesExact; rw [liveAt0_5 m hO t]; try rfl, after0_5]
              rw [show (dats m hO hH 0 c).leavesExact 6 t = owns (c : Thread nD τ) (ms0_6 m hO t) fullShare ((dats m hO hH 0 c).after 6 t) from by
      unfold Dat.leavesExact; rw [liveAt0_6 m hO t]; try rfl, after0_6]
              rw [show (dats m hO hH 0 c).leavesExact 7 t = owns (c : Thread nD τ) (ms0_7 m hO t) fullShare ((dats m hO hH 0 c).after 7 t) from by
      unfold Dat.leavesExact; rw [liveAt0_7 m hO t]; try rfl, after0_7]
              rw [Dat.leavesExact_idle (dats m hO hH 0 c) 8 t (idleAt0_8 m hO t h5) (noFlush0_8 m hO t h5)]
              by_cases hz : t.val = 0
              · rw [PhiS_castSucc m hO hH c t, PhiS_zero m hO hH c _ _ hz, PhiT0_eq, PhiA0_eq]
                rw [outsAt0_A m hO hH c t h0 h1 h2 h3 h4 h5]
                unfold out0_A_7 sout0_A_0; (try dsimp only)
                iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
                iapply ((kernelRun0_A c (grid0.coords t) _ _ _ _ _ _ _ _ _ _ _ _ _ _ _ _ _ _ _ _ (tbl m 0) ((hcond0_0 t).mpr h0) (fun h => h1 ((hcond0_1 m c t).mp h)) ((hcond0_2 m c t).mpr h2) (fun h => h3 ((hcond0_3 m c t).mp h)) ((hcond0_4 m c t).mpr h4) (fun h => h5 ((hcond0_5 t).mp h)) (iblk m hO c 0 t) (iblk m hO c 1 t) (iblk m hO c 2 t) (iblk m hO c 3 t) (iblk m hO c 4 t) (iblk m hO c 5 t) (iblk m hO c 6 t) (Hyps.c0 hH c t) (Hyps.c1 hH c t)).2.2.2 _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [H8]; · iexact H8
                isplitl [HS0]; · iexact HS0
                isplitl [HT0]; · iexact HT0
                iintro ⟨H0, H1, H2, H3, H4, H5, H6, ⟨%e7, H7⟩, H8, ⟨%es0, HS0⟩, HT0⟩
                isplitl [HS0 Hg HT0]
                · isplitl [HS0 Hg]
                  · isplitl [HS0]
                    · unfold owns; iexists _; isplitr
                      swap; · iexact HS0
                      ipureintro; exact View.read_writes_of_cover _ _ _ _ _ (scover0_A_0 c _ _ _ _ _ _ _ _ _ _ _ _ _ _ _ _ _ _ _ _ _ _ _ _ _ _ _ _ _ _ _ _ _ _ _ _ _)
                    iexact Hg
                  iexact HT0
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]
                · unfold owns; iexists _; isplitr
                  swap; · iexact H7
                  ipureintro; exact View.read_writes_of_cover _ _ _ _ _ (cover0_A_7 c _ _ _ _ _ _ _ _ _ _ _ _ _ _ _ _ _ _ _ _ _ _ _ _ _ _ _ _ _ _ _ _ _ _ _ _ _)
                iexists _; iexact H8
              · rw [PhiS_castSucc m hO hH c t, PhiS_pos m hO hH c _ _ hz, PhiT0_eq]
                rw [outsAt0_A m hO hH c t h0 h1 h2 h3 h4 h5]
                unfold out0_A_7 sout0_A_0; (try dsimp only)
                iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
                iapply ((kernelRun0_A c (grid0.coords t) _ _ _ _ _ _ _ _ _ _ _ _ _ _ _ _ _ _ _ _ (tbl m 0) ((hcond0_0 t).mpr h0) (fun h => h1 ((hcond0_1 m c t).mp h)) ((hcond0_2 m c t).mpr h2) (fun h => h3 ((hcond0_3 m c t).mp h)) ((hcond0_4 m c t).mpr h4) (fun h => h5 ((hcond0_5 t).mp h)) (iblk m hO c 0 t) (iblk m hO c 1 t) (iblk m hO c 2 t) (iblk m hO c 3 t) (iblk m hO c 4 t) (iblk m hO c 5 t) (iblk m hO c 6 t) (Hyps.c0 hH c t) (Hyps.c1 hH c t)).2.2.2 _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [H8]; · iexact H8
                isplitl [HS0]; · iexists _; iexact HS0
                isplitl [HT0]; · iexact HT0
                iintro ⟨H0, H1, H2, H3, H4, H5, H6, ⟨%e7, H7⟩, H8, ⟨%es0, HS0⟩, HT0⟩
                isplitl [HS0 Hg HT0]
                · isplitl [HS0 Hg]
                  · isplitl [HS0]
                    · unfold owns; iexists _; isplitr
                      swap; · iexact HS0
                      ipureintro; exact View.read_writes_of_cover _ _ _ _ _ (scover0_A_0 c _ _ _ _ _ _ _ _ _ _ _ _ _ _ _ _ _ _ _ _ _ _ _ _ _ _ _ _ _ _ _ _ _ _ _ _ _)
                    iexact Hg
                  iexact HT0
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]
                · unfold owns; iexists _; isplitr
                  swap; · iexact H7
                  ipureintro; exact View.read_writes_of_cover _ _ _ _ _ (cover0_A_7 c _ _ _ _ _ _ _ _ _ _ _ _ _ _ _ _ _ _ _ _ _ _ _ _ _ _ _ _ _ _ _ _ _ _ _ _ _)
                iexists _; iexact H8
          · exfalso; omega
      · exfalso; omega
  · by_cases h1 : 2 ≤ t.val % 4
    · by_cases h2 : t.val % 4 ≤ 1
      · exfalso; omega
      · by_cases h3 : t.val % 4 = 2
        · by_cases h4 : t.val % 4 ≠ 2
          · exfalso; omega
          · by_cases h5 : t.val % 4 = 3
            · exfalso; omega
            · rw [show (dats m hO hH 0 c).leavesExact 0 t = owns (c : Thread nD τ) (ms0_0 m hO t) fullShare ((dats m hO hH 0 c).after 0 t) from by
      unfold Dat.leavesExact; rw [liveAt0_0 m hO t]; try rfl, after0_0]
              rw [show (dats m hO hH 0 c).leavesExact 1 t = owns (c : Thread nD τ) (ms0_1 m hO t) fullShare ((dats m hO hH 0 c).after 1 t) from by
      unfold Dat.leavesExact; rw [liveAt0_1 m hO t]; try rfl, after0_1]
              rw [show (dats m hO hH 0 c).leavesExact 2 t = owns (c : Thread nD τ) (ms0_2 m hO t) fullShare ((dats m hO hH 0 c).after 2 t) from by
      unfold Dat.leavesExact; rw [liveAt0_2 m hO t]; try rfl, after0_2]
              rw [show (dats m hO hH 0 c).leavesExact 3 t = owns (c : Thread nD τ) (ms0_3 m hO t) fullShare ((dats m hO hH 0 c).after 3 t) from by
      unfold Dat.leavesExact; rw [liveAt0_3 m hO t]; try rfl, after0_3]
              rw [show (dats m hO hH 0 c).leavesExact 4 t = owns (c : Thread nD τ) (ms0_4 m hO t) fullShare ((dats m hO hH 0 c).after 4 t) from by
      unfold Dat.leavesExact; rw [liveAt0_4 m hO t]; try rfl, after0_4]
              rw [show (dats m hO hH 0 c).leavesExact 5 t = owns (c : Thread nD τ) (ms0_5 m hO t) fullShare ((dats m hO hH 0 c).after 5 t) from by
      unfold Dat.leavesExact; rw [liveAt0_5 m hO t]; try rfl, after0_5]
              rw [show (dats m hO hH 0 c).leavesExact 6 t = owns (c : Thread nD τ) (ms0_6 m hO t) fullShare ((dats m hO hH 0 c).after 6 t) from by
      unfold Dat.leavesExact; rw [liveAt0_6 m hO t]; try rfl, after0_6]
              rw [show (dats m hO hH 0 c).leavesExact 7 t = owns (c : Thread nD τ) (ms0_7 m hO t) fullShare ((dats m hO hH 0 c).after 7 t) from by
      unfold Dat.leavesExact; rw [liveAt0_7 m hO t]; try rfl, after0_7]
              rw [Dat.leavesExact_idle (dats m hO hH 0 c) 8 t (idleAt0_8 m hO t h5) (noFlush0_8 m hO t h5)]
              by_cases hz : t.val = 0
              · exfalso; have hN : t.val < 64 := lt_of_lt_of_eq t.isLt (show (cfgM m hO).N = 64 from N_0); omega
              · rw [PhiS_castSucc m hO hH c t, PhiS_pos m hO hH c _ _ hz, PhiT0_eq]
                rw [outsAt0_C m hO hH c t h0 h1 h2 h3 h4 h5]
                unfold out0_C_7 sout0_C_0; (try dsimp only)
                iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
                iapply ((kernelRun0_C c (grid0.coords t) _ _ _ _ _ _ _ _ _ _ _ _ _ _ _ _ _ _ _ _ (tbl m 0) (fun h => h0 ((hcond0_0 t).mp h)) ((hcond0_1 m c t).mpr h1) (fun h => h2 ((hcond0_2 m c t).mp h)) ((hcond0_3 m c t).mpr h3) (fun h => h4 ((hcond0_4 m c t).mp h)) (fun h => h5 ((hcond0_5 t).mp h)) (iblk m hO c 0 t) (iblk m hO c 1 t) (iblk m hO c 2 t) (iblk m hO c 3 t) (iblk m hO c 4 t) (iblk m hO c 5 t) (iblk m hO c 6 t) _ (Hyps.c0 hH c t) (Hyps.c1 hH c t)).2.2.2 _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [H8]; · iexact H8
                isplitl [HS0]; · iexact HS0
                isplitl [HT0]; · iexact HT0
                iintro ⟨H0, H1, H2, H3, H4, H5, H6, ⟨%e7, H7⟩, H8, HS0, HT0⟩
                isplitl [HS0 Hg HT0]
                · isplitl [HS0 Hg]
                  · isplitl [HS0]
                    · iexact HS0
                    iexact Hg
                  iexact HT0
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]
                · unfold owns; iexists _; isplitr
                  swap; · iexact H7
                  ipureintro; exact View.read_writes_of_cover _ _ _ _ _ (cover0_C_7 c _ _ _ _ _ _ _ _ _ _ _ _ _ _ _ _ _ _ _ _ _ _ _ _ _ _ _ _ _ _ _ _ _ _ _ _ _ _)
                iexists _; iexact H8
        · by_cases h4 : t.val % 4 ≠ 2
          · by_cases h5 : t.val % 4 = 3
            · rw [show (dats m hO hH 0 c).leavesExact 0 t = owns (c : Thread nD τ) (ms0_0 m hO t) fullShare ((dats m hO hH 0 c).after 0 t) from by
      unfold Dat.leavesExact; rw [liveAt0_0 m hO t]; try rfl, after0_0]
              rw [show (dats m hO hH 0 c).leavesExact 1 t = owns (c : Thread nD τ) (ms0_1 m hO t) fullShare ((dats m hO hH 0 c).after 1 t) from by
      unfold Dat.leavesExact; rw [liveAt0_1 m hO t]; try rfl, after0_1]
              rw [show (dats m hO hH 0 c).leavesExact 2 t = owns (c : Thread nD τ) (ms0_2 m hO t) fullShare ((dats m hO hH 0 c).after 2 t) from by
      unfold Dat.leavesExact; rw [liveAt0_2 m hO t]; try rfl, after0_2]
              rw [show (dats m hO hH 0 c).leavesExact 3 t = owns (c : Thread nD τ) (ms0_3 m hO t) fullShare ((dats m hO hH 0 c).after 3 t) from by
      unfold Dat.leavesExact; rw [liveAt0_3 m hO t]; try rfl, after0_3]
              rw [show (dats m hO hH 0 c).leavesExact 4 t = owns (c : Thread nD τ) (ms0_4 m hO t) fullShare ((dats m hO hH 0 c).after 4 t) from by
      unfold Dat.leavesExact; rw [liveAt0_4 m hO t]; try rfl, after0_4]
              rw [show (dats m hO hH 0 c).leavesExact 5 t = owns (c : Thread nD τ) (ms0_5 m hO t) fullShare ((dats m hO hH 0 c).after 5 t) from by
      unfold Dat.leavesExact; rw [liveAt0_5 m hO t]; try rfl, after0_5]
              rw [show (dats m hO hH 0 c).leavesExact 6 t = owns (c : Thread nD τ) (ms0_6 m hO t) fullShare ((dats m hO hH 0 c).after 6 t) from by
      unfold Dat.leavesExact; rw [liveAt0_6 m hO t]; try rfl, after0_6]
              rw [show (dats m hO hH 0 c).leavesExact 7 t = owns (c : Thread nD τ) (ms0_7 m hO t) fullShare ((dats m hO hH 0 c).after 7 t) from by
      unfold Dat.leavesExact; rw [liveAt0_7 m hO t]; try rfl, after0_7]
              rw [show (dats m hO hH 0 c).leavesExact 8 t = owns (c : Thread nD τ) (ms0_8 m hO t) fullShare ((dats m hO hH 0 c).after 8 t) from by
      unfold Dat.leavesExact; rw [liveAt0_8 m hO t h5]; try rfl, after0_8]
              by_cases hz : t.val = 0
              · exfalso; have hN : t.val < 64 := lt_of_lt_of_eq t.isLt (show (cfgM m hO).N = 64 from N_0); omega
              · rw [PhiS_castSucc m hO hH c t, PhiS_pos m hO hH c _ _ hz, PhiT0_eq]
                rw [outsAt0_D m hO hH c t h0 h1 h2 h3 h4 h5]
                unfold out0_D_7 out0_D_8 sout0_D_0; (try dsimp only)
                iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
                iapply ((kernelRun0_D c (grid0.coords t) _ _ _ _ _ _ _ _ _ _ _ _ _ _ _ _ _ _ _ _ (tbl m 0) (fun h => h0 ((hcond0_0 t).mp h)) ((hcond0_1 m c t).mpr h1) (fun h => h2 ((hcond0_2 m c t).mp h)) (fun h => h3 ((hcond0_3 m c t).mp h)) ((hcond0_4 m c t).mpr h4) ((hcond0_5 t).mpr h5) (iblk m hO c 0 t) (iblk m hO c 1 t) (iblk m hO c 2 t) (iblk m hO c 3 t) (iblk m hO c 4 t) (iblk m hO c 5 t) (iblk m hO c 6 t) _ (Hyps.c0 hH c t) (Hyps.c1 hH c t)).2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [H8]; · iexists _; iexact H8
                isplitl [HS0]; · iexact HS0
                isplitl [HT0]; · iexact HT0
                iintro ⟨H0, H1, H2, H3, H4, H5, H6, ⟨%e7, H7⟩, ⟨%e8, H8⟩, HS0, HT0⟩
                isplitl [HS0 Hg HT0]
                · isplitl [HS0 Hg]
                  · isplitl [HS0]
                    · iexact HS0
                    iexact Hg
                  iexact HT0
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]
                · unfold owns; iexists _; isplitr
                  swap; · iexact H7
                  ipureintro; exact View.read_writes_of_cover _ _ _ _ _ (cover0_D_7 c _ _ _ _ _ _ _ _ _ _ _ _ _ _ _ _ _ _ _ _ _ _ _ _ _ _ _ _ _ _ _ _ _ _ _ _ _ _)
                unfold owns; iexists _; isplitr
                swap; · iexact H8
                ipureintro; exact View.read_writes_of_cover _ _ _ _ _ (cover0_D_8 c _ _ _ _ _ _ _ _ _ _ _ _ _ _ _ _ _ _ _ _ _ _ _ _ _ _ _ _ _ _ _ _ _ _ _ _ _ _)
            · exfalso; omega
          · exfalso; omega
    · by_cases h2 : t.val % 4 ≤ 1
      · by_cases h3 : t.val % 4 = 2
        · exfalso; omega
        · by_cases h4 : t.val % 4 ≠ 2
          · by_cases h5 : t.val % 4 = 3
            · exfalso; omega
            · rw [show (dats m hO hH 0 c).leavesExact 0 t = owns (c : Thread nD τ) (ms0_0 m hO t) fullShare ((dats m hO hH 0 c).after 0 t) from by
      unfold Dat.leavesExact; rw [liveAt0_0 m hO t]; try rfl, after0_0]
              rw [show (dats m hO hH 0 c).leavesExact 1 t = owns (c : Thread nD τ) (ms0_1 m hO t) fullShare ((dats m hO hH 0 c).after 1 t) from by
      unfold Dat.leavesExact; rw [liveAt0_1 m hO t]; try rfl, after0_1]
              rw [show (dats m hO hH 0 c).leavesExact 2 t = owns (c : Thread nD τ) (ms0_2 m hO t) fullShare ((dats m hO hH 0 c).after 2 t) from by
      unfold Dat.leavesExact; rw [liveAt0_2 m hO t]; try rfl, after0_2]
              rw [show (dats m hO hH 0 c).leavesExact 3 t = owns (c : Thread nD τ) (ms0_3 m hO t) fullShare ((dats m hO hH 0 c).after 3 t) from by
      unfold Dat.leavesExact; rw [liveAt0_3 m hO t]; try rfl, after0_3]
              rw [show (dats m hO hH 0 c).leavesExact 4 t = owns (c : Thread nD τ) (ms0_4 m hO t) fullShare ((dats m hO hH 0 c).after 4 t) from by
      unfold Dat.leavesExact; rw [liveAt0_4 m hO t]; try rfl, after0_4]
              rw [show (dats m hO hH 0 c).leavesExact 5 t = owns (c : Thread nD τ) (ms0_5 m hO t) fullShare ((dats m hO hH 0 c).after 5 t) from by
      unfold Dat.leavesExact; rw [liveAt0_5 m hO t]; try rfl, after0_5]
              rw [show (dats m hO hH 0 c).leavesExact 6 t = owns (c : Thread nD τ) (ms0_6 m hO t) fullShare ((dats m hO hH 0 c).after 6 t) from by
      unfold Dat.leavesExact; rw [liveAt0_6 m hO t]; try rfl, after0_6]
              rw [show (dats m hO hH 0 c).leavesExact 7 t = owns (c : Thread nD τ) (ms0_7 m hO t) fullShare ((dats m hO hH 0 c).after 7 t) from by
      unfold Dat.leavesExact; rw [liveAt0_7 m hO t]; try rfl, after0_7]
              rw [Dat.leavesExact_idle (dats m hO hH 0 c) 8 t (idleAt0_8 m hO t h5) (noFlush0_8 m hO t h5)]
              by_cases hz : t.val = 0
              · exfalso; have hN : t.val < 64 := lt_of_lt_of_eq t.isLt (show (cfgM m hO).N = 64 from N_0); omega
              · rw [PhiS_castSucc m hO hH c t, PhiS_pos m hO hH c _ _ hz, PhiT0_eq]
                rw [outsAt0_B m hO hH c t h0 h1 h2 h3 h4 h5]
                unfold out0_B_7 sout0_B_0; (try dsimp only)
                iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
                iapply ((kernelRun0_B c (grid0.coords t) _ _ _ _ _ _ _ _ _ _ _ _ _ _ _ _ _ _ _ _ (tbl m 0) (fun h => h0 ((hcond0_0 t).mp h)) (fun h => h1 ((hcond0_1 m c t).mp h)) ((hcond0_2 m c t).mpr h2) (fun h => h3 ((hcond0_3 m c t).mp h)) ((hcond0_4 m c t).mpr h4) (fun h => h5 ((hcond0_5 t).mp h)) (iblk m hO c 0 t) (iblk m hO c 1 t) (iblk m hO c 2 t) (iblk m hO c 3 t) (iblk m hO c 4 t) (iblk m hO c 5 t) (iblk m hO c 6 t) _ (Hyps.c0 hH c t) (Hyps.c1 hH c t)).2.2.2 _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [H8]; · iexact H8
                isplitl [HS0]; · iexact HS0
                isplitl [HT0]; · iexact HT0
                iintro ⟨H0, H1, H2, H3, H4, H5, H6, ⟨%e7, H7⟩, H8, HS0, HT0⟩
                isplitl [HS0 Hg HT0]
                · isplitl [HS0 Hg]
                  · isplitl [HS0]
                    · iexact HS0
                    iexact Hg
                  iexact HT0
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]
                · unfold owns; iexists _; isplitr
                  swap; · iexact H7
                  ipureintro; exact View.read_writes_of_cover _ _ _ _ _ (cover0_B_7 c _ _ _ _ _ _ _ _ _ _ _ _ _ _ _ _ _ _ _ _ _ _ _ _ _ _ _ _ _ _ _ _ _ _ _ _ _ _)
                iexists _; iexact H8
          · exfalso; omega
      · exfalso; omega

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨HS0, Hg⟩, -⟩
  isplitl [HS0]
  · iexists _; iexact HS0
  iexact Hg

theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 64 := N_0; omega)

set_option backward.isDefEq.respectTransparency.types false in

theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := hin m hO hH) (hout := hout m hO hH)

/-- The program ends with every array as the pipeline leaves it. -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- The program leaves its arguments as they were. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hH) (A_eq m hO hH) (run_main m ρ hO hH)

/-- The program ends, leaves its arguments as they were and every counter at zero. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel4Ideal.ProjB

end
-- ==== Proof.ProjBSame.lean ====
/-
  The second input projection's program and its idealization are one program at the floats, so the second's frame is the first's.
-/
module

public import proofs.«01_k».proof.Defs
public import proofs.«01_k».proof.Proof.Gen.Kernel4
public import proofs.«01_k».proof.Proof.ProjBIdealFrame

@[expose] public section

set_option maxRecDepth 16384
set_option maxHeartbeats 16000000

noncomputable section

namespace Cert.Kernel4.ProjSame

open Idealize.ShloMosaic Idealize.SL.Sem

/-- The bodies agree, -/
theorem body_eq : @Cert.Kernel4.cc0_proj Bits _ _ = @Cert.Kernel4Ideal.cc0_proj Bits _ _ := by exact rfl

/-- so do the tables of them, -/
theorem defs₀_eq : Cert.Kernel4.defs₀ (F := Bits) = Cert.Kernel4Ideal.defs₀ (F := Bits) := by
  refine congrArg Defs.onTc (funext fun l => funext fun a => ?_)
  match l, a with
  | ⟨0, _⟩, (t, s) => exact rfl
  | ⟨_ + 1, h⟩, _ => exact absurd h (Nat.not_lt.2 (Nat.le_add_left _ _))

/-- and the tables of the programs' labels. -/
theorem defs_eq : Cert.Kernel4.defs (F := Bits) = Cert.Kernel4Ideal.defs (F := Bits) := by
  unfold Cert.Kernel4.defs Cert.Kernel4Ideal.defs
  exact congrArg (Pipeline.defs Cert.Kernel4.pcfgs) defs₀_eq

/-- The programs agree. -/
theorem main_eq : Cert.Kernel4.main (F := Bits) = Cert.Kernel4Ideal.main (F := Bits) := by exact rfl

/-- The program's frame. -/
theorem frame : quiescent_Kernel4 (hKernel4 := Cert.Kernel4.Gen.facts) := fun m ρ _ =>
  (congrArg₂ (fun d p => θ_run d (onTc (τ := Cert.Kernel4.τ) p) ⟨m, fun _ => 0, ρ⟩ _) defs_eq main_eq).mpr
    (Cert.Kernel4Ideal.ProjB.frame (F := Bits) m ρ trivial (Cert.Kernel4Ideal.ProjB.hyps m trivial))

end Cert.Kernel4.ProjSame

end
-- ==== Proof.ProjBSteps.lean ====
/-
  The steps of the second layer kind's input projection's body at an index: the normalised rows, the product, and a group of 128 columns
  normalised through a group matrix.
-/
module

public import proofs.«01_k».proof.Proof.Gen.Kernel4Ideal.Skeleton
public import Idealize.ShloMosaic.Lib.Pointwise

@[expose] public section

set_option maxRecDepth 16384

noncomputable section

open Idealize.ShloMosaic Idealize.ShloMosaic.TcCoe Idealize.SL.Sem

namespace Cert.Kernel4Ideal.ProjB

open Cert.Kernel4Ideal Cert.Kernel4Ideal.Gen

theorem pay3_apply (y : FVec Ideal S1024x1024 .f32) (gm : Vec Ideal S1x128x128 .bf16) (g : Vec Ideal S1x128 .f32) (r : Fin 1024) (e : Fin 128) :
    k0_pay3 (F := Ideal) y gm g (ix2 r e)
      = y (ix2 r ⟨0 + e.val, by omega⟩) * Ideal.rsqrt ((∑ l : Fin 128, y (ix2 r ⟨0 + l.val, by omega⟩) * y (ix2 r ⟨0 + l.val, by omega⟩) * gm (ix3 0 l e)) + Ideal.ofBits FTy.f32 897988541#32) * g (ix2 0 e) := by
  pointwise [k0_pay3, k0_pay2]

theorem pay4_apply (y : FVec Ideal S1024x1024 .f32) (gm : Vec Ideal S1x128x128 .bf16) (g : Vec Ideal S1x128 .f32) (r : Fin 1024) (e : Fin 128) :
    k0_pay4 (F := Ideal) y gm g (ix2 r e)
      = y (ix2 r ⟨128 + e.val, by omega⟩) * Ideal.rsqrt ((∑ l : Fin 128, y (ix2 r ⟨128 + l.val, by omega⟩) * y (ix2 r ⟨128 + l.val, by omega⟩) * gm (ix3 0 l e)) + Ideal.ofBits FTy.f32 897988541#32) * g (ix2 0 e) := by
  pointwise [k0_pay4, k0_pay2]

theorem pay5_apply (y : FVec Ideal S1024x1024 .f32) (gm : Vec Ideal S1x128x128 .bf16) (r : Fin 1024) (e : Fin 128) :
    k0_pay5 (F := Ideal) y gm (ix2 r e)
      = y (ix2 r ⟨256 + e.val, by omega⟩) * Ideal.rsqrt ((∑ l : Fin 128, y (ix2 r ⟨256 + l.val, by omega⟩) * y (ix2 r ⟨256 + l.val, by omega⟩) * gm (ix3 0 l e)) + Ideal.ofBits FTy.f32 897988541#32) := by
  pointwise [k0_pay5, k0_pay2]

theorem pay7_apply (y : FVec Ideal S1024x1024 .f32) (gm : Vec Ideal S1x128x128 .bf16) (g : Vec Ideal S1x128 .f32) (r : Fin 1024) (e : Fin 128) :
    k0_pay7 (F := Ideal) y gm g (ix2 r e)
      = y (ix2 r ⟨512 + e.val, by omega⟩) * Ideal.rsqrt ((∑ l : Fin 128, y (ix2 r ⟨512 + l.val, by omega⟩) * y (ix2 r ⟨512 + l.val, by omega⟩) * gm (ix3 0 l e)) + Ideal.ofBits FTy.f32 897988541#32) * g (ix2 0 e) := by
  pointwise [k0_pay7, k0_pay6]

theorem pay8_apply (y : FVec Ideal S1024x1024 .f32) (gm : Vec Ideal S1x128x128 .bf16) (g : Vec Ideal S1x128 .f32) (r : Fin 1024) (e : Fin 128) :
    k0_pay8 (F := Ideal) y gm g (ix2 r e)
      = y (ix2 r ⟨640 + e.val, by omega⟩) * Ideal.rsqrt ((∑ l : Fin 128, y (ix2 r ⟨640 + l.val, by omega⟩) * y (ix2 r ⟨640 + l.val, by omega⟩) * gm (ix3 0 l e)) + Ideal.ofBits FTy.f32 897988541#32) * g (ix2 0 e) := by
  pointwise [k0_pay8, k0_pay6]

theorem pay9_apply (y : FVec Ideal S1024x1024 .f32) (gm : Vec Ideal S1x128x128 .bf16) (r : Fin 1024) (e : Fin 128) :
    k0_pay9 (F := Ideal) y gm (ix2 r e)
      = y (ix2 r ⟨768 + e.val, by omega⟩) * Ideal.rsqrt ((∑ l : Fin 128, y (ix2 r ⟨768 + l.val, by omega⟩) * y (ix2 r ⟨768 + l.val, by omega⟩) * gm (ix3 0 l e)) + Ideal.ofBits FTy.f32 897988541#32) := by
  pointwise [k0_pay9, k0_pay6]

theorem pay14_apply (h : Vec Ideal S1024x2048 .bf16) (w : Vec Ideal S1x2048x1024 .bf16) (gm : Vec Ideal S1x128x128 .bf16) (g : Vec Ideal S1x128 .f32) (r : Fin 1024) (e : Fin 128) :
    k0_pay14 (F := Ideal) h w (k0_pay2 gm) g (ix2 r e)
      = k0_pay11 (F := Ideal) h w (ix2 r ⟨384 + e.val, by omega⟩) * Ideal.rsqrt ((∑ l : Fin 128, k0_pay11 (F := Ideal) h w (ix2 r ⟨384 + l.val, by omega⟩) * k0_pay11 (F := Ideal) h w (ix2 r ⟨384 + l.val, by omega⟩) * gm (ix3 0 l e)) + Ideal.ofBits FTy.f32 897988541#32) * g (ix2 0 e) := by
  pointwise [k0_pay14, k0_pay2]

theorem pay17_apply (h : Vec Ideal S1024x2048 .bf16) (w : Vec Ideal S1x2048x1024 .bf16) (gm : Vec Ideal S1x128x128 .bf16) (g : Vec Ideal S1x128 .f32) (r : Fin 1024) (e : Fin 128) :
    k0_pay17 (F := Ideal) h w (k0_pay6 gm) g (ix2 r e)
      = k0_pay11 (F := Ideal) h w (ix2 r ⟨896 + e.val, by omega⟩) * Ideal.rsqrt ((∑ l : Fin 128, k0_pay11 (F := Ideal) h w (ix2 r ⟨896 + l.val, by omega⟩) * k0_pay11 (F := Ideal) h w (ix2 r ⟨896 + l.val, by omega⟩) * gm (ix3 0 l e)) + Ideal.ofBits FTy.f32 897988541#32) * g (ix2 0 e) := by
  pointwise [k0_pay17, k0_pay6]

theorem pay13_apply (v : FVec Ideal S1024x128 .f32) (g : Vec Ideal S1x128 .f32) (r : Fin 1024) (e : Fin 128) :
    k0_pay13 (F := Ideal) v g (ix2 r e) = v (ix2 r e) * g (ix2 0 e) := by
  pointwise [k0_pay13]

theorem pay16_apply (v : FVec Ideal S1024x128 .f32) (g : Vec Ideal S1x128 .f32) (r : Fin 1024) (e : Fin 128) :
    k0_pay16 (F := Ideal) v g (ix2 r e) = v (ix2 r e) * g (ix2 0 e) := by
  pointwise [k0_pay16]

theorem pay12_apply (h : Vec Ideal S1024x2048 .bf16) (w : Vec Ideal S1x2048x1024 .bf16) (g : Vec Ideal S1x512 .f32) (r : Fin 1024) (u : Fin 512) :
    k0_pay12 (F := Ideal) h w g (ix2 r u) = k0_pay11 (F := Ideal) h w (ix2 r ⟨0 + u.val, by omega⟩) * g (ix2 0 u) := by
  pointwise [k0_pay12]

theorem pay15_apply (h : Vec Ideal S1024x2048 .bf16) (w : Vec Ideal S1x2048x1024 .bf16) (g : Vec Ideal S1x512 .f32) (r : Fin 1024) (u : Fin 512) :
    k0_pay15 (F := Ideal) h w g (ix2 r u) = k0_pay11 (F := Ideal) h w (ix2 r ⟨512 + u.val, by omega⟩) * g (ix2 0 u) := by
  pointwise [k0_pay15]

/-- The product at an index. -/
theorem pay11_apply (h : Vec Ideal S1024x2048 .bf16) (w : Vec Ideal S1x2048x1024 .bf16) (r : Fin 1024) (n : Fin 1024) :
    k0_pay11 (F := Ideal) h w (ix2 r n) = ∑ k : Fin 2048, h (ix2 r k) * w (ix3 0 k n) := by
  pointwise [k0_pay11]

/-- The normalised rows at an index. -/
theorem pay10_apply (x : Vec Ideal S1024x2048 .f32) (g : Vec Ideal S1x2048 .f32) (r : Fin 1024) (k : Fin 2048) :
    k0_pay10 (F := Ideal) x g (ix2 r k) = x (ix2 r k)
      * Ideal.rsqrt (Ideal.div (∑ l : Fin 2048, x (ix2 r l) * x (ix2 r l)) (Ideal.ofBits FTy.f32 1157627904#32) + Ideal.ofBits FTy.f32 897988541#32)
      * g (ix2 0 k) := by
  pointwise [k0_pay10]

/-- The side product at an index: the kept rows times the narrow weights, times their gain. -/
theorem pay1_apply (h : Vec Ideal S1024x2048 .bf16) (w : Vec Ideal S2048x128 .bf16) (g : Vec Ideal S1x128 .f32) (r : Fin 1024) (e : Fin 128) :
    k0_pay1 (F := Ideal) h w g (ix2 r e) = (∑ k : Fin 2048, h (ix2 r k) * w (ix2 k e)) * g (ix2 0 e) := by
  pointwise [k0_pay1]

end Cert.Kernel4Ideal.ProjB

end
-- ==== Proof.ProjBTile.lean ====
/-
  What the second layer kind's input projection leaves in each case: the normalised rows, the block of the product with
  its columns normalised in groups or multiplied by the gain, and the side block.
-/
module

public import proofs.«01_k».proof.Proof.ProjATile
public import proofs.«01_k».proof.Proof.ProjBSteps
public import proofs.«01_k».proof.Proof.ProjBIdealFrame

@[expose] public section

set_option maxRecDepth 16384

noncomputable section

open Idealize.ShloMosaic Idealize.ShloMosaic.TcCoe Idealize.SL.Sem Idealize.ShloMosaic.Tactic

namespace Cert.Kernel4Ideal.ProjB

open Cert.Kernel4Ideal Cert.Kernel4Ideal.Gen
open Cert.Kernel2Ideal.ProjA (eps normAt plainAt block zero2 zero3 group_at gain_at gain_half norm_piece plain_piece)

/-- The product of the kept rows and the weights' block. -/
def prodAt (h : Vec Ideal S1024x2048 .bf16) (w : Vec Ideal S1x2048x1024 .bf16) (r n : Fin 1024) : EReal := k0_pay11 (F := Ideal) h w (ix2 r n)

theorem sout_A (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := Ideal) c tbM0_0) (hc0 : cond0_0 i) (hc1 : ¬cond0_1 c xt0 i) (hc2 : cond0_2 c xt0 i) (hc3 : ¬cond0_3 c xt0 i) (hc4 : cond0_4 c xt0 i) (hc5 : ¬cond0_5 i)
    (x0 : Vec Ideal S1024x2048 .f32) (x1 : Vec Ideal S1x2048 .f32) (x2 : Vec Ideal S1x2048x1024 .bf16) (x3 : Vec Ideal S3x128x128 .bf16) (x4 : Vec Ideal S1x1024 .f32) (x5 : Vec Ideal S2048x128 .bf16) (x6 : Vec Ideal S1x128 .f32) (k0_hw1 : k0_chk1 (tbM0_0.view.readAt (Elt Ideal) (Rect.unit (s := S8) (k0_off1 i) S1.size (k0_off1_inb i)).toLoadRect xt0 (Shape.Idx.first (numel1_S1.symm ▸ Nat.one_pos)))) (k0_hw2 : k0_chk2 (tbM0_0.view.readAt (Elt Ideal) (Rect.unit (s := S8) (k0_off3 i) S1.size (k0_off3_inb i)).toLoadRect xt0 (Shape.Idx.first (numel1_S1.symm ▸ Nat.one_pos)))) :
    sout0_A_0 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2 = k0_pay10 x0 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2)]
  unfold kernelRun0_A
  dsimp only
  sl_unfold_words
  rw [View.canon_unit_zero zero2]
  simp only [View.readAt_eq_ld, harg3.read_unread, harg4.read_unread, harg5.read_unread, harg6.read_unread, harg7.read_unread, harg8.read_unread, harg9.read_unread, harg12.read_unread,
    View.readCov_unit_zero (S := S1024x2048) _ zero2, View.ld_unit_zero (S := S1024x2048) zero2, View.ld_unit_zero (S := S1x2048) zero2, View.ld_unit_zero (S := S1x2048x1024) zero3, View.ld_unit_zero (S := S2048x128) zero2, View.ld_unit_zero (S := S1x128) zero2, shapeCast_self]

/-- The block this case leaves. -/
theorem out_A (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := Ideal) c tbM0_0) (hc0 : cond0_0 i) (hc1 : ¬cond0_1 c xt0 i) (hc2 : cond0_2 c xt0 i) (hc3 : ¬cond0_3 c xt0 i) (hc4 : cond0_4 c xt0 i) (hc5 : ¬cond0_5 i)
    (x0 : Vec Ideal S1024x2048 .f32) (x1 : Vec Ideal S1x2048 .f32) (x2 : Vec Ideal S1x2048x1024 .bf16) (x3 : Vec Ideal S3x128x128 .bf16) (x4 : Vec Ideal S1x1024 .f32) (x5 : Vec Ideal S2048x128 .bf16) (x6 : Vec Ideal S1x128 .f32) (k0_hw1 : k0_chk1 (tbM0_0.view.readAt (Elt Ideal) (Rect.unit (s := S8) (k0_off1 i) S1.size (k0_off1_inb i)).toLoadRect xt0 (Shape.Idx.first (numel1_S1.symm ▸ Nat.one_pos)))) (k0_hw2 : k0_chk2 (tbM0_0.view.readAt (Elt Ideal) (Rect.unit (s := S8) (k0_off3 i) S1.size (k0_off3_inb i)).toLoadRect xt0 (Shape.Idx.first (numel1_S1.symm ▸ Nat.one_pos)))) (κ : Fin 3) (k1 : k0_off2 (word0 (F := Ideal) c xt0 i) = ![κ.val, 0, 0]) (k2 : k0_off4 (word1 (F := Ideal) c xt0 i) = ![κ.val, 0, 0]) :
    out0_A_7 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2 = block (normAt (prodAt (k0_pay10 x0 x1) x2) x3 κ x4) := by
  unfold out0_A_7
  have hcov := cover0_A_7 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 k0_hw1 k0_hw2
  rw [View.read_writes_eq_canon _ _ _ hcov]
  funext z
  refine View.canon_apply_of_pieces (block (normAt (prodAt (k0_pay10 x0 x1) x2) x3 κ x4)) _ ?_ z (hcov z)
  clear hcov
  unfold kernelRun0_A
  dsimp only
  sl_unfold_words
  simp only [View.readAt_eq_ld, harg3.read_unread, harg4.read_unread, harg5.read_unread, harg6.read_unread, harg7.read_unread, harg8.read_unread, harg9.read_unread, harg12.read_unread,
    View.readCov_unit_zero (S := S1024x2048) _ zero2, View.ld_unit_zero (S := S1024x2048) zero2, View.ld_unit_zero (S := S1x2048) zero2, View.ld_unit_zero (S := S1x2048x1024) zero3, View.ld_unit_zero (S := S2048x128) zero2, View.ld_unit_zero (S := S1x128) zero2, shapeCast_self]
  simp only [List.forall_mem_cons, List.not_mem_nil, false_imp_iff, implies_true, and_true]
  refine ⟨?_, ?_, ?_, ?_, ?_, ?_, ?_, ?_⟩
  · exact norm_piece 896 (by norm_num) (by norm_num) _ (prodAt (k0_pay10 x0 x1) x2) x3 κ x4 _ (fun r n _ _ => rfl) _ _ _
      (fun l e => group_at _ _ κ k2 x3 l e) (fun e => gain_at 896 _ x4 e _ rfl) (fun r e => pay17_apply _ _ _ _ r e)
  · exact norm_piece 768 (by norm_num) (by norm_num) _ (prodAt (k0_pay10 x0 x1) x2) x3 κ x4 _ (fun r n _ _ => rfl) _ _ _
      (fun l e => group_at _ _ κ k2 x3 l e) (fun e => gain_at 768 _ x4 e _ rfl) (fun r e => (pay16_apply _ _ r e).trans (congrArg (· * _) (pay9_apply _ _ r e)))
  · exact norm_piece 640 (by norm_num) (by norm_num) _ (prodAt (k0_pay10 x0 x1) x2) x3 κ x4 _ (fun r n _ _ => rfl) _ _ _
      (fun l e => group_at _ _ κ k2 x3 l e) (fun e => gain_at 640 _ x4 e _ rfl) (fun r e => pay8_apply _ _ _ r e)
  · exact norm_piece 512 (by norm_num) (by norm_num) _ (prodAt (k0_pay10 x0 x1) x2) x3 κ x4 _ (fun r n _ _ => rfl) _ _ _
      (fun l e => group_at _ _ κ k2 x3 l e) (fun e => gain_at 512 _ x4 e _ rfl) (fun r e => pay7_apply _ _ _ r e)
  · exact norm_piece 384 (by norm_num) (by norm_num) _ (prodAt (k0_pay10 x0 x1) x2) x3 κ x4 _ (fun r n _ _ => rfl) _ _ _
      (fun l e => group_at _ _ κ k1 x3 l e) (fun e => gain_at 384 _ x4 e _ rfl) (fun r e => pay14_apply _ _ _ _ r e)
  · exact norm_piece 256 (by norm_num) (by norm_num) _ (prodAt (k0_pay10 x0 x1) x2) x3 κ x4 _ (fun r n _ _ => rfl) _ _ _
      (fun l e => group_at _ _ κ k1 x3 l e) (fun e => gain_at 256 _ x4 e _ rfl) (fun r e => (pay13_apply _ _ r e).trans (congrArg (· * _) (pay5_apply _ _ r e)))
  · exact norm_piece 128 (by norm_num) (by norm_num) _ (prodAt (k0_pay10 x0 x1) x2) x3 κ x4 _ (fun r n _ _ => rfl) _ _ _
      (fun l e => group_at _ _ κ k1 x3 l e) (fun e => gain_at 128 _ x4 e _ rfl) (fun r e => pay4_apply _ _ _ r e)
  · exact norm_piece 0 (by norm_num) (by norm_num) _ (prodAt (k0_pay10 x0 x1) x2) x3 κ x4 _ (fun r n _ _ => rfl) _ _ _
      (fun l e => group_at _ _ κ k1 x3 l e) (fun e => gain_at 0 _ x4 e _ rfl) (fun r e => pay3_apply _ _ _ r e)

/-- The block this case leaves. -/
theorem out_B (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := Ideal) c tbM0_0) (hc0 : ¬cond0_0 i) (hc1 : ¬cond0_1 c xt0 i) (hc2 : cond0_2 c xt0 i) (hc3 : ¬cond0_3 c xt0 i) (hc4 : cond0_4 c xt0 i) (hc5 : ¬cond0_5 i)
    (x0 : Vec Ideal S1024x2048 .f32) (x1 : Vec Ideal S1x2048 .f32) (x2 : Vec Ideal S1x2048x1024 .bf16) (x3 : Vec Ideal S3x128x128 .bf16) (x4 : Vec Ideal S1x1024 .f32) (x5 : Vec Ideal S2048x128 .bf16) (x6 : Vec Ideal S1x128 .f32) (xs0 : Vec Ideal S1024x2048 .bf16) (k0_hw1 : k0_chk1 (tbM0_0.view.readAt (Elt Ideal) (Rect.unit (s := S8) (k0_off1 i) S1.size (k0_off1_inb i)).toLoadRect xt0 (Shape.Idx.first (numel1_S1.symm ▸ Nat.one_pos)))) (k0_hw2 : k0_chk2 (tbM0_0.view.readAt (Elt Ideal) (Rect.unit (s := S8) (k0_off3 i) S1.size (k0_off3_inb i)).toLoadRect xt0 (Shape.Idx.first (numel1_S1.symm ▸ Nat.one_pos)))) (κ : Fin 3) (k1 : k0_off2 (word0 (F := Ideal) c xt0 i) = ![κ.val, 0, 0]) (k2 : k0_off4 (word1 (F := Ideal) c xt0 i) = ![κ.val, 0, 0]) :
    out0_B_7 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2 = block (normAt (prodAt xs0 x2) x3 κ x4) := by
  unfold out0_B_7
  have hcov := cover0_B_7 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2
  rw [View.read_writes_eq_canon _ _ _ hcov]
  funext z
  refine View.canon_apply_of_pieces (block (normAt (prodAt xs0 x2) x3 κ x4)) _ ?_ z (hcov z)
  clear hcov
  unfold kernelRun0_B
  dsimp only
  sl_unfold_words
  simp only [View.readAt_eq_ld, harg3.read_unread, harg4.read_unread, harg5.read_unread, harg6.read_unread, harg7.read_unread, harg8.read_unread, harg9.read_unread, harg12.read_unread,
    View.readCov_unit_zero (S := S1024x2048) _ zero2, View.ld_unit_zero (S := S1024x2048) zero2, View.ld_unit_zero (S := S1x2048) zero2, View.ld_unit_zero (S := S1x2048x1024) zero3, View.ld_unit_zero (S := S2048x128) zero2, View.ld_unit_zero (S := S1x128) zero2, shapeCast_self]
  simp only [List.forall_mem_cons, List.not_mem_nil, false_imp_iff, implies_true, and_true]
  refine ⟨?_, ?_, ?_, ?_, ?_, ?_, ?_, ?_⟩
  · exact norm_piece 896 (by norm_num) (by norm_num) _ (prodAt xs0 x2) x3 κ x4 _ (fun r n _ _ => rfl) _ _ _
      (fun l e => group_at _ _ κ k2 x3 l e) (fun e => gain_at 896 _ x4 e _ rfl) (fun r e => pay17_apply _ _ _ _ r e)
  · exact norm_piece 768 (by norm_num) (by norm_num) _ (prodAt xs0 x2) x3 κ x4 _ (fun r n _ _ => rfl) _ _ _
      (fun l e => group_at _ _ κ k2 x3 l e) (fun e => gain_at 768 _ x4 e _ rfl) (fun r e => (pay16_apply _ _ r e).trans (congrArg (· * _) (pay9_apply _ _ r e)))
  · exact norm_piece 640 (by norm_num) (by norm_num) _ (prodAt xs0 x2) x3 κ x4 _ (fun r n _ _ => rfl) _ _ _
      (fun l e => group_at _ _ κ k2 x3 l e) (fun e => gain_at 640 _ x4 e _ rfl) (fun r e => pay8_apply _ _ _ r e)
  · exact norm_piece 512 (by norm_num) (by norm_num) _ (prodAt xs0 x2) x3 κ x4 _ (fun r n _ _ => rfl) _ _ _
      (fun l e => group_at _ _ κ k2 x3 l e) (fun e => gain_at 512 _ x4 e _ rfl) (fun r e => pay7_apply _ _ _ r e)
  · exact norm_piece 384 (by norm_num) (by norm_num) _ (prodAt xs0 x2) x3 κ x4 _ (fun r n _ _ => rfl) _ _ _
      (fun l e => group_at _ _ κ k1 x3 l e) (fun e => gain_at 384 _ x4 e _ rfl) (fun r e => pay14_apply _ _ _ _ r e)
  · exact norm_piece 256 (by norm_num) (by norm_num) _ (prodAt xs0 x2) x3 κ x4 _ (fun r n _ _ => rfl) _ _ _
      (fun l e => group_at _ _ κ k1 x3 l e) (fun e => gain_at 256 _ x4 e _ rfl) (fun r e => (pay13_apply _ _ r e).trans (congrArg (· * _) (pay5_apply _ _ r e)))
  · exact norm_piece 128 (by norm_num) (by norm_num) _ (prodAt xs0 x2) x3 κ x4 _ (fun r n _ _ => rfl) _ _ _
      (fun l e => group_at _ _ κ k1 x3 l e) (fun e => gain_at 128 _ x4 e _ rfl) (fun r e => pay4_apply _ _ _ r e)
  · exact norm_piece 0 (by norm_num) (by norm_num) _ (prodAt xs0 x2) x3 κ x4 _ (fun r n _ _ => rfl) _ _ _
      (fun l e => group_at _ _ κ k1 x3 l e) (fun e => gain_at 0 _ x4 e _ rfl) (fun r e => pay3_apply _ _ _ r e)

/-- The block this case leaves. -/
theorem out_C (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := Ideal) c tbM0_0) (hc0 : ¬cond0_0 i) (hc1 : cond0_1 c xt0 i) (hc2 : ¬cond0_2 c xt0 i) (hc3 : cond0_3 c xt0 i) (hc4 : ¬cond0_4 c xt0 i) (hc5 : ¬cond0_5 i)
    (x0 : Vec Ideal S1024x2048 .f32) (x1 : Vec Ideal S1x2048 .f32) (x2 : Vec Ideal S1x2048x1024 .bf16) (x3 : Vec Ideal S3x128x128 .bf16) (x4 : Vec Ideal S1x1024 .f32) (x5 : Vec Ideal S2048x128 .bf16) (x6 : Vec Ideal S1x128 .f32) (xs0 : Vec Ideal S1024x2048 .bf16) (k0_hw1 : k0_chk1 (tbM0_0.view.readAt (Elt Ideal) (Rect.unit (s := S8) (k0_off1 i) S1.size (k0_off1_inb i)).toLoadRect xt0 (Shape.Idx.first (numel1_S1.symm ▸ Nat.one_pos)))) (k0_hw2 : k0_chk2 (tbM0_0.view.readAt (Elt Ideal) (Rect.unit (s := S8) (k0_off3 i) S1.size (k0_off3_inb i)).toLoadRect xt0 (Shape.Idx.first (numel1_S1.symm ▸ Nat.one_pos))))  :
    out0_C_7 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2 = block (plainAt (prodAt xs0 x2) x4) := by
  unfold out0_C_7
  have hcov := cover0_C_7 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2
  rw [View.read_writes_eq_canon _ _ _ hcov]
  funext z
  refine View.canon_apply_of_pieces (block (plainAt (prodAt xs0 x2) x4)) _ ?_ z (hcov z)
  clear hcov
  unfold kernelRun0_C
  dsimp only
  sl_unfold_words
  simp only [View.readAt_eq_ld, harg3.read_unread, harg4.read_unread, harg5.read_unread, harg6.read_unread, harg7.read_unread, harg8.read_unread, harg9.read_unread, harg12.read_unread,
    View.readCov_unit_zero (S := S1024x2048) _ zero2, View.ld_unit_zero (S := S1024x2048) zero2, View.ld_unit_zero (S := S1x2048) zero2, View.ld_unit_zero (S := S1x2048x1024) zero3, View.ld_unit_zero (S := S2048x128) zero2, View.ld_unit_zero (S := S1x128) zero2, shapeCast_self]
  simp only [List.forall_mem_cons, List.not_mem_nil, false_imp_iff, implies_true, and_true]
  refine ⟨?_, ?_⟩
  · exact plain_piece 512 (by norm_num) _ (prodAt xs0 x2) x4 _ (fun r n _ _ => rfl) _ _
      (fun e => gain_half 512 _ x4 e _ rfl) (fun r e => pay15_apply _ _ _ r e)
  · exact plain_piece 0 (by norm_num) _ (prodAt xs0 x2) x4 _ (fun r n _ _ => rfl) _ _
      (fun e => gain_half 0 _ x4 e _ rfl) (fun r e => pay12_apply _ _ _ r e)

/-- The block this case leaves. -/
theorem out_D (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := Ideal) c tbM0_0) (hc0 : ¬cond0_0 i) (hc1 : cond0_1 c xt0 i) (hc2 : ¬cond0_2 c xt0 i) (hc3 : ¬cond0_3 c xt0 i) (hc4 : cond0_4 c xt0 i) (hc5 : cond0_5 i)
    (x0 : Vec Ideal S1024x2048 .f32) (x1 : Vec Ideal S1x2048 .f32) (x2 : Vec Ideal S1x2048x1024 .bf16) (x3 : Vec Ideal S3x128x128 .bf16) (x4 : Vec Ideal S1x1024 .f32) (x5 : Vec Ideal S2048x128 .bf16) (x6 : Vec Ideal S1x128 .f32) (xs0 : Vec Ideal S1024x2048 .bf16) (k0_hw1 : k0_chk1 (tbM0_0.view.readAt (Elt Ideal) (Rect.unit (s := S8) (k0_off1 i) S1.size (k0_off1_inb i)).toLoadRect xt0 (Shape.Idx.first (numel1_S1.symm ▸ Nat.one_pos)))) (k0_hw2 : k0_chk2 (tbM0_0.view.readAt (Elt Ideal) (Rect.unit (s := S8) (k0_off3 i) S1.size (k0_off3_inb i)).toLoadRect xt0 (Shape.Idx.first (numel1_S1.symm ▸ Nat.one_pos)))) (κ : Fin 3) (k2 : k0_off4 (word1 (F := Ideal) c xt0 i) = ![κ.val, 0, 0]) :
    out0_D_7 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2 = block (fun r n => if n.val < 512 then plainAt (prodAt xs0 x2) x4 r n else normAt (prodAt xs0 x2) x3 κ x4 r n) := by
  unfold out0_D_7
  have hcov := cover0_D_7 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2
  rw [View.read_writes_eq_canon _ _ _ hcov]
  funext z
  refine View.canon_apply_of_pieces (block (fun r n => if n.val < 512 then plainAt (prodAt xs0 x2) x4 r n else normAt (prodAt xs0 x2) x3 κ x4 r n)) _ ?_ z (hcov z)
  clear hcov
  unfold kernelRun0_D
  dsimp only
  sl_unfold_words
  simp only [View.readAt_eq_ld, harg3.read_unread, harg4.read_unread, harg5.read_unread, harg6.read_unread, harg7.read_unread, harg8.read_unread, harg9.read_unread, harg12.read_unread,
    View.readCov_unit_zero (S := S1024x2048) _ zero2, View.ld_unit_zero (S := S1024x2048) zero2, View.ld_unit_zero (S := S1x2048) zero2, View.ld_unit_zero (S := S1x2048x1024) zero3, View.ld_unit_zero (S := S2048x128) zero2, View.ld_unit_zero (S := S1x128) zero2, shapeCast_self]
  simp only [List.forall_mem_cons, List.not_mem_nil, false_imp_iff, implies_true, and_true]
  refine ⟨?_, ?_, ?_, ?_, ?_⟩
  · exact norm_piece 896 (by norm_num) (by norm_num) _ (prodAt xs0 x2) x3 κ x4 _ (fun r n h _ => if_neg (by omega)) _ _ _
      (fun l e => group_at _ _ κ k2 x3 l e) (fun e => gain_at 896 _ x4 e _ rfl) (fun r e => pay17_apply _ _ _ _ r e)
  · exact norm_piece 768 (by norm_num) (by norm_num) _ (prodAt xs0 x2) x3 κ x4 _ (fun r n h _ => if_neg (by omega)) _ _ _
      (fun l e => group_at _ _ κ k2 x3 l e) (fun e => gain_at 768 _ x4 e _ rfl) (fun r e => (pay16_apply _ _ r e).trans (congrArg (· * _) (pay9_apply _ _ r e)))
  · exact norm_piece 640 (by norm_num) (by norm_num) _ (prodAt xs0 x2) x3 κ x4 _ (fun r n h _ => if_neg (by omega)) _ _ _
      (fun l e => group_at _ _ κ k2 x3 l e) (fun e => gain_at 640 _ x4 e _ rfl) (fun r e => pay8_apply _ _ _ r e)
  · exact norm_piece 512 (by norm_num) (by norm_num) _ (prodAt xs0 x2) x3 κ x4 _ (fun r n h _ => if_neg (by omega)) _ _ _
      (fun l e => group_at _ _ κ k2 x3 l e) (fun e => gain_at 512 _ x4 e _ rfl) (fun r e => pay7_apply _ _ _ r e)
  · exact plain_piece 0 (by norm_num) _ (prodAt xs0 x2) x4 _ (fun r n _ h => if_pos h) _ _
      (fun e => gain_half 0 _ x4 e _ rfl) (fun r e => pay12_apply _ _ _ r e)

/-- The side block the last case leaves. -/
theorem side_D (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S3x128x128 .bf16) (harg6 : arg6.IsWhole) (arg7 : Memref sig .tc .vmem S1x1024 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x2048 .bf16) (harg12 : arg12.IsWhole) (xt0 : TbBuf0 (F := Ideal) c tbM0_0) (hc0 : ¬cond0_0 i) (hc1 : cond0_1 c xt0 i) (hc2 : ¬cond0_2 c xt0 i) (hc3 : ¬cond0_3 c xt0 i) (hc4 : cond0_4 c xt0 i) (hc5 : cond0_5 i)
    (x0 : Vec Ideal S1024x2048 .f32) (x1 : Vec Ideal S1x2048 .f32) (x2 : Vec Ideal S1x2048x1024 .bf16) (x3 : Vec Ideal S3x128x128 .bf16) (x4 : Vec Ideal S1x1024 .f32) (x5 : Vec Ideal S2048x128 .bf16) (x6 : Vec Ideal S1x128 .f32) (xs0 : Vec Ideal S1024x2048 .bf16) (k0_hw1 : k0_chk1 (tbM0_0.view.readAt (Elt Ideal) (Rect.unit (s := S8) (k0_off1 i) S1.size (k0_off1_inb i)).toLoadRect xt0 (Shape.Idx.first (numel1_S1.symm ▸ Nat.one_pos)))) (k0_hw2 : k0_chk2 (tbM0_0.view.readAt (Elt Ideal) (Rect.unit (s := S8) (k0_off3 i) S1.size (k0_off3_inb i)).toLoadRect xt0 (Shape.Idx.first (numel1_S1.symm ▸ Nat.one_pos)))) :
    out0_D_8 (F := Ideal) c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2 = k0_pay1 xs0 x5 x6 := by
  unfold out0_D_8
  rw [View.read_writes_eq_canon _ _ _ (cover0_D_8 c i arg3 harg3 arg4 harg4 arg5 harg5 arg6 harg6 arg7 harg7 arg8 harg8 arg9 harg9 arg10 harg10 arg11 harg11 arg12 harg12 xt0 hc0 hc1 hc2 hc3 hc4 hc5 x0 x1 x2 x3 x4 x5 x6 xs0 k0_hw1 k0_hw2)]
  unfold kernelRun0_D
  dsimp only
  sl_unfold_words
  rw [View.canon_unit_zero zero2]
  simp only [View.readAt_eq_ld, harg3.read_unread, harg4.read_unread, harg5.read_unread, harg6.read_unread, harg7.read_unread, harg8.read_unread, harg9.read_unread, harg12.read_unread,
    View.readCov_unit_zero (S := S1024x2048) _ zero2, View.ld_unit_zero (S := S1024x2048) zero2, View.ld_unit_zero (S := S1x2048) zero2, View.ld_unit_zero (S := S1x2048x1024) zero3, View.ld_unit_zero (S := S2048x128) zero2, View.ld_unit_zero (S := S1x128) zero2, shapeCast_self]

end Cert.Kernel4Ideal.ProjB

end
-- ==== Proof.ProjBHost.lean ====
/-
  What the second layer kind's input projection finds in its operands: the rows, the weights' columns in the result's
  order, the gains laid side by side, the group matrices, and the side product's weights and gains.
-/
module

public import proofs.«01_k».proof.Proof.ProjBTile
public import proofs.«01_k».proof.Proof.ProjAHost
public import proofs.«01_k».proof.Proof.Reshapes
public import Idealize.ShloMosaic.Lib.Tactic

@[expose] public section

set_option maxRecDepth 16384
set_option maxHeartbeats 1600000

noncomputable section

open Idealize.ShloMosaic Idealize.ShloMosaic.TcCoe Idealize.SL.Sem

namespace Cert.Kernel4Ideal.ProjB

open Cert.Kernel4Ideal Cert.Kernel4Ideal.Gen

variable (m : (ℓ : Loc nD τ sig) → Buf (Elt Ideal) ℓ)

/-- The rows, -/
theorem rows_found (c : Dev nD) (x : FVec Ideal S4x4096x2048 .f32) (hx : m ((c.tc : Thread nD τ).loc main_arg0) = x) :
    @Eq (FVec Ideal S16384x2048 .f32) (V m c (Pipeline.arrRef spec0 0)) (shapeCast S16384x2048 x shapeCasts_S4x4096x2048_S16384x2048) := by
  subst hx
  show StableHlo.after (List.flatten [hostOps0, hostOps0_1, hostOps0_2, hostOps0_3, hostOps0_4, hostOps0_5, hostOps0_6]) (fun b => m (c, b)) (Proc.tc.devRef main_v0) = _
  simp only [hostOps0, hostOps0_1, hostOps0_2, hostOps0_3, hostOps0_4, hostOps0_5, hostOps0_6, List.flatten_cons, List.flatten_nil, List.append_nil, List.cons_append, List.nil_append]
  after_results_simp <;> rfl

/-- the rows' gain, -/
theorem mix_found (c : Dev nD) (g : FVec Ideal S2x2048 .f32) (hg : m ((c.tc : Thread nD τ).loc main_arg1) = g) :
    @Eq (FVec Ideal S1x2048 .f32) (V m c (Pipeline.arrRef spec0 1)) (shapeCast S1x2048 (shapeCast S2048 (extractStridedSlice S1x2048 ![1, 0] g slices_S2x2048_S1x2048_1_0) shapeCasts_S1x2048_S2048) shapeCasts_S2048_S1x2048) := by
  subst hg
  show StableHlo.after (List.flatten [hostOps0, hostOps0_1, hostOps0_2, hostOps0_3, hostOps0_4, hostOps0_5, hostOps0_6]) (fun b => m (c, b)) (Proc.tc.devRef main_v40) = _
  simp only [hostOps0, hostOps0_1, hostOps0_2, hostOps0_3, hostOps0_4, hostOps0_5, hostOps0_6, List.flatten_cons, List.flatten_nil, List.append_nil, List.cons_append, List.nil_append]
  after_results_simp <;> rfl

/-- The weights as one matrix, -/
def plain (w : FVec Ideal S1x2048x4176 .f32) : FVec Ideal S2048x4176 .f32 := shapeCast S2048x4176 w shapeCasts_S1x2048x4176_S2048x4176

/-- their columns in the first result's order, -/
def columns (w : FVec Ideal S1x2048x4176 .f32) : FVec Ideal S1x2048x4096 .bf16 :=
  broadcastInDim S1x2048x4096 ![1, 2] bcast_S2048x4096_S1x2048x4096_1_2 (truncf .bf16 (concatenate S2048x4096 1 [⟨S2048x1536, extractStridedSlice S2048x1536 ![0, 0] (plain w) slices_S2048x4176_S2048x1536_0_0⟩, ⟨S2048x512, extractStridedSlice S2048x512 ![0, 1536] (plain w) slices_S2048x4176_S2048x512_0_1536⟩, ⟨S2048x1024, extractStridedSlice S2048x1024 ![0, 2560] (plain w) slices_S2048x4176_S2048x1024_0_2560⟩, ⟨S2048x512, extractStridedSlice S2048x512 ![0, 2048] (plain w) slices_S2048x4176_S2048x512_0_2048⟩, ⟨S2048x512, extractStridedSlice S2048x512 ![0, 3664] (plain w) slices_S2048x4176_S2048x512_0_3664⟩]
    concatenates_S2048x1536_S2048x512_S2048x1024_S2048x512_S2048x512_S2048x4096_d1) bitsLt_bf16_f32)

/-- those of the second result, padded, -/
def narrow (w : FVec Ideal S1x2048x4176 .f32) : FVec Ideal S2048x128 .bf16 :=
  truncf .bf16 (concatenate S2048x128 1 [⟨S2048x80, extractStridedSlice S2048x80 ![0, 3584] (plain w) slices_S2048x4176_S2048x80_0_3584⟩, ⟨S2048x48, broadcastInDim S2048x48 ![] bcast_S_S2048x48 (constant S_ .f32 0x00000000#32)⟩]
    concatenates_S2048x80_S2048x48_S2048x128_d1) bitsLt_bf16_f32

/-- and the second result's gains. -/
def narrowGains : FVec Ideal S1x128 .f32 :=
  shapeCast S1x128 (concatenate S128 0 [⟨S64, broadcastInDim S64 ![] bcast_S_S64 (constant S_ .f32 0x3F800000#32)⟩,
    ⟨S16, broadcastInDim S16 ![] bcast_S_S16 (constant S_ .f32 0x3D000000#32)⟩, ⟨S48, broadcastInDim S48 ![] bcast_S_S48 (constant S_ .f32 0x00000000#32)⟩]
    concatenates_S64_S16_S48_S128_d0) shapeCasts_S128_S1x128

/-- A head's gain repeated over twelve heads, -/
def tile12 (g : FVec Ideal S1x128 .f32) : FVec Ideal S1536 .f32 :=
  shapeCast S1536 (broadcastInDim S12x128 ![0, 1] bcast_S1x128_S12x128_0_1 (shapeCast S1x128 (shapeCast S128 g shapeCasts_S1x128_S128) shapeCasts_S128_S1x128)) shapeCasts_S12x128_S1536

/-- and over four. -/
def tile4 (g : FVec Ideal S1x128 .f32) : FVec Ideal S512 .f32 :=
  shapeCast S512 (broadcastInDim S4x128 ![0, 1] bcast_S1x128_S4x128_0_1 (shapeCast S1x128 (shapeCast S128 g shapeCasts_S1x128_S128) shapeCasts_S128_S1x128)) shapeCasts_S4x128_S512

/-- The columns' gains. -/
def gains (gq gk : FVec Ideal S1x128 .f32) (gm : FVec Ideal S2x128 .f32) : FVec Ideal S1x4096 .f32 :=
  shapeCast S1x4096 (concatenate S4096 0 [⟨S1536, mulf (tile12 gq) (broadcastInDim S1536 ![] bcast_S_S1536 (constant S_ .f32 0x3E0293EE#32))⟩,
    ⟨S512, tile4 gk⟩, ⟨S1024, broadcastInDim S1024 ![] bcast_S_S1024 (constant S_ .f32 0x3F800000#32)⟩, ⟨S512, broadcastInDim S512 ![] bcast_S_S512 (constant S_ .f32 0x3F800000#32)⟩,
    ⟨S512, mulf (tile4 (extractStridedSlice S1x128 ![1, 0] gm slices_S2x128_S1x128_1_0)) (broadcastInDim S512 ![] bcast_S_S512 (constant S_ .f32 0x3E0293EE#32))⟩]
    concatenates_S1536_S512_S1024_S512_S512_S4096_d0) shapeCasts_S4096_S1x4096

/-- The weights, -/
theorem weights_found (c : Dev nD) (w : FVec Ideal S1x2048x4176 .f32) (hw : m ((c.tc : Thread nD τ).loc main_arg2) = w) :
    @Eq (FVec Ideal S1x2048x4096 .bf16) (V m c (Pipeline.arrRef spec0 2)) (columns w) := by
  subst hw
  show StableHlo.after (List.flatten [hostOps0, hostOps0_1, hostOps0_2, hostOps0_3, hostOps0_4, hostOps0_5, hostOps0_6]) (fun b => m (c, b)) (Proc.tc.devRef main_v38) = _
  simp only [hostOps0, hostOps0_1, hostOps0_2, hostOps0_3, hostOps0_4, hostOps0_5, hostOps0_6, List.flatten_cons, List.flatten_nil, List.append_nil, List.cons_append, List.nil_append]
  after_results_simp <;> rfl

/-- the group matrices, -/
theorem groups_found (c : Dev nD)  :
    @Eq (FVec Ideal S3x128x128 .bf16) (V m c (Pipeline.arrRef spec0 3)) (Cert.Kernel2Ideal.ProjA.groups) := by
  skip
  show StableHlo.after (List.flatten [hostOps0, hostOps0_1, hostOps0_2, hostOps0_3, hostOps0_4, hostOps0_5, hostOps0_6]) (fun b => m (c, b)) (Proc.tc.devRef main_v57) = _
  simp only [hostOps0, hostOps0_1, hostOps0_2, hostOps0_3, hostOps0_4, hostOps0_5, hostOps0_6, List.flatten_cons, List.flatten_nil, List.append_nil, List.cons_append, List.nil_append]
  after_results_simp <;> rfl

/-- the gains, -/
theorem gains_found (c : Dev nD) (gq : FVec Ideal S1x128 .f32) (hgq : m ((c.tc : Thread nD τ).loc main_arg3) = gq) (gk : FVec Ideal S1x128 .f32) (hgk : m ((c.tc : Thread nD τ).loc main_arg4) = gk) (gm : FVec Ideal S2x128 .f32) (hgm : m ((c.tc : Thread nD τ).loc main_arg5) = gm) :
    @Eq (FVec Ideal S1x4096 .f32) (V m c (Pipeline.arrRef spec0 4)) (gains gq gk gm) := by
  subst hgq; subst hgk; subst hgm
  show StableHlo.after (List.flatten [hostOps0, hostOps0_1, hostOps0_2, hostOps0_3, hostOps0_4, hostOps0_5, hostOps0_6]) (fun b => m (c, b)) (Proc.tc.devRef main_v58) = _
  simp only [hostOps0, hostOps0_1, hostOps0_2, hostOps0_3, hostOps0_4, hostOps0_5, hostOps0_6, List.flatten_cons, List.flatten_nil, List.append_nil, List.cons_append, List.nil_append]
  after_results_simp <;> rfl

/-- the second result's weights, -/
theorem narrow_found (c : Dev nD) (w : FVec Ideal S1x2048x4176 .f32) (hw : m ((c.tc : Thread nD τ).loc main_arg2) = w) :
    @Eq (FVec Ideal S2048x128 .bf16) (V m c (Pipeline.arrRef spec0 5)) (narrow w) := by
  subst hw
  show StableHlo.after (List.flatten [hostOps0, hostOps0_1, hostOps0_2, hostOps0_3, hostOps0_4, hostOps0_5, hostOps0_6]) (fun b => m (c, b)) (Proc.tc.devRef main_v39) = _
  simp only [hostOps0, hostOps0_1, hostOps0_2, hostOps0_3, hostOps0_4, hostOps0_5, hostOps0_6, List.flatten_cons, List.flatten_nil, List.append_nil, List.cons_append, List.nil_append]
  after_results_simp <;> rfl

/-- and its gains. -/
theorem narrowGains_found (c : Dev nD)  :
    @Eq (FVec Ideal S1x128 .f32) (V m c (Pipeline.arrRef spec0 6)) (narrowGains) := by
  skip
  show StableHlo.after (List.flatten [hostOps0, hostOps0_1, hostOps0_2, hostOps0_3, hostOps0_4, hostOps0_5, hostOps0_6]) (fun b => m (c, b)) (Proc.tc.devRef main_v59) = _
  simp only [hostOps0, hostOps0_1, hostOps0_2, hostOps0_3, hostOps0_4, hostOps0_5, hostOps0_6, List.flatten_cons, List.flatten_nil, List.append_nil, List.cons_append, List.nil_append]
  after_results_simp <;> rfl

end Cert.Kernel4Ideal.ProjB

end
-- ==== Proof.ProjBSpec.lean ====
/-
  The sparse mixer's input projection as a function of its operands, one row and one column at a time: the normalised
  row's product with the weights, whose columns are queries, keys, values, indexer queries, indexer keys, indexer weights
  and memory queries; the queries', keys' and memory queries' columns normalised over their heads of 128 times their
  gain, the indexer weights scaled.
-/
module

public import proofs.«01_k».proof.Proof.ProjASpec

@[expose] public section

set_option maxRecDepth 16384
set_option maxHeartbeats 1600000

noncomputable section

open Idealize.ShloMosaic Idealize.ShloMosaic.TcCoe Idealize.SL.Sem

namespace Cert.ProjBSpec

/-- The product of the normalised row `R` and the weights' column `n`. -/
def proj (X : Fin 16384 → Fin 2048 → EReal) (G : Fin 2048 → EReal) (W : Fin 2048 → Fin 4176 → EReal) (R : Fin 16384) (n : Fin 4176) : EReal :=
  ∑ k : Fin 2048, FfnSpec.nrm X G R k * W k n

/-- The weights' column that column `n` of the first result is taken from: queries and keys, indexer queries, values, memory queries. -/
def src (n : Fin 4096) : Fin 4176 :=
  if h : n.val < 2048 then ⟨n.val, by omega⟩ else if h : n.val < 3072 then ⟨n.val + 512, by omega⟩ else if h : n.val < 3584 then ⟨n.val - 1024, by omega⟩ else ⟨n.val + 80, by omega⟩

/-- One over the root of the mean square of the head of 128 columns that column `n` lies in. -/
def root (p : Fin 4096 → EReal) (n : Fin 4096) : EReal :=
  Ideal.rsqrt (Ideal.div (∑ l : Fin 128, p ⟨128 * (n.val / 128) + l.val, by omega⟩ * p ⟨128 * (n.val / 128) + l.val, by omega⟩) (Ideal.ofBits FTy.f32 1124073472#32)
    + Ideal.ofBits FTy.f32 897988541#32)

/-- The first result's column `n` from the row of products `p`, in the result's order. -/
def cols (GQ GK GM : Fin 128 → EReal) (p : Fin 4096 → EReal) (n : Fin 4096) : EReal :=
  if n.val < 1536 then p n * root p n * GQ ⟨n.val % 128, by omega⟩ * Ideal.ofBits FTy.f32 1040356334#32
  else if n.val < 2048 then p n * root p n * GK ⟨n.val % 128, by omega⟩
  else if n.val < 3584 then p n
  else p n * root p n * GM ⟨n.val % 128, by omega⟩ * Ideal.ofBits FTy.f32 1040356334#32

/-- The second result's column `e` from the row of products `p`: indexer keys, indexer weights scaled, zeros. -/
def side (p : Fin 4176 → EReal) (e : Fin 128) : EReal :=
  if h : e.val < 80 then (if e.val < 64 then p ⟨3584 + e.val, by omega⟩ else p ⟨3584 + e.val, by omega⟩ * Ideal.ofBits FTy.f32 1023410176#32) else 0

end Cert.ProjBSpec

end
-- ==== Proof.ProjBCols.lean ====
/-
  The sparse mixer's input projection: its operands at an index, and the columns of a block from the row of products.
-/
module

public import proofs.«01_k».proof.Proof.ProjBHost
public import proofs.«01_k».proof.Proof.ProjACols
public import proofs.«01_k».proof.Proof.ProjBSpec
public import Idealize.ShloMosaic.Lib.Pointwise

@[expose] public section

set_option maxRecDepth 16384
set_option maxHeartbeats 1600000

noncomputable section

open Idealize.ShloMosaic Idealize.ShloMosaic.TcCoe Idealize.SL.Sem

namespace Cert.Kernel4Ideal.ProjB

open Cert.Kernel4Ideal Cert.Kernel4Ideal.Gen Cert.ProjBSpec
open Cert.Kernel2Ideal.ProjA (eps normAt plainAt)

/-! ## The operands at an index -/

theorem tile12_apply (g : FVec Ideal S1x128 .f32) (n : Fin 1536) : tile12 g (ix1 n) = g (ix2 0 ⟨n.val % 128, by omega⟩) := by
  unfold tile12
  pointwise

theorem tile4_apply (g : FVec Ideal S1x128 .f32) (n : Fin 512) : tile4 g (ix1 n) = g (ix2 0 ⟨n.val % 128, by omega⟩) := by
  unfold tile4
  pointwise

theorem second_apply (g : FVec Ideal S2x128 .f32) (e : Fin 128) : extractStridedSlice S1x128 ![1, 0] g slices_S2x128_S1x128_1_0 (ix2 0 e) = g (ix2 1 e) := by
  pointwise

/-- The gain of column `n`. -/
theorem gains_apply (gq gk : FVec Ideal S1x128 .f32) (gm : FVec Ideal S2x128 .f32) (n : Fin 4096) :
    gains gq gk gm (ix2 0 n) = if h : n.val < 1536 then tile12 gq (ix1 ⟨n.val, h⟩) * Ideal.ofBits FTy.f32 1040356334#32
      else if h : n.val - 1536 < 512 then tile4 gk (ix1 ⟨n.val - 1536, h⟩)
      else if h : n.val - 1536 - 512 < 1024 then 1
      else if h : n.val - 1536 - 512 - 1024 < 512 then 1
      else tile4 (extractStridedSlice S1x128 ![1, 0] gm slices_S2x128_S1x128_1_0) (ix1 ⟨n.val - 1536 - 512 - 1024 - 512, by omega⟩) * Ideal.ofBits FTy.f32 1040356334#32 := by
  unfold gains
  pointwise

theorem plain_apply (w : FVec Ideal S1x2048x4176 .f32) (k : Fin 2048) (n : Fin 4176) : plain w (ix2 k n) = w (ix3 0 k n) := by
  unfold plain
  pointwise

/-- The weights' columns in the first result's order, -/
theorem columns_apply (w : FVec Ideal S1x2048x4176 .f32) (k : Fin 2048) (n : Fin 4096) : columns w (ix3 0 k n) = w (ix3 0 k (src n)) := by
  have hn := n.isLt
  refine Eq.trans ?_ (plain_apply w k (src n))
  unfold columns
  pointwise
  unfold src
  by_cases h0 : n.val < 1536
  · rw [dif_pos h0, dif_pos (by omega)]
  · rw [dif_neg h0]
    by_cases h1 : n.val < 2048
    · rw [dif_pos (by omega), dif_pos h1]
      exact congrArg (fun z => plain w (ix2 k z)) (Fin.ext (by show 1536 + (n.val - 1536) = n.val; omega))
    · rw [dif_neg (by omega), dif_neg h1]
      by_cases h2 : n.val < 3072
      · rw [dif_pos (by omega), dif_pos h2]
        exact congrArg (fun z => plain w (ix2 k z)) (Fin.ext (by show 2560 + (n.val - 1536 - 512) = n.val + 512; omega))
      · rw [dif_neg (by omega), dif_neg h2]
        by_cases h3 : n.val < 3584
        · rw [dif_pos (by omega), dif_pos h3]
          exact congrArg (fun z => plain w (ix2 k z)) (Fin.ext (by show 2048 + (n.val - 1536 - 512 - 1024) = n.val - 1024; omega))
        · rw [dif_neg (by omega), dif_neg h3]
          exact congrArg (fun z => plain w (ix2 k z)) (Fin.ext (by show 3664 + (n.val - 1536 - 512 - 1024 - 512) = n.val + 80; omega))

/-- those of the second result, -/
theorem narrow_apply (w : FVec Ideal S1x2048x4176 .f32) (k : Fin 2048) (e : Fin 128) :
    narrow w (ix2 k e) = if h : e.val < 80 then w (ix3 0 k ⟨3584 + e.val, by omega⟩) else 0 := by
  have h : narrow w (ix2 k e) = if h : e.val < 80 then plain w (ix2 k ⟨3584 + e.val, by omega⟩) else 0 := by
    unfold narrow
    pointwise
  rw [h]
  simp only [plain_apply]

/-- and its gains. -/
theorem narrowGains_apply (e : Fin 128) : narrowGains (ix2 0 e) = if e.val < 64 then 1 else if e.val - 64 < 16 then Ideal.ofBits FTy.f32 1023410176#32 else 0 := by
  unfold narrowGains
  pointwise
  simp only [dite_eq_ite]

/-! ## A block's columns -/

/-- Column `n` of column block `j`. -/
def colAt (j : Fin 4) (n : Fin 1024) : Fin 4096 := ⟨1024 * j.val + n.val, by omega⟩

/-- A column normalised through the mean over 128. -/
theorem norm_two (y : Fin 1024 → Fin 1024 → EReal) (gm : Vec Ideal S3x128x128 .bf16) (g : Vec Ideal S1x1024 .f32) (r : Fin 1024) (j : Fin 4) (p : Fin 4096 → EReal)
    (hy : ∀ n, y r n = p (colAt j n)) (hgm : ∀ l e, gm (ix3 2 l e) = Cert.Kernel2Ideal.ProjA.groups (ix3 2 l e)) (n : Fin 1024) :
    normAt y gm 2 g r n = p (colAt j n) * root p (colAt j n) * g (ix2 0 n) := by
  have hn := n.isLt
  have hj := j.isLt
  unfold normAt root eps
  rw [hy n]
  refine congrArg (fun z => p (colAt j n) * Ideal.rsqrt (z + Ideal.ofBits FTy.f32 897988541#32) * g (ix2 0 n)) ?_
  refine Eq.trans ?_ ((ProjSpec.mean128 (fun l => y r ⟨128 * (n.val / 128) + l.val, by omega⟩ * y r ⟨128 * (n.val / 128) + l.val, by omega⟩)).trans ?_)
  · exact Finset.sum_congr rfl fun l _ => by rw [hgm, Cert.Kernel2Ideal.ProjA.groups_two]
  · refine congrArg (Ideal.div · _) (Finset.sum_congr rfl fun l _ => ?_)
    have hl := l.isLt
    have e : colAt j ⟨128 * (n.val / 128) + l.val, by omega⟩ = ⟨128 * ((colAt j n).val / 128) + l.val, by have := (colAt j n).isLt; omega⟩ := by
      apply Fin.ext
      show 1024 * j.val + (128 * (n.val / 128) + l.val) = 128 * ((1024 * j.val + n.val) / 128) + l.val
      omega
    show y r ⟨128 * (n.val / 128) + l.val, _⟩ * y r ⟨128 * (n.val / 128) + l.val, _⟩ = _
    rw [hy, e]

section cols
variable (gq gk : FVec Ideal S1x128 .f32) (gm : FVec Ideal S2x128 .f32) (p : Fin 4096 → EReal) (N : Fin 4096)

/-- A column of queries or keys is the normalised column times its gain, -/
theorem cols_head (h : N.val < 2048) : p N * root p N * gains gq gk gm (ix2 0 N)
    = cols (fun e => gq (ix2 0 e)) (fun e => gk (ix2 0 e)) (fun e => gm (ix2 1 e)) p N := by
  unfold cols
  rw [gains_apply]
  by_cases h1 : N.val < 1536
  · rw [dif_pos h1, if_pos h1, tile12_apply, ← mul_assoc]
  · rw [dif_neg h1, if_neg h1, dif_pos (by omega), if_pos h, tile4_apply]
    refine congrArg (fun z => p N * root p N * gk (ix2 0 z)) (Fin.ext ?_)
    show (N.val - 1536) % 128 = N.val % 128
    omega

/-- one of indexer queries or values is the product's, -/
theorem cols_plain (h : 2048 ≤ N.val) (h' : N.val < 3584) : p N * gains gq gk gm (ix2 0 N)
    = cols (fun e => gq (ix2 0 e)) (fun e => gk (ix2 0 e)) (fun e => gm (ix2 1 e)) p N := by
  unfold cols
  rw [gains_apply, dif_neg (by omega), dif_neg (by omega), if_neg (by omega), if_neg (by omega), if_pos h']
  by_cases h2 : N.val < 3072
  · rw [dif_pos (by omega), mul_one]
  · rw [dif_neg (by omega), dif_pos (by omega), mul_one]

/-- and one of memory queries the normalised column times its gain. -/
theorem cols_memory (h : 3584 ≤ N.val) : p N * root p N * gains gq gk gm (ix2 0 N)
    = cols (fun e => gq (ix2 0 e)) (fun e => gk (ix2 0 e)) (fun e => gm (ix2 1 e)) p N := by
  unfold cols
  rw [gains_apply, dif_neg (by omega), dif_neg (by omega), dif_neg (by omega), dif_neg (by omega), if_neg (by omega), if_neg (by omega), if_neg (by omega), tile4_apply, second_apply, ← mul_assoc]
  refine congrArg (fun z => p N * root p N * gm (ix2 1 z) * _) (Fin.ext ?_)
  show (N.val - 1536 - 512 - 1024 - 512) % 128 = N.val % 128
  omega
end cols

/-- The second result's columns: the narrow product times its gain. -/
theorem side_cols (h : Fin 2048 → EReal) (w : FVec Ideal S1x2048x4176 .f32) (e : Fin 128) :
    (∑ k : Fin 2048, h k * narrow w (ix2 k e)) * narrowGains (ix2 0 e) = side (fun n => ∑ k : Fin 2048, h k * w (ix3 0 k n)) e := by
  unfold side
  rw [narrowGains_apply]
  simp only [narrow_apply]
  by_cases h0 : e.val < 80
  · rw [dif_pos h0]
    simp only [dif_pos h0]
    by_cases h1 : e.val < 64
    · rw [if_pos h1, if_pos h1, mul_one]
    · rw [if_neg h1, if_neg h1, if_pos (by omega)]
  · rw [dif_neg h0, if_neg (by omega), if_neg (by omega), mul_zero]

end Cert.Kernel4Ideal.ProjB

end
-- ==== Proof.ProjBValue.lean ====
/-
  The second input projection's arrays: what every point leaves is the projection of the arguments at its rows and columns.
-/
module

public import proofs.«01_k».proof.Proof.ProjBCols
public import proofs.«01_k».proof.Proof.ProjAValue
public import Idealize.ShloMosaic.Lib.Pointwise

@[expose] public section

set_option maxRecDepth 16384
set_option maxHeartbeats 1600000

noncomputable section

open Idealize.ShloMosaic Idealize.ShloMosaic.TcCoe Idealize.SL.Sem

namespace Cert.Kernel4Ideal.ProjB

open Cert.Kernel4Ideal Cert.Kernel4Ideal.Gen Cert.ProjBSpec
open Cert.Kernel2Ideal.ProjA (eps normAt plainAt block batchOf seqOf)

variable (m : (ℓ : Loc nD τ sig) → Buf (Elt Ideal) ℓ)

/-- The projection's row of products, -/
def products (x : FVec Ideal S4x4096x2048 .f32) (g : FVec Ideal S2x2048 .f32) (w : FVec Ideal S1x2048x4176 .f32) (R : Fin 16384) : Fin 4176 → EReal :=
  proj (fun R k => x (ix3 (batchOf R) (seqOf R) k)) (fun k => g (ix2 1 k)) (fun k n => w (ix3 0 k n)) R

/-- the first result at row `R`, column `n`, -/
def value (x : FVec Ideal S4x4096x2048 .f32) (g : FVec Ideal S2x2048 .f32) (w : FVec Ideal S1x2048x4176 .f32) (gq gk : FVec Ideal S1x128 .f32) (gm : FVec Ideal S2x128 .f32) (R : Fin 16384) (n : Fin 4096) : EReal :=
  cols (fun e => gq (ix2 0 e)) (fun e => gk (ix2 0 e)) (fun e => gm (ix2 1 e)) (fun n => products x g w R (src n)) n

/-- and the second. -/
def sideValue (x : FVec Ideal S4x4096x2048 .f32) (g : FVec Ideal S2x2048 .f32) (w : FVec Ideal S1x2048x4176 .f32) (R : Fin 16384) (e : Fin 128) : EReal := side (products x g w R) e

/-- The first result at every row and column, -/
def result (x : FVec Ideal S4x4096x2048 .f32) (g : FVec Ideal S2x2048 .f32) (w : FVec Ideal S1x2048x4176 .f32) (gq gk : FVec Ideal S1x128 .f32) (gm : FVec Ideal S2x128 .f32) : FVec Ideal S16384x4096 .bf16 := fun i => value x g w gq gk gm (i 0) (i 1)

/-- and the second. -/
def sideResult (x : FVec Ideal S4x4096x2048 .f32) (g : FVec Ideal S2x2048 .f32) (w : FVec Ideal S1x2048x4176 .f32) : FVec Ideal S16384x128 .f32 := fun i => sideValue x g w (i 0) (i 1)

/-! ## The blocks a point reads -/

/-- The index maps, decided over the grid: point `t` takes row block `t / 4` and column block `t % 4`. -/
theorem maps : ∀ t : Fin grid0.N, (cc0_transform_0 (grid0.coords t) (0 : Fin 2) = t.val / 4 ∧ cc0_transform_0 (grid0.coords t) (1 : Fin 2) = 0)
    ∧ (cc0_transform_1 (grid0.coords t) (0 : Fin 2) = 0 ∧ cc0_transform_1 (grid0.coords t) (1 : Fin 2) = 0)
    ∧ (cc0_transform_2 (grid0.coords t) (0 : Fin 3) = 0 ∧ cc0_transform_2 (grid0.coords t) (1 : Fin 3) = 0 ∧ cc0_transform_2 (grid0.coords t) (2 : Fin 3) = t.val % 4)
    ∧ (cc0_transform_3 (grid0.coords t) (0 : Fin 3) = 0 ∧ cc0_transform_3 (grid0.coords t) (1 : Fin 3) = 0 ∧ cc0_transform_3 (grid0.coords t) (2 : Fin 3) = 0)
    ∧ (cc0_transform_4 (grid0.coords t) (0 : Fin 2) = 0 ∧ cc0_transform_4 (grid0.coords t) (1 : Fin 2) = t.val % 4)
    ∧ (cc0_transform_5 (grid0.coords t) (0 : Fin 2) = 0 ∧ cc0_transform_5 (grid0.coords t) (1 : Fin 2) = 0)
    ∧ (cc0_transform_6 (grid0.coords t) (0 : Fin 2) = 0 ∧ cc0_transform_6 (grid0.coords t) (1 : Fin 2) = 0)
    ∧ (cc0_transform_7 (grid0.coords t) (0 : Fin 2) = t.val / 4 ∧ cc0_transform_7 (grid0.coords t) (1 : Fin 2) = t.val % 4)
    ∧ (cc0_transform_8 (grid0.coords t) (0 : Fin 2) = t.val / 4 ∧ cc0_transform_8 (grid0.coords t) (1 : Fin 2) = 0) := by
  decide +kernel

/-- Row `r` of the row block of point `t`, -/
def rowOf (t : Fin grid0.N) (r : Fin 1024) : Fin 16384 :=
  ⟨1024 * (t.val / 4) + r.val, by have h := lt_of_lt_of_eq t.isLt (show grid0.N = 64 from N_0); omega⟩
/-- and its column block. -/
def blkOf (t : Fin grid0.N) : Fin 4 := ⟨t.val % 4, Nat.mod_lt _ (by decide)⟩

/-- The rows, -/
theorem x_block (hO : Ok m) (c : Dev nD) (t : Fin grid0.N) (x : FVec Ideal S4x4096x2048 .f32) (hx : m ((c.tc : Thread nD τ).loc main_arg0) = x) (r : Fin 1024) (k : Fin 2048) :
    (iblk m hO c 0 t : FVec Ideal S1024x2048 .f32) (ix2 r k) = x (ix3 (batchOf (rowOf t r)) (seqOf (rowOf t r)) k) := by
  have h : (((cfgM m hO).win 0).rect t).emb (ix2 r k) = (ix2 (rowOf t r) k : (S16384x2048).Idx) := by
    obtain ⟨e0, e1, e2, e3, e4, e5, e6, e7, e8⟩ := maps t
    have hN := lt_of_lt_of_eq t.isLt (show grid0.N = 64 from N_0)
    funext a; apply Fin.ext
    match a with
    | ⟨0, _⟩ => show cc0_transform_0 (grid0.coords t) (0 : Fin 2) * 1024 + 1 * r.val = 1024 * (t.val / 4) + r.val; omega
    | ⟨1, _⟩ => show cc0_transform_0 (grid0.coords t) (1 : Fin 2) * 2048 + 1 * k.val = k.val; omega
  show (V m c (Pipeline.arrRef spec0 0) : FVec Ideal S16384x2048 .f32) ((((cfgM m hO).win 0).rect t).emb (ix2 r k)) = _
  rw [rows_found m c x hx, h]
  exact Reshapes.rows_apply x _ _ _ _ _ (by show (rowOf t r).val = (rowOf t r).val / 4096 * 4096 + (rowOf t r).val % 4096; omega)

/-- the rows' gain, -/
theorem g_block (hO : Ok m) (c : Dev nD) (t : Fin grid0.N) (g : FVec Ideal S2x2048 .f32) (hg : m ((c.tc : Thread nD τ).loc main_arg1) = g) (k : Fin 2048) :
    (iblk m hO c 1 t : FVec Ideal S1x2048 .f32) (ix2 0 k) = g (ix2 1 k) := by
  have h : (((cfgM m hO).win 1).rect t).emb (ix2 0 k) = (ix2 0 k : (S1x2048).Idx) := by
    obtain ⟨e0, e1, e2, e3, e4, e5, e6, e7, e8⟩ := maps t
    have hN := lt_of_lt_of_eq t.isLt (show grid0.N = 64 from N_0)
    funext a; apply Fin.ext
    match a with
    | ⟨0, _⟩ => show cc0_transform_1 (grid0.coords t) (0 : Fin 2) * 1 + 1 * 0 = 0; omega
    | ⟨1, _⟩ => show cc0_transform_1 (grid0.coords t) (1 : Fin 2) * 2048 + 1 * k.val = k.val; omega
  show (V m c (Pipeline.arrRef spec0 1) : FVec Ideal S1x2048 .f32) ((((cfgM m hO).win 1).rect t).emb (ix2 0 k)) = _
  rw [mix_found m c g hg, h]
  pointwise

/-- the weights, -/
theorem w_block (hO : Ok m) (c : Dev nD) (t : Fin grid0.N) (w : FVec Ideal S1x2048x4176 .f32) (hw : m ((c.tc : Thread nD τ).loc main_arg2) = w) (k : Fin 2048) (n : Fin 1024) :
    (iblk m hO c 2 t : FVec Ideal S1x2048x1024 .bf16) (ix3 0 k n) = w (ix3 0 k (src (colAt (blkOf t) n))) := by
  have h : (((cfgM m hO).win 2).rect t).emb (ix3 0 k n) = (ix3 0 k (colAt (blkOf t) n) : (S1x2048x4096).Idx) := by
    obtain ⟨e0, e1, e2, e3, e4, e5, e6, e7, e8⟩ := maps t
    have hN := lt_of_lt_of_eq t.isLt (show grid0.N = 64 from N_0)
    funext a; apply Fin.ext
    match a with
    | ⟨0, _⟩ => show cc0_transform_2 (grid0.coords t) (0 : Fin 3) * 1 + 1 * 0 = 0; omega
    | ⟨1, _⟩ => show cc0_transform_2 (grid0.coords t) (1 : Fin 3) * 2048 + 1 * k.val = k.val; omega
    | ⟨2, _⟩ => show cc0_transform_2 (grid0.coords t) (2 : Fin 3) * 1024 + 1 * n.val = 1024 * (t.val % 4) + n.val; omega
  show (V m c (Pipeline.arrRef spec0 2) : FVec Ideal S1x2048x4096 .bf16) ((((cfgM m hO).win 2).rect t).emb (ix3 0 k n)) = _
  rw [weights_found m c w hw, h]
  exact columns_apply w k _

/-- the group matrices -/
theorem groups_block (hO : Ok m) (c : Dev nD) (t : Fin grid0.N) (κ : Fin 3) (l e : Fin 128) :
    (iblk m hO c 3 t : FVec Ideal S3x128x128 .bf16) (ix3 κ l e) = Cert.Kernel2Ideal.ProjA.groups (ix3 κ l e) := by
  have h : (((cfgM m hO).win 3).rect t).emb (ix3 κ l e) = (ix3 κ l e : (S3x128x128).Idx) := by
    obtain ⟨e0, e1, e2, e3, e4, e5, e6, e7, e8⟩ := maps t
    have hN := lt_of_lt_of_eq t.isLt (show grid0.N = 64 from N_0)
    funext a; apply Fin.ext
    match a with
    | ⟨0, _⟩ => show cc0_transform_3 (grid0.coords t) (0 : Fin 3) * 3 + 1 * κ.val = κ.val; omega
    | ⟨1, _⟩ => show cc0_transform_3 (grid0.coords t) (1 : Fin 3) * 128 + 1 * l.val = l.val; omega
    | ⟨2, _⟩ => show cc0_transform_3 (grid0.coords t) (2 : Fin 3) * 128 + 1 * e.val = e.val; omega
  show (V m c (Pipeline.arrRef spec0 3) : FVec Ideal S3x128x128 .bf16) ((((cfgM m hO).win 3).rect t).emb (ix3 κ l e)) = _
  rw [groups_found m c, h]

/-- the gains, -/
theorem gains_block (hO : Ok m) (c : Dev nD) (t : Fin grid0.N) (gq gk : FVec Ideal S1x128 .f32) (gm : FVec Ideal S2x128 .f32) (hgq : m ((c.tc : Thread nD τ).loc main_arg3) = gq)(hgk : m ((c.tc : Thread nD τ).loc main_arg4) = gk)(hgm : m ((c.tc : Thread nD τ).loc main_arg5) = gm) (n : Fin 1024) :
    (iblk m hO c 4 t : FVec Ideal S1x1024 .f32) (ix2 0 n) = gains gq gk gm (ix2 0 (colAt (blkOf t) n)) := by
  have h : (((cfgM m hO).win 4).rect t).emb (ix2 0 n) = (ix2 0 (colAt (blkOf t) n) : (S1x4096).Idx) := by
    obtain ⟨e0, e1, e2, e3, e4, e5, e6, e7, e8⟩ := maps t
    have hN := lt_of_lt_of_eq t.isLt (show grid0.N = 64 from N_0)
    funext a; apply Fin.ext
    match a with
    | ⟨0, _⟩ => show cc0_transform_4 (grid0.coords t) (0 : Fin 2) * 1 + 1 * 0 = 0; omega
    | ⟨1, _⟩ => show cc0_transform_4 (grid0.coords t) (1 : Fin 2) * 1024 + 1 * n.val = 1024 * (t.val % 4) + n.val; omega
  show (V m c (Pipeline.arrRef spec0 4) : FVec Ideal S1x4096 .f32) ((((cfgM m hO).win 4).rect t).emb (ix2 0 n)) = _
  rw [gains_found m c gq hgq gk hgk gm hgm, h]

/-- the weights of the second result -/
theorem ws_block (hO : Ok m) (c : Dev nD) (t : Fin grid0.N) (w : FVec Ideal S1x2048x4176 .f32) (hw : m ((c.tc : Thread nD τ).loc main_arg2) = w) (k : Fin 2048) (e : Fin 128) :
    (iblk m hO c 5 t : FVec Ideal S2048x128 .bf16) (ix2 k e) = narrow w (ix2 k e) := by
  have h : (((cfgM m hO).win 5).rect t).emb (ix2 k e) = (ix2 k e : (S2048x128).Idx) := by
    obtain ⟨e0, e1, e2, e3, e4, e5, e6, e7, e8⟩ := maps t
    funext a; apply Fin.ext
    match a with
    | ⟨0, _⟩ => show cc0_transform_5 (grid0.coords t) (0 : Fin 2) * 2048 + 1 * k.val = k.val; omega
    | ⟨1, _⟩ => show cc0_transform_5 (grid0.coords t) (1 : Fin 2) * 128 + 1 * e.val = e.val; omega
  show (V m c (Pipeline.arrRef spec0 5) : FVec Ideal S2048x128 .bf16) ((((cfgM m hO).win 5).rect t).emb (ix2 k e)) = _
  rw [narrow_found m c w hw, h]

/-- and its gains. -/
theorem gs_block (hO : Ok m) (c : Dev nD) (t : Fin grid0.N) (e : Fin 128) :
    (iblk m hO c 6 t : FVec Ideal S1x128 .f32) (ix2 0 e) = narrowGains (ix2 0 e) := by
  have h : (((cfgM m hO).win 6).rect t).emb (ix2 0 e) = (ix2 0 e : (S1x128).Idx) := by
    obtain ⟨e0, e1, e2, e3, e4, e5, e6, e7, e8⟩ := maps t
    funext a; apply Fin.ext
    match a with
    | ⟨0, _⟩ => show cc0_transform_6 (grid0.coords t) (0 : Fin 2) * 1 + 1 * 0 = 0; omega
    | ⟨1, _⟩ => show cc0_transform_6 (grid0.coords t) (1 : Fin 2) * 128 + 1 * e.val = e.val; omega
  show (V m c (Pipeline.arrRef spec0 6) : FVec Ideal S1x128 .f32) ((((cfgM m hO).win 6).rect t).emb (ix2 0 e)) = _
  rw [narrowGains_found m c, h]

/-! ## The kept rows and the block of every point -/

/-- The normalised row of point `t`. -/
def kept (x : FVec Ideal S4x4096x2048 .f32) (g : FVec Ideal S2x2048 .f32) (t : Fin grid0.N) (r : Fin 1024) (k : Fin 2048) : EReal :=
  FfnSpec.nrm (fun R k => x (ix3 (batchOf R) (seqOf R) k)) (fun k => g (ix2 1 k)) (rowOf t r) k

theorem fresh (hO : Ok m) (c : Dev nD) (t : Fin grid0.N) (x : FVec Ideal S4x4096x2048 .f32) (g : FVec Ideal S2x2048 .f32) (hx : m ((c.tc : Thread nD τ).loc main_arg0) = x) (hg : m ((c.tc : Thread nD τ).loc main_arg1) = g) (r : Fin 1024) (k : Fin 2048) :
    k0_pay10 (F := Ideal) (iblk m hO c 0 t) (iblk m hO c 1 t) (ix2 r k) = kept x g t r k := by
  refine (pay10_apply _ _ r k).trans ?_
  unfold kept FfnSpec.nrm
  simp only [x_block m hO c t x hx, g_block m hO c t g hg]

/-- Every point keeps the normalised rows of its row block. -/
theorem rows_kept (hO : Ok m) (hH : Hyps m hO) (c : Dev nD) (x : FVec Ideal S4x4096x2048 .f32) (g : FVec Ideal S2x2048 .f32) (hx : m ((c.tc : Thread nD τ).loc main_arg0) = x) (hg : m ((c.tc : Thread nD τ).loc main_arg1) = g) :
    ∀ (n : ℕ) (hn : n < grid0.N) (r : Fin 1024) (k : Fin 2048), (outsAt0 m hO hH c n hn).2.2 (ix2 r k) = kept x g ⟨n, hn⟩ r k := by
  intro n
  induction n with
  | zero =>
    intro hn r k
    rw [outsAt0_A m hO hH c ⟨0, hn⟩ (by dsimp only) (by dsimp only; omega) (by dsimp only; omega) (by dsimp only; omega) (by dsimp only; omega) (by dsimp only; omega)]
    dsimp only
    refine (congrFun (sout_A ..) (ix2 r k)).trans ?_
    exact fresh m hO c ⟨0, hn⟩ x g hx hg r k
  | succ n ih =>
    intro hn r k
    by_cases h0 : (n + 1) % 4 = 0
    · rw [outsAt0_A m hO hH c ⟨n + 1, hn⟩ h0 (by dsimp only; omega) (by dsimp only; omega) (by dsimp only; omega) (by dsimp only; omega) (by dsimp only; omega)]
      dsimp only
      refine (congrFun (sout_A ..) (ix2 r k)).trans ?_
      exact fresh m hO c ⟨n + 1, hn⟩ x g hx hg r k
    · have hp : kept x g ⟨n + 1, hn⟩ r k = kept x g ⟨n, Nat.lt_of_succ_lt hn⟩ r k := by
        unfold kept
        refine congrArg (fun R => FfnSpec.nrm _ _ R k) (Fin.ext ?_)
        show 1024 * ((n + 1) / 4) + r.val = 1024 * (n / 4) + r.val
        omega
      rw [hp, ← ih (Nat.lt_of_succ_lt hn) r k]
      by_cases h1 : 2 ≤ (n + 1) % 4
      · by_cases h3 : (n + 1) % 4 = 2
        · rw [outsAt0_C m hO hH c ⟨n + 1, hn⟩ h0 h1 (by dsimp only; omega) h3 (by dsimp only; omega) (by dsimp only; omega)]; rfl
        · rw [outsAt0_D m hO hH c ⟨n + 1, hn⟩ h0 h1 (by dsimp only; omega) h3 h3 (by dsimp only; omega)]; rfl
      · rw [outsAt0_B m hO hH c ⟨n + 1, hn⟩ h0 h1 (by dsimp only; omega) (by dsimp only; omega) (by dsimp only; omega) (by dsimp only; omega)]; rfl

/-- The product of kept rows and the point's weights. -/
theorem prod_eq (hO : Ok m) (c : Dev nD) (t : Fin grid0.N) (x : FVec Ideal S4x4096x2048 .f32) (g : FVec Ideal S2x2048 .f32) (w : FVec Ideal S1x2048x4176 .f32) (hw : m ((c.tc : Thread nD τ).loc main_arg2) = w)
    (h : Vec Ideal S1024x2048 .bf16) (hh : ∀ r k, h (ix2 r k) = kept x g t r k) (r n : Fin 1024) :
    prodAt h (iblk m hO c 2 t) r n = products x g w (rowOf t r) (src (colAt (blkOf t) n)) := by
  refine (pay11_apply _ _ r n).trans ?_
  unfold products proj
  refine Finset.sum_congr rfl fun k _ => ?_
  rw [hh, w_block m hO c t w hw]
  rfl

/-- The words of the table at a column block, as places of the group matrices. -/
theorem place0 : ∀ t : Fin grid0.N, t.val % 4 ≤ 1 → k0_off2 (lit0 ⟨2 * (t.val % 4), by omega⟩) = ![(2 : Fin 3).val, 0, 0] := by decide +kernel
theorem place1 : ∀ t : Fin grid0.N, t.val % 4 ≠ 2 → k0_off4 (lit0 ⟨2 * (t.val % 4) + 1, by omega⟩) = ![(2 : Fin 3).val, 0, 0] := by decide +kernel

/-- What every point leaves at row `r`, column `n` of its block. -/
theorem point_value (hO : Ok m) (hH : Hyps m hO) (c : Dev nD) (x : FVec Ideal S4x4096x2048 .f32) (g : FVec Ideal S2x2048 .f32) (w : FVec Ideal S1x2048x4176 .f32) (gq gk : FVec Ideal S1x128 .f32) (gm : FVec Ideal S2x128 .f32) (hx : m ((c.tc : Thread nD τ).loc main_arg0) = x) (hg : m ((c.tc : Thread nD τ).loc main_arg1) = g) (hw : m ((c.tc : Thread nD τ).loc main_arg2) = w) (hgq : m ((c.tc : Thread nD τ).loc main_arg3) = gq) (hgk : m ((c.tc : Thread nD τ).loc main_arg4) = gk) (hgm : m ((c.tc : Thread nD τ).loc main_arg5) = gm) (t : Fin grid0.N) (r n : Fin 1024) :
    (outsAt0 m hO hH c t.val t.isLt).1 (ix2 r n) = value x g w gq gk gm (rowOf t r) (colAt (blkOf t) n) := by
  have hb : (blkOf t).val = t.val % 4 := rfl
  have hc : (colAt (blkOf t) n).val = 1024 * (t.val % 4) + n.val := rfl
  have hn := n.isLt
  have hG := gains_block m hO c t gq gk gm hgq hgk hgm n
  have gr : ∀ κ l e, (iblk m hO c 3 t : FVec Ideal S3x128x128 .bf16) (ix3 κ l e) = Cert.Kernel2Ideal.ProjA.groups (ix3 κ l e) := groups_block m hO c t
  have back : ∀ (h : 0 < t.val % 4) r k, (outsAt0 m hO hH c (t.val - 1) (Nat.lt_of_le_of_lt (Nat.sub_le _ _) t.isLt)).2.2 (ix2 r k) = kept x g t r k := fun h r k => by
    rw [rows_kept m hO hH c x g hx hg]
    unfold kept
    refine congrArg (fun R => FfnSpec.nrm _ _ R k) (Fin.ext ?_)
    show 1024 * ((t.val - 1) / 4) + r.val = 1024 * (t.val / 4) + r.val
    omega
  let P : Fin 4096 → EReal := fun n => products x g w (rowOf t r) (src n)
  by_cases h1 : 2 ≤ t.val % 4
  · by_cases h3 : t.val % 4 = 2
    · rw [outsAt0_C m hO hH c t (by omega) h1 (by omega) h3 (by omega) (by omega)]
      dsimp only
      refine (congrFun (out_C ..) (ix2 r n)).trans ?_
      show plainAt _ _ r n = _
      unfold plainAt
      rw [prod_eq m hO c t x g w hw _ (back (by omega)) r n, hG]
      exact cols_plain gq gk gm P _ (by omega) (by omega)
    · rw [outsAt0_D m hO hH c t (by omega) h1 (by omega) h3 h3 (by omega)]
      dsimp only
      refine (congrFun (out_D (κ := 2) (k2 := ((congrArg k0_off4 (word1_eq m c t)).trans (place1 t (by omega)))) ..) (ix2 r n)).trans ?_
      show (if n.val < 512 then plainAt _ _ r n else normAt _ _ 2 _ r n) = _
      by_cases hh : n.val < 512
      · rw [if_pos hh]
        unfold plainAt
        rw [prod_eq m hO c t x g w hw _ (back (by omega)) r n, hG]
        exact cols_plain gq gk gm P _ (by omega) (by omega)
      · rw [if_neg hh]
        refine (norm_two _ _ _ r (blkOf t) P (fun n => prod_eq m hO c t x g w hw _ (back (by omega)) r n) (gr 2) n).trans ?_
        refine (congrArg₂ (fun a b : EReal => a * b) rfl hG).trans ?_
        exact cols_memory gq gk gm P _ (by omega)
  · by_cases h0 : t.val % 4 = 0
    · rw [outsAt0_A m hO hH c t h0 h1 (by omega) (by omega) (by omega) (by omega)]
      dsimp only
      refine (congrFun (out_A (κ := 2) (k1 := ((congrArg k0_off2 (word0_eq m c t)).trans (place0 t (by omega)))) (k2 := ((congrArg k0_off4 (word1_eq m c t)).trans (place1 t (by omega)))) ..) (ix2 r n)).trans ?_
      show normAt _ _ 2 _ r n = _
      refine (norm_two _ _ _ r (blkOf t) P (fun n => prod_eq m hO c t x g w hw _ (fresh m hO c t x g hx hg) r n) (gr 2) n).trans ?_
      refine (congrArg₂ (fun a b : EReal => a * b) rfl hG).trans ?_
      exact cols_head gq gk gm P _ (by omega)
    · rw [outsAt0_B m hO hH c t h0 h1 (by omega) (by omega) (by omega) (by omega)]
      dsimp only
      refine (congrFun (out_B (κ := 2) (k1 := ((congrArg k0_off2 (word0_eq m c t)).trans (place0 t (by omega)))) (k2 := ((congrArg k0_off4 (word1_eq m c t)).trans (place1 t (by omega)))) ..) (ix2 r n)).trans ?_
      show normAt _ _ 2 _ r n = _
      refine (norm_two _ _ _ r (blkOf t) P (fun n => prod_eq m hO c t x g w hw _ (back (by omega)) r n) (gr 2) n).trans ?_
      refine (congrArg₂ (fun a b : EReal => a * b) rfl hG).trans ?_
      exact cols_head gq gk gm P _ (by omega)

/-- What a row block's last point leaves of the second result. -/
theorem side_value (hO : Ok m) (hH : Hyps m hO) (c : Dev nD) (x : FVec Ideal S4x4096x2048 .f32) (g : FVec Ideal S2x2048 .f32) (w : FVec Ideal S1x2048x4176 .f32) (hx : m ((c.tc : Thread nD τ).loc main_arg0) = x) (hg : m ((c.tc : Thread nD τ).loc main_arg1) = g) (hw : m ((c.tc : Thread nD τ).loc main_arg2) = w) (t : Fin grid0.N) (h5 : t.val % 4 = 3) (r : Fin 1024) (e : Fin 128) :
    (outsAt0 m hO hH c t.val t.isLt).2.1 (ix2 r e) = sideValue x g w (rowOf t r) e := by
  have back : ∀ k, (outsAt0 m hO hH c (t.val - 1) (Nat.lt_of_le_of_lt (Nat.sub_le _ _) t.isLt)).2.2 (ix2 r k) = kept x g t r k := fun k => by
    rw [rows_kept m hO hH c x g hx hg]
    unfold kept
    refine congrArg (fun R => FfnSpec.nrm _ _ R k) (Fin.ext ?_)
    show 1024 * ((t.val - 1) / 4) + r.val = 1024 * (t.val / 4) + r.val
    omega
  rw [outsAt0_D m hO hH c t (by omega) (by omega) (by omega) (by omega) (by omega) h5]
  dsimp only
  refine (congrFun (side_D ..) (ix2 r e)).trans ?_
  refine (pay1_apply _ _ _ r e).trans ?_
  refine Eq.trans ?_ (side_cols (kept x g t r) w e)
  refine congrArg₂ (fun a b : EReal => a * b) (Finset.sum_congr rfl fun k _ => ?_) (gs_block m hO c t e)
  exact congrArg₂ (fun a b : EReal => a * b) (back k) (ws_block m hO c t w hw k e)

end Cert.Kernel4Ideal.ProjB

end
-- ==== Proof.ProjBArray.lean ====
/-
  The second input projection's array: the points' blocks, put together, are the projection of the arguments.
-/
module

public import proofs.«01_k».proof.Proof.ProjBValue
public import Idealize.ShloMosaic.Lib.Pointwise

@[expose] public section

set_option maxRecDepth 16384
set_option maxHeartbeats 400000

noncomputable section

open Idealize.ShloMosaic Idealize.ShloMosaic.TcCoe Idealize.SL.Sem

namespace Cert.Kernel4Ideal.ProjB

open Cert.Kernel4Ideal Cert.Kernel4Ideal.Gen Cert.ProjBSpec

variable (m : (ℓ : Loc nD τ sig) → Buf (Elt Ideal) ℓ)

/-! ## The array the run leaves -/

/-- Distinct points write distinct blocks. -/
theorem idx_inj : ∀ t t' : Fin grid0.N, cc0_transform_7 (grid0.coords t) = cc0_transform_7 (grid0.coords t') → t = t' := by
  decide +kernel

theorem disjoint (hO : Ok m) : ∀ t t' : Fin (cfgM m hO).N, ((cfgM m hO).win 7).flush t = true → ((cfgM m hO).win 7).flush t' = true → t ≠ t' →
    Disjoint (((cfgM m hO).win 7).blk t).view.set (((cfgM m hO).win 7).blk t').view.set :=
  fun t t' _ _ hne => ((cfgM m hO).win 7).disjoint_blk fun h => hne (idx_inj t t' h)

/-- A block of the final array is what its point left. -/
theorem blocks (hO : Ok m) (hH : Hyps m hO) (c : Dev nD) (t : Fin (cfgM m hO).N) :
    (((cfgM m hO).win 7).blk t).view.read (Elt Ideal) ((dats m hO hH 0 c).arrAt 7 (cfgM m hO).N)
      = ((cfgM m hO).win 7).cut ((cfgM m hO).grid.coords t) (outsAt0 m hO hH c t.val t.isLt).1 := by
  refine ((dats m hO hH 0 c).read_blk_arrAt_eq_flushed 7 (disjoint m hO) (cfgM m hO).N t t.isLt (flush0_7 (adm m hO) t)).trans ?_
  show ((cfgM m hO).win 7).cut _ ((dats m hO hH 0 c).after 7 t) = _
  rw [after0_7]

/-- Where the block of a point lies in the array. -/
theorem block_at (hO : Ok m) (t : Fin grid0.N) (r n : Fin 1024) (R : Fin 16384) (N : Fin 4096) (hR : R.val = 1024 * (t.val / 4) + r.val) (hN : N.val = 1024 * (t.val % 4) + n.val) :
    (((cfgM m hO).win 7).rect t).emb (ix2 r n) = (ix2 R N : S16384x4096.Idx) := by
  obtain ⟨-, -, -, -, -, -, -, ⟨e0, e1⟩, -⟩ := maps t
  funext a; apply Fin.ext
  match a with
  | ⟨0, _⟩ => show cc0_transform_7 (grid0.coords t) (0 : Fin 2) * 1024 + 1 * r.val = R.val; omega
  | ⟨1, _⟩ => show cc0_transform_7 (grid0.coords t) (1 : Fin 2) * 1024 + 1 * n.val = N.val; omega

/-- A point's block of an array, read at an index. -/
theorem read_at (hO : Ok m) (t : Fin grid0.N) (r n : Fin 1024) (A : FVec Ideal S16384x4096 .bf16) :
    (((cfgM m hO).win 7).blk t).view.read (Elt Ideal) A (ix2 r n) = A ((((cfgM m hO).win 7).rect t).emb (ix2 r n)) := by
  rfl

/-- Every block is whole. -/
theorem whole_at (hO : Ok m) (t : Fin grid0.N) (r n : Fin 1024) (A : FVec Ideal S1024x1024 .bf16) :
    ((cfgM m hO).win 7).cut ((cfgM m hO).grid.coords t) A (ix2 r n) = A (ix2 r n) := by
  rfl

/-- The array at a point's block. -/
theorem array_at (hO : Ok m) (hH : Hyps m hO) (c : Dev nD) (t : Fin grid0.N) (r n : Fin 1024) :
    (((cfgM m hO).win 7).blk t).view.read (Elt Ideal) ((dats m hO hH 0 c).arrAt 7 (cfgM m hO).N) (ix2 r n)
      = ((cfgM m hO).win 7).cut ((cfgM m hO).grid.coords t) (outsAt0 m hO hH c t.val t.isLt).1 (ix2 r n) := by
  have h := congrFun (blocks m hO hH c t) (ix2 r n)
  exact h

/-- Every row and column lies in the block of some point. -/
theorem covered (R : Fin 16384) (N : Fin 4096) : ∃ (t : Fin grid0.N) (r n : Fin 1024), R.val = 1024 * (t.val / 4) + r.val ∧ N.val = 1024 * (t.val % 4) + n.val :=
  have hR := R.isLt
  have hN := N.isLt
  ⟨⟨4 * (R.val / 1024) + N.val / 1024, lt_of_lt_of_eq (by omega) (show 64 = grid0.N from N_0.symm)⟩, ⟨R.val % 1024, Nat.mod_lt _ (by decide)⟩,
    ⟨N.val % 1024, Nat.mod_lt _ (by decide)⟩, by dsimp only; omega, by dsimp only; omega⟩

/-- The first final array is the projection of the arguments. -/
theorem final_eq (hO : Ok m) (hH : Hyps m hO) (c : Dev nD) (x : FVec Ideal S4x4096x2048 .f32) (g : FVec Ideal S2x2048 .f32) (w : FVec Ideal S1x2048x4176 .f32) (gq gk : FVec Ideal S1x128 .f32) (gm : FVec Ideal S2x128 .f32) (hx : m ((c.tc : Thread nD τ).loc main_arg0) = x) (hg : m ((c.tc : Thread nD τ).loc main_arg1) = g) (hw : m ((c.tc : Thread nD τ).loc main_arg2) = w) (hgq : m ((c.tc : Thread nD τ).loc main_arg3) = gq) (hgk : m ((c.tc : Thread nD τ).loc main_arg4) = gk) (hgm : m ((c.tc : Thread nD τ).loc main_arg5) = gm) :
    @Eq (FVec Ideal S16384x4096 .bf16) ((dats m hO hH 0 c).arrAt 7 (cfgM m hO).N) (result x g w gq gk gm) := by
  refine funext fun (i : S16384x4096.Idx) => ?_
  obtain ⟨R, N, rfl⟩ : ∃ (R : Fin 16384) (N : Fin 4096), i = ix2 R N := ⟨i 0, i 1, eq_ix2 i⟩
  obtain ⟨t, r, n, hR, hN⟩ := covered R N
  have h := (read_at m hO t r n _).symm.trans ((array_at m hO hH c t r n).trans ((whole_at m hO t r n _).trans
    (point_value m hO hH c x g w gq gk gm hx hg hw hgq hgk hgm t r n)))
  rw [block_at m hO t r n R N hR hN, show rowOf t r = R from Fin.ext hR.symm, show colAt (blkOf t) n = N from Fin.ext hN.symm] at h
  exact h

/-! ## The second array -/

/-- Distinct row blocks' last points write distinct blocks. -/
theorem side_inj : ∀ t t' : Fin grid0.N, t.val % 4 = 3 → t'.val % 4 = 3 → cc0_transform_8 (grid0.coords t) = cc0_transform_8 (grid0.coords t') → t = t' := by
  intro t t' h h' e
  obtain ⟨-, -, -, -, -, -, -, -, e0, -⟩ := maps t
  obtain ⟨-, -, -, -, -, -, -, -, e1, -⟩ := maps t'
  have e2 := congrFun e (0 : Fin 2)
  rw [e0, e1] at e2
  apply Fin.ext
  omega

theorem side_disjoint (hO : Ok m) : ∀ t t' : Fin (cfgM m hO).N, ((cfgM m hO).win 8).flush t = true → ((cfgM m hO).win 8).flush t' = true → t ≠ t' →
    Disjoint (((cfgM m hO).win 8).blk t).view.set (((cfgM m hO).win 8).blk t').view.set :=
  fun t t' h h' hne => ((cfgM m hO).win 8).disjoint_blk fun e => hne (side_inj t t' ((flush0_8 (adm m hO) t).mp h) ((flush0_8 (adm m hO) t').mp h') e)

/-- A block of the second array is what its row block's last point left. -/
theorem side_blocks (hO : Ok m) (hH : Hyps m hO) (c : Dev nD) (t : Fin (cfgM m hO).N) (ht : t.val % 4 = 3) :
    (((cfgM m hO).win 8).blk t).view.read (Elt Ideal) ((dats m hO hH 0 c).arrAt 8 (cfgM m hO).N)
      = ((cfgM m hO).win 8).cut ((cfgM m hO).grid.coords t) (outsAt0 m hO hH c t.val t.isLt).2.1 := by
  refine ((dats m hO hH 0 c).read_blk_arrAt_eq_flushed 8 (side_disjoint m hO) (cfgM m hO).N t t.isLt ((flush0_8 (adm m hO) t).mpr ht)).trans ?_
  show ((cfgM m hO).win 8).cut _ ((dats m hO hH 0 c).after 8 t) = _
  rw [after0_8]

/-- Where it lies in the array. -/
theorem side_block_at (hO : Ok m) (t : Fin grid0.N) (r : Fin 1024) (e : Fin 128) (R : Fin 16384) (hR : R.val = 1024 * (t.val / 4) + r.val) :
    (((cfgM m hO).win 8).rect t).emb (ix2 r e) = (ix2 R e : S16384x128.Idx) := by
  obtain ⟨-, -, -, -, -, -, -, -, e0, e1⟩ := maps t
  funext a; apply Fin.ext
  match a with
  | ⟨0, _⟩ => show cc0_transform_8 (grid0.coords t) (0 : Fin 2) * 1024 + 1 * r.val = R.val; omega
  | ⟨1, _⟩ => show cc0_transform_8 (grid0.coords t) (1 : Fin 2) * 128 + 1 * e.val = e.val; omega

/-- A point's block of the second array, read at an index. -/
theorem side_read_at (hO : Ok m) (t : Fin grid0.N) (r : Fin 1024) (e : Fin 128) (A : FVec Ideal S16384x128 .f32) :
    (((cfgM m hO).win 8).blk t).view.read (Elt Ideal) A (ix2 r e) = A ((((cfgM m hO).win 8).rect t).emb (ix2 r e)) := by
  rfl

/-- Every such block is whole. -/
theorem side_whole_at (hO : Ok m) (t : Fin grid0.N) (r : Fin 1024) (e : Fin 128) (A : FVec Ideal S1024x128 .f32) :
    ((cfgM m hO).win 8).cut ((cfgM m hO).grid.coords t) A (ix2 r e) = A (ix2 r e) := by
  rfl

/-- The second array at a point's block. -/
theorem side_array_at (hO : Ok m) (hH : Hyps m hO) (c : Dev nD) (t : Fin grid0.N) (ht : t.val % 4 = 3) (r : Fin 1024) (e : Fin 128) :
    (((cfgM m hO).win 8).blk t).view.read (Elt Ideal) ((dats m hO hH 0 c).arrAt 8 (cfgM m hO).N) (ix2 r e)
      = ((cfgM m hO).win 8).cut ((cfgM m hO).grid.coords t) (outsAt0 m hO hH c t.val t.isLt).2.1 (ix2 r e) := by
  have h := congrFun (side_blocks m hO hH c t ht) (ix2 r e)
  exact h

/-- Every row lies in the block of some row block's last point. -/
theorem side_covered (R : Fin 16384) : ∃ (t : Fin grid0.N) (r : Fin 1024), t.val % 4 = 3 ∧ R.val = 1024 * (t.val / 4) + r.val :=
  have hR := R.isLt
  ⟨⟨4 * (R.val / 1024) + 3, lt_of_lt_of_eq (by omega) (show 64 = grid0.N from N_0.symm)⟩, ⟨R.val % 1024, Nat.mod_lt _ (by decide)⟩, by dsimp only; omega, by dsimp only; omega⟩

/-- The second final array is the second result of the arguments. -/
theorem side_final_eq (hO : Ok m) (hH : Hyps m hO) (c : Dev nD) (x : FVec Ideal S4x4096x2048 .f32) (g : FVec Ideal S2x2048 .f32) (w : FVec Ideal S1x2048x4176 .f32) (hx : m ((c.tc : Thread nD τ).loc main_arg0) = x) (hg : m ((c.tc : Thread nD τ).loc main_arg1) = g) (hw : m ((c.tc : Thread nD τ).loc main_arg2) = w) :
    @Eq (FVec Ideal S16384x128 .f32) ((dats m hO hH 0 c).arrAt 8 (cfgM m hO).N) (sideResult x g w) := by
  refine funext fun (i : S16384x128.Idx) => ?_
  obtain ⟨R, e, rfl⟩ : ∃ (R : Fin 16384) (e : Fin 128), i = ix2 R e := ⟨i 0, i 1, eq_ix2 i⟩
  obtain ⟨t, r, ht, hR⟩ := side_covered R
  have h := (side_read_at m hO t r e _).symm.trans ((side_array_at m hO hH c t ht r e).trans ((side_whole_at m hO t r e _).trans
    (side_value m hO hH c x g w hx hg hw t ht r e)))
  rw [side_block_at m hO t r e R hR, show rowOf t r = R from Fin.ext hR.symm] at h
  exact h

/-- The run ends with the final arrays in its results and leaves its arguments as they were. -/
theorem run_values (ρ : Dev nD → PrngReg) (hO : Ok m) (hH : Hyps m hO) : θ_run defs (onTc (τ := τ) (main (F := Ideal))) ⟨m, fun _ => 0, ρ⟩ (fun r => ∀ c : Dev nD,
      r.2.mem ((c.tc : Thread nD τ).loc main_v60_0) = (dats m hO hH 0 c).arrAt 7 (cfgM m hO).N
      ∧ r.2.mem ((c.tc : Thread nD τ).loc main_v60_1) = (dats m hO hH 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1 7, (h c).1 8,
    ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c)⟩)
    (run_main m ρ hO hH)

end Cert.Kernel4Ideal.ProjB

end
-- ==== Proof.ProjBRef.lean ====
/-
  The second input projection's reference: its results at an index are the kernel's.
-/
module

public import proofs.«01_k».proof.Proof.ProjARef
public import proofs.«01_k».proof.Proof.ProjBArray
public import proofs.«01_k».proof.Proof.Gen.Reference4Ideal.Run
public import Idealize.ShloMosaic.Lib.Tactic

@[expose] public section

set_option maxRecDepth 16384

noncomputable section

open Idealize.ShloMosaic Idealize.ShloMosaic.TcCoe Idealize.SL.Sem

namespace Cert.Reference4Ideal.ProjB

open Cert.Reference4Ideal Cert.Reference4Ideal.Gen
open Cert.Reference2Ideal.ProjA (split_apply)
open Cert.ProjBSpec (src root)

/-- The normalised rows, -/
def normalised (y : FVec Ideal S16384x2048 .f32) (g : FVec Ideal S2x2048 .f32) : FVec Ideal S16384x2048 .f32 :=
  (mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![1, 0] g slices_S2x2048_S1x2048_1_0) shapeCasts_S1x2048_S2048))))
/-- their product with the weights, -/
def product (y : FVec Ideal S16384x2048 .f32) (w : FVec Ideal S1x2048x4176 .f32) : FVec Ideal S16384x4176 .f32 :=
  (Host.dotGeneral dot_S16384x2048_S2048x4176_S16384x4176_1_0_0_1_n_n none y (shapeCast _ w shapeCasts_S1x2048x4176_S2048x4176))
/-- twelve heads normalised, -/
def heads12 (q : FVec Ideal S16384x12x128 .f32) (gain : FVec Ideal S1x128 .f32) : FVec Ideal S16384x12x128 .f32 :=
  (mulf (mulf q (broadcastInDim S16384x12x128 ![0, 1, 2] bcast_S16384x12x1_S16384x12x128_0_1_2 (Host.rsqrt (addf (Host.divf (broadcastInDim S16384x12x1 ![0, 1] bcast_S16384x12_S16384x12x1_0_1 (Host.reduceAdd (mulf q q) (constant S_ .f32 0x00000000#32) reducesTo_S16384x12x128_S16384x12_d2 h_S_)) (broadcastInDim S16384x12x1 ![] bcast_S_S16384x12x1 (constant S_ .f32 0x43000000#32))) (broadcastInDim S16384x12x1 ![] bcast_S_S16384x12x1 (constant S_ .f32 0x358637BD#32)))))) (broadcastInDim S16384x12x128 ![0, 1, 2] bcast_S1x1x128_S16384x12x128_0_1_2 (broadcastInDim S1x1x128 ![2] bcast_S128_S1x1x128_2 (shapeCast _ gain shapeCasts_S1x128_S128))))
/-- four heads normalised, -/
def heads4 (q : FVec Ideal S16384x4x128 .f32) (gain : FVec Ideal S1x128 .f32) : FVec Ideal S16384x4x128 .f32 :=
  (mulf (mulf q (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf q q) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x1x128_S16384x4x128_0_1_2 (broadcastInDim S1x1x128 ![2] bcast_S128_S1x1x128_2 (shapeCast _ gain shapeCasts_S1x128_S128))))
/-- the five parts of the first result joined, -/
def joined (p : FVec Ideal S16384x4176 .f32) (gq gk : FVec Ideal S1x128 .f32) (gm : FVec Ideal S2x128 .f32) : FVec Ideal S16384x4096 .bf16 :=
  truncf .bf16 ((concatenate S16384x4096 1 [⟨S16384x1536, ((shapeCast _ (mulf (heads12 (shapeCast _ (extractStridedSlice S16384x1536 ![0, 0] p slices_S16384x4176_S16384x1536_0_0) shapeCasts_S16384x1536_S16384x12x128) gq) (broadcastInDim S16384x12x128 ![] bcast_S_S16384x12x128 (constant S_ .f32 0x3E0293EE#32))) shapeCasts_S16384x12x128_S16384x1536) : (⟨S16384x1536, .f32⟩ : BufTy).Contents (Elt Ideal))⟩, ⟨S16384x512, ((shapeCast _ (heads4 (shapeCast _ (extractStridedSlice S16384x512 ![0, 1536] p slices_S16384x4176_S16384x512_0_1536) shapeCasts_S16384x512_S16384x4x128) gk) shapeCasts_S16384x4x128_S16384x512) : (⟨S16384x512, .f32⟩ : BufTy).Contents (Elt Ideal))⟩, ⟨S16384x1024, ((extractStridedSlice S16384x1024 ![0, 2560] p slices_S16384x4176_S16384x1024_0_2560) : (⟨S16384x1024, .f32⟩ : BufTy).Contents (Elt Ideal))⟩, ⟨S16384x512, ((extractStridedSlice S16384x512 ![0, 2048] p slices_S16384x4176_S16384x512_0_2048) : (⟨S16384x512, .f32⟩ : BufTy).Contents (Elt Ideal))⟩, ⟨S16384x512, ((shapeCast _ (mulf (heads4 (shapeCast _ (extractStridedSlice S16384x512 ![0, 3664] p slices_S16384x4176_S16384x512_0_3664) shapeCasts_S16384x512_S16384x4x128) (extractStridedSlice S1x128 ![1, 0] gm slices_S2x128_S1x128_1_0)) (broadcastInDim S16384x4x128 ![] bcast_S_S16384x4x128 (constant S_ .f32 0x3E0293EE#32))) shapeCasts_S16384x4x128_S16384x512) : (⟨S16384x512, .f32⟩ : BufTy).Contents (Elt Ideal))⟩] concatenates_S16384x1536_S16384x512_S16384x1024_S16384x512_S16384x512_S16384x4096_d1 : (⟨S16384x4096, .f32⟩ : BufTy).Contents (Elt Ideal))) bitsLt_bf16_f32
/-- and the three of the second. -/
def sideJoined (p : FVec Ideal S16384x4176 .f32) : FVec Ideal S16384x128 .f32 :=
  (concatenate S16384x128 1 [⟨S16384x64, ((extractStridedSlice S16384x64 ![0, 3584] p slices_S16384x4176_S16384x64_0_3584) : (⟨S16384x64, .f32⟩ : BufTy).Contents (Elt Ideal))⟩, ⟨S16384x16, ((mulf (F := Ideal) (extractStridedSlice S16384x16 ![0, 3648] p slices_S16384x4176_S16384x16_0_3648) (broadcastInDim S16384x16 ![] bcast_S_S16384x16 (constant S_ .f32 0x3D000000#32))) : (⟨S16384x16, .f32⟩ : BufTy).Contents (Elt Ideal))⟩, ⟨S16384x48, ((broadcastInDim S16384x48 ![] bcast_S_S16384x48 (constant (F := Ideal) S_ .f32 0x00000000#32)) : (⟨S16384x48, .f32⟩ : BufTy).Contents (Elt Ideal))⟩] concatenates_S16384x64_S16384x16_S16384x48_S16384x128_d1 : (⟨S16384x128, .f32⟩ : BufTy).Contents (Elt Ideal))

theorem normalised_apply (y : FVec Ideal S16384x2048 .f32) (g : FVec Ideal S2x2048 .f32) (R : Fin 16384) (k : Fin 2048) :
    normalised y g (ix2 R k) = FfnSpec.nrm (fun R k => y (ix2 R k)) (fun k => g (ix2 1 k)) R k := by
  pointwise [normalised, FfnSpec.nrm]

theorem product_apply (y : FVec Ideal S16384x2048 .f32) (w : FVec Ideal S1x2048x4176 .f32) (R : Fin 16384) (n : Fin 4176) :
    product y w (ix2 R n) = ∑ k : Fin 2048, y (ix2 R k) * w (ix3 0 k n) := by
  pointwise [product]

theorem heads12_apply (q : FVec Ideal S16384x12x128 .f32) (gain : FVec Ideal S1x128 .f32) (R : Fin 16384) (h : Fin 12) (e : Fin 128) :
    heads12 q gain (ix3 R h e) = q (ix3 R h e) * Ideal.rsqrt (Ideal.div (∑ l : Fin 128, q (ix3 R h l) * q (ix3 R h l)) (Ideal.ofBits FTy.f32 1124073472#32)
      + Ideal.ofBits FTy.f32 897988541#32) * gain (ix2 0 e) := by
  pointwise [heads12]

/-- One of twelve heads at column `n` of the result. -/
theorem head12 (p : Fin 4096 → EReal) (R : Fin 16384) (n : Fin 4096) (q : FVec Ideal S16384x12x128 .f32) (gain : FVec Ideal S1x128 .f32) (h : Fin 12) (e : Fin 128)
    (hq : ∀ l : Fin 128, q (ix3 R h l) = p ⟨128 * (n.val / 128) + l.val, by omega⟩) (he : e.val = n.val % 128) :
    heads12 q gain (ix3 R h e) = p n * root p n * gain (ix2 0 ⟨n.val % 128, by omega⟩) := by
  rw [heads12_apply]
  unfold root
  simp only [hq]
  have e1 : (⟨128 * (n.val / 128) + e.val, by omega⟩ : Fin 4096) = n := Fin.ext (by show 128 * (n.val / 128) + e.val = n.val; omega)
  have e2 : e = ⟨n.val % 128, by omega⟩ := Fin.ext he
  rw [e1, ← e2]

theorem heads4_apply (q : FVec Ideal S16384x4x128 .f32) (gain : FVec Ideal S1x128 .f32) (R : Fin 16384) (h : Fin 4) (e : Fin 128) :
    heads4 q gain (ix3 R h e) = q (ix3 R h e) * Ideal.rsqrt (Ideal.div (∑ l : Fin 128, q (ix3 R h l) * q (ix3 R h l)) (Ideal.ofBits FTy.f32 1124073472#32)
      + Ideal.ofBits FTy.f32 897988541#32) * gain (ix2 0 e) := by
  pointwise [heads4]

/-- One of four heads at column `n` of the result. -/
theorem head4 (p : Fin 4096 → EReal) (R : Fin 16384) (n : Fin 4096) (q : FVec Ideal S16384x4x128 .f32) (gain : FVec Ideal S1x128 .f32) (h : Fin 4) (e : Fin 128)
    (hq : ∀ l : Fin 128, q (ix3 R h l) = p ⟨128 * (n.val / 128) + l.val, by omega⟩) (he : e.val = n.val % 128) :
    heads4 q gain (ix3 R h e) = p n * root p n * gain (ix2 0 ⟨n.val % 128, by omega⟩) := by
  rw [heads4_apply]
  unfold root
  simp only [hq]
  have e1 : (⟨128 * (n.val / 128) + e.val, by omega⟩ : Fin 4096) = n := Fin.ext (by show 128 * (n.val / 128) + e.val = n.val; omega)
  have e2 : e = ⟨n.val % 128, by omega⟩ := Fin.ext he
  rw [e1, ← e2]

/-- The column of the product a column of the first result is. -/
theorem src_low (n : Fin 4096) (h : n.val < 2048) : (src n).val = n.val := by
  unfold src; rw [dif_pos h]
theorem src_index (n : Fin 4096) (h : 2048 ≤ n.val) (h' : n.val < 3072) : (src n).val = n.val + 512 := by
  unfold src; rw [dif_neg (by omega), dif_pos h']
theorem src_value (n : Fin 4096) (h : 3072 ≤ n.val) (h' : n.val < 3584) : (src n).val = n.val - 1024 := by
  unfold src; rw [dif_neg (by omega), dif_neg (by omega), dif_pos h']
theorem src_high (n : Fin 4096) (h : 3584 ≤ n.val) : (src n).val = n.val + 80 := by
  unfold src; rw [dif_neg (by omega), dif_neg (by omega), dif_neg (by omega)]

/-- The joined parts at a row and column. -/
theorem joined_apply (p : FVec Ideal S16384x4176 .f32) (gq gk : FVec Ideal S1x128 .f32) (gm : FVec Ideal S2x128 .f32) (R : Fin 16384) (n : Fin 4096) :
    joined p gq gk gm (ix2 R n) = ProjBSpec.cols (fun e => gq (ix2 0 e)) (fun e => gk (ix2 0 e)) (fun e => gm (ix2 1 e)) (fun n => p (ix2 R (src n))) n := by
  have hn := n.isLt
  pointwise [joined]
  unfold ProjBSpec.cols
  by_cases h0 : n.val < 1536
  · rw [dif_pos h0, if_pos h0]
    refine congrArg₂ (fun a b : EReal => a * b) (head12 (fun n => p (ix2 R (src n))) R n _ gq _ _ ?_ rfl) rfl
    intro l
    rw [split_apply _ _ (by decide) R ⟨(n.val) / 128, by omega⟩ l ⟨(n.val) / 128 * 128 + l.val, by omega⟩ rfl]
    pointwise []
    refine congrArg (fun z => p (ix2 R z)) (Fin.ext ?_)
    rw [src_low _ (by show 128 * (n.val / 128) + l.val < 2048; omega)]
    show ((n.val) / 128 * 128 + l.val) = 128 * (n.val / 128) + l.val
    omega
  · rw [dif_neg h0, if_neg h0]
    by_cases h1 : n.val < 2048
    · rw [dif_pos (by omega), if_pos h1]
      refine head4 (fun n => p (ix2 R (src n))) R n _ gk _ _ ?_ (by show (n.val - 1536) % 128 = n.val % 128; omega)
      intro l
      rw [split_apply _ _ (by decide) R ⟨(n.val - 1536) / 128, by omega⟩ l ⟨(n.val - 1536) / 128 * 128 + l.val, by omega⟩ rfl]
      pointwise []
      refine congrArg (fun z => p (ix2 R z)) (Fin.ext ?_)
      rw [src_low _ (by show 128 * (n.val / 128) + l.val < 2048; omega)]
      show 1536 + ((n.val - 1536) / 128 * 128 + l.val) = 128 * (n.val / 128) + l.val
      omega
    · rw [dif_neg (by omega), if_neg h1]
      by_cases h2 : n.val < 3072
      · rw [dif_pos (by omega), if_pos (show n.val < 3584 by omega)]
        refine congrArg (fun z => p (ix2 R z)) (Fin.ext ?_)
        rw [src_index _ (by omega) h2]
        show 2560 + (n.val - 1536 - 512) = n.val + 512
        omega
      · rw [dif_neg (by omega)]
        by_cases h3 : n.val < 3584
        · rw [dif_pos (by omega), if_pos h3]
          refine congrArg (fun z => p (ix2 R z)) (Fin.ext ?_)
          rw [src_value _ (by omega) h3]
          show 2048 + (n.val - 1536 - 512 - 1024) = n.val - 1024
          omega
        · rw [dif_neg (by omega), if_neg h3]
          refine congrArg₂ (fun a b : EReal => a * b) ((head4 (fun n => p (ix2 R (src n))) R n _ _ _ _ ?_ (by show (n.val - 1536 - 512 - 1024 - 512) % 128 = n.val % 128; omega)).trans ?_) rfl
          · intro l
            rw [split_apply _ _ (by decide) R ⟨(n.val - 1536 - 512 - 1024 - 512) / 128, by omega⟩ l ⟨(n.val - 1536 - 512 - 1024 - 512) / 128 * 128 + l.val, by omega⟩ rfl]
            pointwise []
            refine congrArg (fun z => p (ix2 R z)) (Fin.ext ?_)
            rw [src_high _ (by show 3584 ≤ 128 * (n.val / 128) + l.val; omega)]
            show 3664 + ((n.val - 1536 - 512 - 1024 - 512) / 128 * 128 + l.val) = 128 * (n.val / 128) + l.val + 80
            omega
          · exact congrArg₂ (fun a b : EReal => a * b) rfl (Cert.Kernel4Ideal.ProjB.second_apply gm _)

/-- The second result's at a row and column. -/
theorem sideJoined_apply (p : FVec Ideal S16384x4176 .f32) (R : Fin 16384) (e : Fin 128) :
    sideJoined p (ix2 R e) = ProjBSpec.side (fun n => p (ix2 R n)) e := by
  have he := e.isLt
  pointwise [sideJoined]
  unfold ProjBSpec.side
  by_cases h0 : e.val < 64
  · rw [dif_pos h0, dif_pos (by omega), if_pos h0]
  · rw [dif_neg h0]
    by_cases h1 : e.val < 80
    · rw [dif_pos (by omega), dif_pos h1, if_neg h0]
      refine congrArg (fun z => p (ix2 R z) * _) (Fin.ext ?_)
      show 3648 + (e.val - 64) = 3584 + e.val
      omega
    · rw [dif_neg (by omega), dif_neg h1]

/-- The reference's products are the kernel's. -/
theorem products_eq (x : FVec Ideal S4x4096x2048 .f32) (g : FVec Ideal S2x2048 .f32) (w : FVec Ideal S1x2048x4176 .f32) (R : Fin 16384) :
    (fun n => product (normalised (shapeCast S16384x2048 x shapeCasts_S4x4096x2048_S16384x2048) g) w (ix2 R n)) = Cert.Kernel4Ideal.ProjB.products x g w R := by
  refine funext fun n => ?_
  rw [product_apply]
  unfold Cert.Kernel4Ideal.ProjB.products ProjBSpec.proj
  refine Finset.sum_congr rfl fun k _ => ?_
  rw [normalised_apply]
  refine congrArg₂ (fun a b : EReal => a * b) ?_ rfl
  unfold FfnSpec.nrm
  simp only [fun l : Fin 2048 => Reshapes.rows_apply x shapeCasts_S4x4096x2048_S16384x2048 (Cert.Kernel2Ideal.ProjA.batchOf R) (Cert.Kernel2Ideal.ProjA.seqOf R) l R
    (by show R.val = R.val / 4096 * 4096 + R.val % 4096; omega)]

/-- The reference's first result is the kernel's, -/
theorem result_eq (m : (ℓ : Loc nD τ sig) → Buf (Elt Ideal) ℓ) (c : Dev nD)
    (x : FVec Ideal S4x4096x2048 .f32) (g : FVec Ideal S2x2048 .f32) (w : FVec Ideal S1x2048x4176 .f32) (gq gk : FVec Ideal S1x128 .f32) (gm : FVec Ideal S2x128 .f32)
    (hx : m ((c.tc : Thread nD τ).loc main_arg0) = x) (hg : m ((c.tc : Thread nD τ).loc main_arg1) = g) (hw : m ((c.tc : Thread nD τ).loc main_arg2) = w) (hgq : m ((c.tc : Thread nD τ).loc main_arg3) = gq) (hgk : m ((c.tc : Thread nD τ).loc main_arg4) = gk) (hgm : m ((c.tc : Thread nD τ).loc main_arg5) = gm) :
    Value.res_out0 (F := Ideal) m c = Cert.Kernel4Ideal.ProjB.result x g w gq gk gm := by
  have hres : @Eq (FVec Ideal S16384x4096 .bf16) (Value.res_out0 (F := Ideal) m c)
      (joined (product (normalised (shapeCast S16384x2048 x shapeCasts_S4x4096x2048_S16384x2048) g) w) gq gk gm) := by
    unfold Value.res_out0 Value.res_main_v79 joined heads12 heads4 product normalised
    rw [hx, hg, hw, hgq, hgk, hgm]
  show @Eq (FVec Ideal S16384x4096 .bf16) _ _
  rw [hres]
  refine funext fun (i : S16384x4096.Idx) => ?_
  obtain ⟨R, n, rfl⟩ : ∃ (R : Fin 16384) (n : Fin 4096), i = ix2 R n := ⟨i 0, i 1, eq_ix2 i⟩
  rw [joined_apply]
  show _ = Cert.Kernel4Ideal.ProjB.value x g w gq gk gm R n
  unfold Cert.Kernel4Ideal.ProjB.value
  rw [← products_eq x g w R]

/-- and so is the second. -/
theorem side_eq (x : FVec Ideal S4x4096x2048 .f32) (g : FVec Ideal S2x2048 .f32) (w : FVec Ideal S1x2048x4176 .f32) :
    @Eq (FVec Ideal S16384x128 .f32) (sideJoined (product (normalised (shapeCast S16384x2048 x shapeCasts_S4x4096x2048_S16384x2048) g) w)) (Cert.Kernel4Ideal.ProjB.sideResult x g w) := by
  refine funext fun (i : S16384x128.Idx) => ?_
  obtain ⟨R, e, rfl⟩ : ∃ (R : Fin 16384) (e : Fin 128), i = ix2 R e := ⟨i 0, i 1, eq_ix2 i⟩
  rw [sideJoined_apply, products_eq x g w R]
  rfl

/-- The reference run's second array, with the arguments named. -/
theorem side_term (m : (ℓ : Loc nD τ sig) → Buf (Elt Ideal) ℓ) (c : Dev nD)
    (x : FVec Ideal S4x4096x2048 .f32) (g : FVec Ideal S2x2048 .f32) (w : FVec Ideal S1x2048x4176 .f32)
    (hx : m ((c.tc : Thread nD τ).loc main_arg0) = x) (hg : m ((c.tc : Thread nD τ).loc main_arg1) = g) (hw : m ((c.tc : Thread nD τ).loc main_arg2) = w) :
    @Eq (FVec Ideal S16384x128 .f32) (sideJoined (product (normalised (shapeCast S16384x2048 (m ((c.tc : Thread nD τ).loc main_arg0) : FVec Ideal S4x4096x2048 .f32) shapeCasts_S4x4096x2048_S16384x2048)
      (m ((c.tc : Thread nD τ).loc main_arg1))) (m ((c.tc : Thread nD τ).loc main_arg2)))) (Cert.Kernel4Ideal.ProjB.sideResult x g w) := by
  rw [hx, hg, hw]
  exact side_eq x g w

end Cert.Reference4Ideal.ProjB

end
-- ==== Proof.lean ====
/- The proof of the certificate's claim: the values of the half-step (Proof/FfnValue.lean), of the input projection
   (Proof/ProjAArray.lean, Proof/ProjARef.lean) and of the output projection (Proof/OutValue.lean, Proof/OutRef.lean) on both
   sides, and the frames. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.FfnValue
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.ProjASame
public import proofs.«01_k».proof.Proof.ProjAIdealFrame
public import proofs.«01_k».proof.Proof.ProjAArray
public import proofs.«01_k».proof.Proof.ProjARef
public import proofs.«01_k».proof.Proof.Gen.Kernel3.Frame
public import proofs.«01_k».proof.Proof.Gen.Kernel3Ideal.Value
public import proofs.«01_k».proof.Proof.Gen.Reference3Ideal.Run
public import proofs.«01_k».proof.Proof.OutValue
public import proofs.«01_k».proof.Proof.OutRef
public import proofs.«01_k».proof.Proof.OutPre
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.ProjBIdealFrame
public import proofs.«01_k».proof.Proof.ProjBSame
public import proofs.«01_k».proof.Proof.ProjBArray
public import proofs.«01_k».proof.Proof.ProjBRef
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were and its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and its reference end with the same array: the half-step of the arguments they agree on. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4⟩ := hagree c
  rw [(h c).1]
  exact (Cert.ReferenceIdeal.Ffn.result_eq m' c _ _ _ _ _ a0 a1 a2 a3 a4).trans
    (Cert.KernelIdeal.Ffn.final_eq m c _ _ _ _ _ rfl rfl rfl rfl rfl).symm

/-- The input projection's reference runs, leaves its arguments as they were and its counters at zero. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection and its reference end with the same array. -/
theorem algebraic_Kernel2Ideal_Reference2Ideal : algebraic_Kernel2Ideal_Reference2Ideal := by
  intro m ρ m' ρ' _ hagree
  refine ⟨_, Cert.Kernel2Ideal.ProjA.run_values m ρ trivial (Cert.Kernel2Ideal.ProjA.hyps m trivial), ?_⟩
  refine (θ_run Cert.Reference2Ideal.defs _ _).mono (fun _ h c => ⟨?_, (h c).2⟩) (Cert.Reference2Ideal.Value.run (F := Ideal) m' ρ')
  obtain ⟨a0, a1, a2, a3, a4, a5⟩ := hagree c
  rw [(h c).1]
  exact (Cert.Reference2Ideal.ProjA.result_eq m' c _ _ _ _ _ _ a0 a1 a2 a3 a4 a5).trans
    (Cert.Kernel2Ideal.ProjA.final_eq m trivial _ c _ _ _ _ _ _ rfl rfl rfl rfl rfl rfl).symm

/-- The output projection's reference runs, leaves its arguments as they were and its counters at zero. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The output projection and its reference end with the same array, the memory queries and keys being finite. -/
theorem algebraic_Kernel3Ideal_Reference3Ideal : algebraic_Kernel3Ideal_Reference3Ideal_pre_finite3 (hPre_finite3 := Cert.Pre_finite3.Out.facts) := by
  intro m ρ m' ρ' hpre hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨a0, a1, a2, a3, a4⟩ := hagree c
  rw [(h c).1]
  haveI := Cert.Pre_finite3.Out.facts
  exact (Cert.Reference3Ideal.Out.result_eq m' c _ _ _ _ _ a0 a1 a2 a3 a4
      (Cert.Pre_finite3.Out.queries_real _ _ _ _ _ (hpre c).1) (Cert.Pre_finite3.Out.keys_real _ _ _ _ _ (hpre c).2)).trans
    (Cert.Kernel3Ideal.Out.final_eq m c _ _ _ _ _ rfl rfl rfl rfl rfl).symm

/-- The second input projection's reference runs, leaves its arguments as they were and its counters at zero. -/
theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The second input projection and its reference end with the same two arrays. -/
theorem algebraic_Kernel4Ideal_Reference4Ideal : algebraic_Kernel4Ideal_Reference4Ideal := by
  intro m ρ m' ρ' _ hagree
  refine ⟨_, _, Cert.Kernel4Ideal.ProjB.run_values m ρ trivial (Cert.Kernel4Ideal.ProjB.hyps m trivial), ?_⟩
  refine (θ_run Cert.Reference4Ideal.defs _ _).mono (fun _ h c => ⟨?_, ?_, (h c).2.2⟩) (Cert.Reference4Ideal.Value.run (F := Ideal) m' ρ')
  · obtain ⟨a0, a1, a2, a3, a4, a5⟩ := hagree c
    rw [(h c).1]
    exact (Cert.Reference4Ideal.ProjB.result_eq m' c _ _ _ _ _ _ a0 a1 a2 a3 a4 a5).trans
      (Cert.Kernel4Ideal.ProjB.final_eq m trivial _ c _ _ _ _ _ _ rfl rfl rfl rfl rfl rfl).symm
  · obtain ⟨a0, a1, a2, a3, a4, a5⟩ := hagree c
    exact (h c).2.1.trans ((Cert.Reference4Ideal.ProjB.side_term m' c _ _ _ a0 a1 a2).trans
      (Cert.Kernel4Ideal.ProjB.side_final_eq m trivial _ c _ _ _ rfl rfl rfl).symm)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite3.Out.facts,
  fun m ρ _ => Cert.Kernel.Gen.frame m ρ, fun m ρ _ => Cert.KernelIdeal.Gen.frame m ρ, quiescent_ReferenceIdeal,
  Cert.Kernel2.ProjSame.frame,
  fun m ρ _ => Cert.Kernel2Ideal.ProjA.frame m ρ trivial (Cert.Kernel2Ideal.ProjA.hyps m trivial), quiescent_Reference2Ideal,
  fun m ρ _ => Cert.Kernel3.Gen.frame m ρ, fun m ρ _ => Cert.Kernel3Ideal.Gen.frame m ρ, fun m ρ _ => Cert.Kernel3Ideal.Gen.frame m ρ,
  quiescent_Reference3Ideal, fun m ρ _ => quiescent_Reference3Ideal m ρ trivial,
  Cert.Kernel4.ProjSame.frame,
  fun m ρ _ => Cert.Kernel4Ideal.ProjB.frame m ρ trivial (Cert.Kernel4Ideal.ProjB.hyps m trivial), quiescent_Reference4Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal⟩

end Cert.Proof

end
